-- ==== Defs.lean ====
def Pre_Kernel [hPre_packed : Cert.Pre_packed.Facts] (m : (ℓ : Loc Cert.Kernel.nD Cert.Kernel.τ Cert.Kernel.sig) → Buf (Elt Bits) ℓ) : Prop :=
  ∀ c : Dev Cert.Kernel.nD,
    (Cert.Pre_packed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_packed_finite [hPre_packed_finite : Cert.Pre_packed_finite.Facts] (m : (ℓ : Loc Cert.KernelIdeal.nD Cert.KernelIdeal.τ Cert.KernelIdeal.sig) → Buf (Elt Ideal) ℓ) : Prop :=
  ∀ c : Dev Cert.KernelIdeal.nD,
    (Cert.Pre_packed_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed_finite [hPre_packed_finite : Cert.Pre_packed_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_packed : Cert.Pre_packed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_packed_finite [hKernelIdeal : Cert.KernelIdeal.Facts] [hPre_packed_finite : Cert.Pre_packed_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_packed_finite [hReferenceIdeal : Cert.ReferenceIdeal.Facts] [hPre_packed_finite : Cert.Pre_packed_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_packed_finite [hKernelIdeal : Cert.KernelIdeal.Facts] [hReferenceIdeal : Cert.ReferenceIdeal.Facts] [hPre_packed_finite : Cert.Pre_packed_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_packed : Cert.Pre_packed.Facts) (hPre_packed_finite : Cert.Pre_packed_finite.Facts),
    quiescent_Kernel (hKernel := hKernel) (hPre_packed := hPre_packed)
    ∧ quiescent_KernelIdeal (hKernelIdeal := hKernelIdeal) (hPre_packed := hPre_packed)
    ∧ quiescent_KernelIdeal_pre_packed_finite (hKernelIdeal := hKernelIdeal) (hPre_packed_finite := hPre_packed_finite)
    ∧ quiescent_ReferenceIdeal (hReferenceIdeal := hReferenceIdeal)
    ∧ quiescent_ReferenceIdeal_pre_packed_finite (hReferenceIdeal := hReferenceIdeal) (hPre_packed_finite := hPre_packed_finite)
    ∧ preserves_Kernel_KernelIdeal
    ∧ algebraic_KernelIdeal_ReferenceIdeal_pre_packed_finite (hKernelIdeal := hKernelIdeal) (hReferenceIdeal := hReferenceIdeal) (hPre_packed_finite := hPre_packed_finite)
-- ==== Pre_packed.lean ====
abbrev S16384x1x32 : Shape := ⟨3, ![16384, 1, 32]⟩
abbrev S16384x1 : Shape := ⟨2, ![16384, 1]⟩
abbrev S17 : Shape := ⟨1, ![17]⟩
abbrev S1x32x32 : Shape := ⟨3, ![1, 32, 32]⟩
abbrev S1x32 : Shape := ⟨2, ![1, 32]⟩
abbrev S16 : Shape := ⟨1, ![16]⟩
abbrev S_ : Shape := ⟨0, ![]⟩
abbrev S1 : Shape := ⟨1, ![1]⟩

class Facts : Prop where
  slices_S17_S16_1 : S17.Slices ![1] S16
  slices_S17_S16_0 : S17.Slices ![0] S16
  bcast_S_S16 : S_.BroadcastsInDim S16 (![] : Fin 0 → Fin S16.rank)
  slices_S17_S1_0 : S17.Slices ![0] S1
  bcast_S_S1 : S_.BroadcastsInDim S1 (![] : Fin 0 → Fin S1.rank)
  bcast_S1_S16_0 : S1.BroadcastsInDim S16 (![0] : Fin 1 → Fin S16.rank)
  slices_S17_S1_16 : S17.Slices ![16] S1

variable [Facts]

def fn_part1 {F : FTy → Type} [FloatOps F] (main_v17 : IVec S16 1) (main_v18 : IVec S1 32) : IVec S16 1 :=
  let main_c_4 : IVec S_ 32 := constantI S_ 32 16384#32
  let main_v19 : IVec S1 32 := broadcastInDim S1 ![] bcast_S_S1 main_c_4
  let main_v20 : IVec S1 1 := cmpi .eq main_v18 main_v19
  let main_v21 : IVec S16 1 := broadcastInDim S16 ![0] bcast_S1_S16_0 main_v20
  let main_v22 : IVec S16 1 := andi main_v17 main_v21
  main_v22

def fn {F : FTy → Type} [FloatOps F] (main_arg0 : FVec F S16384x1x32 .f32) (main_arg1 : IVec S16384x1 32) (main_arg2 : IVec S17 32) (main_arg3 : FVec F S1x32x32 .f32) (main_arg4 : FVec F S1x32 .f32) (main_arg5 : FVec F S1x32 .f32) : IVec S16 1 :=
  let main_v0 : IVec S16 32 := (extractStridedSlice S16 ![1] · slices_S17_S16_1) main_arg2
  let main_v1 : IVec S16 32 := (extractStridedSlice S16 ![0] · slices_S17_S16_0) main_arg2
  let main_v2 : IVec S16 32 := subi main_v0 main_v1
  let main_c : IVec S_ 32 := constantI S_ 32 64#32
  let main_v3 : IVec S16 32 := broadcastInDim S16 ![] bcast_S_S16 main_c
  let main_v4 : IVec S16 1 := cmpi .sge main_v2 main_v3
  let main_c_0 : IVec S_ 32 := constantI S_ 32 2048#32
  let main_v5 : IVec S16 32 := broadcastInDim S16 ![] bcast_S_S16 main_c_0
  let main_v6 : IVec S16 1 := cmpi .sle main_v2 main_v5
  let main_v7 : IVec S16 1 := andi main_v4 main_v6
  let main_c_1 : IVec S_ 32 := constantI S_ 32 63#32
  let main_v8 : IVec S16 32 := broadcastInDim S16 ![] bcast_S_S16 main_c_1
  let main_v9 : IVec S16 32 := andi main_v2 main_v8
  let main_c_2 : IVec S_ 32 := constantI S_ 32 0#32
  let main_v10 : IVec S16 32 := broadcastInDim S16 ![] bcast_S_S16 main_c_2
  let main_v11 : IVec S16 1 := cmpi .eq main_v9 main_v10
  let main_v12 : IVec S16 1 := andi main_v7 main_v11
  let main_v13 : IVec S1 32 := (extractStridedSlice S1 ![0] · slices_S17_S1_0) main_arg2
  let main_c_3 : IVec S_ 32 := constantI S_ 32 0#32
  let main_v14 : IVec S1 32 := broadcastInDim S1 ![] bcast_S_S1 main_c_3
  let main_v15 : IVec S1 1 := cmpi .eq main_v13 main_v14
  let main_v16 : IVec S16 1 := broadcastInDim S16 ![0] bcast_S1_S16_0 main_v15
  let main_v17 : IVec S16 1 := andi main_v12 main_v16
  let main_v18 : IVec S1 32 := (extractStridedSlice S1 ![16] · slices_S17_S1_16) main_arg2
  fn_part1 (F := F) main_v17 main_v18
-- ==== Pre_packed_finite.lean ====
abbrev S16384x1x32 : Shape := ⟨3, ![16384, 1, 32]⟩
abbrev S16384x1 : Shape := ⟨2, ![16384, 1]⟩
abbrev S17 : Shape := ⟨1, ![17]⟩
abbrev S1x32x32 : Shape := ⟨3, ![1, 32, 32]⟩
abbrev S1x32 : Shape := ⟨2, ![1, 32]⟩
abbrev S16 : Shape := ⟨1, ![16]⟩
abbrev S_ : Shape := ⟨0, ![]⟩
abbrev S1 : Shape := ⟨1, ![1]⟩

class Facts : Prop where
  slices_S17_S16_1 : S17.Slices ![1] S16
  slices_S17_S16_0 : S17.Slices ![0] S16
  bcast_S_S16 : S_.BroadcastsInDim S16 (![] : Fin 0 → Fin S16.rank)
  slices_S17_S1_0 : S17.Slices ![0] S1
  bcast_S_S1 : S_.BroadcastsInDim S1 (![] : Fin 0 → Fin S1.rank)
  bcast_S1_S16_0 : S1.BroadcastsInDim S16 (![0] : Fin 1 → Fin S16.rank)
  slices_S17_S1_16 : S17.Slices ![16] S1
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384x1x32 : S_.BroadcastsInDim S16384x1x32 (![] : Fin 0 → Fin S16384x1x32.rank)
  reducesTo_S16384x1x32_S_d0_1_2 : S16384x1x32.ReducesTo [0, 1, 2] S_
  bcast_S_S1x32x32 : S_.BroadcastsInDim S1x32x32 (![] : Fin 0 → Fin S1x32x32.rank)
  reducesTo_S1x32x32_S_d0_1_2 : S1x32x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn_part2 {F : FTy → Type} [FloatOps F] (main_arg3 : FVec F S1x32x32 .f32) (main_arg4 : FVec F S1x32 .f32) (main_arg5 : FVec F S1x32 .f32) (main_v36 : IVec S16 1) : IVec S16 1 :=
  let main_v37 : FVec F S1x32x32 .f32 := Host.absf main_arg3
  let main_cst_9 : FVec F S_ .f32 := constant S_ .f32 0x7F800000#32
  let main_v38 : FVec F S1x32x32 .f32 := broadcastInDim S1x32x32 ![] bcast_S_S1x32x32 main_cst_9
  let main_v39 : IVec S1x32x32 1 := cmpf .olt main_v37 main_v38
  let main_c_10 : IVec S_ 1 := constantI S_ 1 1#1
  let main_v40 : IVec S_ 1 := (fun x v => Host.reduce IntOp.andi x v reducesTo_S1x32x32_S_d0_1_2 h_S_) main_v39 main_c_10
  let main_v41 : IVec S16 1 := broadcastInDim S16 ![] bcast_S_S16 main_v40
  let main_v42 : IVec S16 1 := andi main_v36 main_v41
  let main_v43 : FVec F S1x32 .f32 := Host.absf main_arg4
  let main_cst_11 : FVec F S_ .f32 := constant S_ .f32 0x7F800000#32
  let main_v44 : FVec F S1x32 .f32 := broadcastInDim S1x32 ![] bcast_S_S1x32 main_cst_11
  let main_v45 : IVec S1x32 1 := cmpf .olt main_v43 main_v44
  let main_c_12 : IVec S_ 1 := constantI S_ 1 1#1
  let main_v46 : IVec S_ 1 := (fun x v => Host.reduce IntOp.andi x v reducesTo_S1x32_S_d0_1 h_S_) main_v45 main_c_12
  let main_v47 : IVec S16 1 := broadcastInDim S16 ![] bcast_S_S16 main_v46
  let main_v48 : IVec S16 1 := andi main_v42 main_v47
  let main_v49 : FVec F S1x32 .f32 := Host.absf main_arg5
  let main_cst_13 : FVec F S_ .f32 := constant S_ .f32 0x7F800000#32
  let main_v50 : FVec F S1x32 .f32 := broadcastInDim S1x32 ![] bcast_S_S1x32 main_cst_13
  let main_v51 : IVec S1x32 1 := cmpf .olt main_v49 main_v50
  let main_c_14 : IVec S_ 1 := constantI S_ 1 1#1
  let main_v52 : IVec S_ 1 := (fun x v => Host.reduce IntOp.andi x v reducesTo_S1x32_S_d0_1 h_S_) main_v51 main_c_14
  let main_v53 : IVec S16 1 := broadcastInDim S16 ![] bcast_S_S16 main_v52
  let main_v54 : IVec S16 1 := andi main_v48 main_v53
  main_v54

def fn_part1 {F : FTy → Type} [FloatOps F] (main_arg0 : FVec F S16384x1x32 .f32) (main_arg1 : IVec S16384x1 32) (main_arg3 : FVec F S1x32x32 .f32) (main_arg4 : FVec F S1x32 .f32) (main_arg5 : FVec F S1x32 .f32) (main_v17 : IVec S16 1) (main_v18 : IVec S1 32) : IVec S16 1 :=
  let main_c_4 : IVec S_ 32 := constantI S_ 32 16384#32
  let main_v19 : IVec S1 32 := broadcastInDim S1 ![] bcast_S_S1 main_c_4
  let main_v20 : IVec S1 1 := cmpi .eq main_v18 main_v19
  let main_v21 : IVec S16 1 := broadcastInDim S16 ![0] bcast_S1_S16_0 main_v20
  let main_v22 : IVec S16 1 := andi main_v17 main_v21
  let main_c_5 : IVec S_ 32 := constantI S_ 32 0#32
  let main_v23 : IVec S16384x1 32 := broadcastInDim S16384x1 ![] bcast_S_S16384x1 main_c_5
  let main_v24 : IVec S16384x1 1 := cmpi .sge main_arg1 main_v23
  let main_c_6 : IVec S_ 32 := constantI S_ 32 32#32
  let main_v25 : IVec S16384x1 32 := broadcastInDim S16384x1 ![] bcast_S_S16384x1 main_c_6
  let main_v26 : IVec S16384x1 1 := cmpi .slt main_arg1 main_v25
  let main_v27 : IVec S16384x1 1 := andi main_v24 main_v26
  let main_c_7 : IVec S_ 1 := constantI S_ 1 1#1
  let main_v28 : IVec S_ 1 := (fun x v => Host.reduce IntOp.andi x v reducesTo_S16384x1_S_d0_1 h_S_) main_v27 main_c_7
  let main_v29 : IVec S16 1 := broadcastInDim S16 ![] bcast_S_S16 main_v28
  let main_v30 : IVec S16 1 := andi main_v22 main_v29
  let main_v31 : FVec F S16384x1x32 .f32 := Host.absf main_arg0
  let main_cst : FVec F S_ .f32 := constant S_ .f32 0x7F800000#32
  let main_v32 : FVec F S16384x1x32 .f32 := broadcastInDim S16384x1x32 ![] bcast_S_S16384x1x32 main_cst
  let main_v33 : IVec S16384x1x32 1 := cmpf .olt main_v31 main_v32
  let main_c_8 : IVec S_ 1 := constantI S_ 1 1#1
  let main_v34 : IVec S_ 1 := (fun x v => Host.reduce IntOp.andi x v reducesTo_S16384x1x32_S_d0_1_2 h_S_) main_v33 main_c_8
  let main_v35 : IVec S16 1 := broadcastInDim S16 ![] bcast_S_S16 main_v34
  let main_v36 : IVec S16 1 := andi main_v30 main_v35
  fn_part2 (F := F) main_arg3 main_arg4 main_arg5 main_v36

def fn {F : FTy → Type} [FloatOps F] (main_arg0 : FVec F S16384x1x32 .f32) (main_arg1 : IVec S16384x1 32) (main_arg2 : IVec S17 32) (main_arg3 : FVec F S1x32x32 .f32) (main_arg4 : FVec F S1x32 .f32) (main_arg5 : FVec F S1x32 .f32) : IVec S16 1 :=
  let main_v0 : IVec S16 32 := (extractStridedSlice S16 ![1] · slices_S17_S16_1) main_arg2
  let main_v1 : IVec S16 32 := (extractStridedSlice S16 ![0] · slices_S17_S16_0) main_arg2
  let main_v2 : IVec S16 32 := subi main_v0 main_v1
  let main_c : IVec S_ 32 := constantI S_ 32 64#32
  let main_v3 : IVec S16 32 := broadcastInDim S16 ![] bcast_S_S16 main_c
  let main_v4 : IVec S16 1 := cmpi .sge main_v2 main_v3
  let main_c_0 : IVec S_ 32 := constantI S_ 32 2048#32
  let main_v5 : IVec S16 32 := broadcastInDim S16 ![] bcast_S_S16 main_c_0
  let main_v6 : IVec S16 1 := cmpi .sle main_v2 main_v5
  let main_v7 : IVec S16 1 := andi main_v4 main_v6
  let main_c_1 : IVec S_ 32 := constantI S_ 32 63#32
  let main_v8 : IVec S16 32 := broadcastInDim S16 ![] bcast_S_S16 main_c_1
  let main_v9 : IVec S16 32 := andi main_v2 main_v8
  let main_c_2 : IVec S_ 32 := constantI S_ 32 0#32
  let main_v10 : IVec S16 32 := broadcastInDim S16 ![] bcast_S_S16 main_c_2
  let main_v11 : IVec S16 1 := cmpi .eq main_v9 main_v10
  let main_v12 : IVec S16 1 := andi main_v7 main_v11
  let main_v13 : IVec S1 32 := (extractStridedSlice S1 ![0] · slices_S17_S1_0) main_arg2
  let main_c_3 : IVec S_ 32 := constantI S_ 32 0#32
  let main_v14 : IVec S1 32 := broadcastInDim S1 ![] bcast_S_S1 main_c_3
  let main_v15 : IVec S1 1 := cmpi .eq main_v13 main_v14
  let main_v16 : IVec S16 1 := broadcastInDim S16 ![0] bcast_S1_S16_0 main_v15
  let main_v17 : IVec S16 1 := andi main_v12 main_v16
  let main_v18 : IVec S1 32 := (extractStridedSlice S1 ![16] · slices_S17_S1_16) main_arg2
  fn_part1 (F := F) main_arg0 main_arg1 main_arg3 main_arg4 main_arg5 main_v17 main_v18
-- ==== Kernel.lean ====
abbrev S16384x1x32 : Shape := ⟨3, ![16384, 1, 32]⟩
abbrev S16384x1 : Shape := ⟨2, ![16384, 1]⟩
abbrev S17 : Shape := ⟨1, ![17]⟩
abbrev S1x32x32 : Shape := ⟨3, ![1, 32, 32]⟩
abbrev S1x32 : Shape := ⟨2, ![1, 32]⟩
abbrev S16384x32 : Shape := ⟨2, ![16384, 32]⟩
abbrev S_ : Shape := ⟨0, ![]⟩
abbrev S18432x32 : Shape := ⟨2, ![18432, 32]⟩
abbrev S4608x128 : Shape := ⟨2, ![4608, 128]⟩
abbrev S1x1 : Shape := ⟨2, ![1, 1]⟩
abbrev S16383x1 : Shape := ⟨2, ![16383, 1]⟩
abbrev S18432x1 : Shape := ⟨2, ![18432, 1]⟩
abbrev S4608x4 : Shape := ⟨2, ![4608, 4]⟩
abbrev S4608x4x32 : Shape := ⟨3, ![4608, 4, 32]⟩
abbrev S32x32 : Shape := ⟨2, ![32, 32]⟩
abbrev S4x4 : Shape := ⟨2, ![4, 4]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S32 : Shape := ⟨1, ![32]⟩
abbrev S4x32 : Shape := ⟨2, ![4, 32]⟩
abbrev S128 : Shape := ⟨1, ![128]⟩
abbrev S1x128 : Shape := ⟨2, ![1, 128]⟩
abbrev S16x16 : Shape := ⟨2, ![16, 16]⟩
abbrev S16x1x16x1 : Shape := ⟨4, ![16, 1, 16, 1]⟩
abbrev S16x32x16x32 : Shape := ⟨4, ![16, 32, 16, 32]⟩
abbrev S512x512 : Shape := ⟨2, ![512, 512]⟩
abbrev S32x1 : Shape := ⟨2, ![32, 1]⟩
abbrev S1x32x1x1 : Shape := ⟨4, ![1, 32, 1, 1]⟩
abbrev S16x32x16x1 : Shape := ⟨4, ![16, 32, 16, 1]⟩
abbrev S512x16 : Shape := ⟨2, ![512, 16]⟩
abbrev S16x1 : Shape := ⟨2, ![16, 1]⟩
abbrev S16x1x1x1 : Shape := ⟨4, ![16, 1, 1, 1]⟩
abbrev S16x32x1x32 : Shape := ⟨4, ![16, 32, 1, 32]⟩
abbrev S512x32 : Shape := ⟨2, ![512, 32]⟩
abbrev S16 : Shape := ⟨1, ![16]⟩
abbrev S16x32 : Shape := ⟨2, ![16, 32]⟩
abbrev S512 : Shape := ⟨1, ![512]⟩
abbrev S1x512 : Shape := ⟨2, ![1, 512]⟩
abbrev S1x16 : Shape := ⟨2, ![1, 16]⟩
abbrev S16x128x512 : Shape := ⟨3, ![16, 128, 512]⟩
abbrev S512x128 : Shape := ⟨2, ![512, 128]⟩
abbrev S512x1 : Shape := ⟨2, ![512, 1]⟩
abbrev S1 : Shape := ⟨1, ![1]⟩
abbrev S2048x32 : Shape := ⟨2, ![2048, 32]⟩
abbrev S16x128x32 : Shape := ⟨3, ![16, 128, 32]⟩
abbrev S1x512x128 : Shape := ⟨3, ![1, 512, 128]⟩
abbrev S1x1x1 : Shape := ⟨3, ![1, 1, 1]⟩
abbrev S16x16x512 : Shape := ⟨3, ![16, 16, 512]⟩
abbrev S16x1x512 : Shape := ⟨3, ![16, 1, 512]⟩
abbrev S16x512 : Shape := ⟨2, ![16, 512]⟩
abbrev S32x512 : Shape := ⟨2, ![32, 512]⟩
abbrev S1x1x512 : Shape := ⟨3, ![1, 1, 512]⟩

abbrev nBuf : Space → Nat
  | .hbm => 151
  | .vmem => 18
  | .smem => 1
  | _ => 0

abbrev hbmTy0_0 (i : Nat) : BufTy := match i % 128 with
  | 0 => ⟨S16384x1x32, .f32⟩
  | 1 => ⟨S16384x1, .i32⟩
  | 2 => ⟨S1x32x32, .f32⟩
  | 3 => ⟨S1x32, .f32⟩
  | 4 => ⟨S1x32, .f32⟩
  | 5 => ⟨S16384x32, .f32⟩
  | 6 => ⟨S_, .i32⟩
  | 7 => ⟨S_, .f32⟩
  | 8 => ⟨S18432x32, .f32⟩
  | 9 => ⟨S4608x128, .f32⟩
  | 10 => ⟨S1x1, .i32⟩
  | 11 => ⟨S16383x1, .i32⟩
  | 12 => ⟨S16384x1, .i32⟩
  | 13 => ⟨S_, .i32⟩
  | 14 => ⟨S_, .i32⟩
  | 15 => ⟨S18432x1, .i32⟩
  | 16 => ⟨S_, .i32⟩
  | 17 => ⟨S_, .i32⟩
  | 18 => ⟨S18432x1, .i32⟩
  | 19 => ⟨S4608x4, .i32⟩
  | 20 => ⟨S4608x4x32, .i32⟩
  | 21 => ⟨S4608x128, .i32⟩
  | 22 => ⟨S4608x128, .bf16⟩
  | 23 => ⟨S4608x4, .i32⟩
  | 24 => ⟨S4608x4x32, .i32⟩
  | 25 => ⟨S4608x128, .i32⟩
  | 26 => ⟨S4608x128, .bf16⟩
  | 27 => ⟨S32x32, .f32⟩
  | 28 => ⟨S4x4, .i32⟩
  | 29 => ⟨S4x4, .i32⟩
  | 30 => ⟨S_, .i32⟩
  | 31 => ⟨S4x4, .i32⟩
  | 32 => ⟨S4x4, .i32⟩
  | 33 => ⟨S4x4, .i1⟩
  | 34 => ⟨S4x4, .f32⟩
  | 35 => ⟨S4x1x4x1, .f32⟩
  | 36 => ⟨S1x32x1x32, .f32⟩
  | 37 => ⟨S4x32x4x32, .f32⟩
  | 38 => ⟨S4x32x4x32, .f32⟩
  | 39 => ⟨S4x32x4x32, .f32⟩
  | 40 => ⟨S128x128, .f32⟩
  | 41 => ⟨S128x128, .bf16⟩
  | 42 => ⟨S32, .f32⟩
  | 43 => ⟨S1x32, .f32⟩
  | 44 => ⟨S4x32, .f32⟩
  | 45 => ⟨S128, .f32⟩
  | 46 => ⟨S1x128, .f32⟩
  | 47 => ⟨S32, .f32⟩
  | 48 => ⟨S1x32, .f32⟩
  | 49 => ⟨S4x32, .f32⟩
  | 50 => ⟨S128, .f32⟩
  | 51 => ⟨S1x128, .f32⟩
  | 52 => ⟨S16x16, .i32⟩
  | 53 => ⟨S16x16, .i32⟩
  | 54 => ⟨S_, .i32⟩
  | 55 => ⟨S16x16, .i32⟩
  | 56 => ⟨S16x16, .i32⟩
  | 57 => ⟨S16x16, .i1⟩
  | 58 => ⟨S16x16, .f32⟩
  | 59 => ⟨S32x32, .f32⟩
  | 60 => ⟨S16x1x16x1, .f32⟩
  | 61 => ⟨S1x32x1x32, .f32⟩
  | 62 => ⟨S16x32x16x32, .f32⟩
  | 63 => ⟨S16x32x16x32, .f32⟩
  | 64 => ⟨S16x32x16x32, .f32⟩
  | 65 => ⟨S512x512, .f32⟩
  | 66 => ⟨S512x512, .bf16⟩
  | 67 => ⟨S_, .f32⟩
  | 68 => ⟨S32x32, .f32⟩
  | 69 => ⟨S16x1x16x1, .f32⟩
  | 70 => ⟨S1x32x1x32, .f32⟩
  | 71 => ⟨S16x32x16x32, .f32⟩
  | 72 => ⟨S16x32x16x32, .f32⟩
  | 73 => ⟨S16x32x16x32, .f32⟩
  | 74 => ⟨S512x512, .f32⟩
  | 75 => ⟨S512x512, .bf16⟩
  | 76 => ⟨S16x16, .i32⟩
  | 77 => ⟨S16x16, .i32⟩
  | 78 => ⟨S_, .i32⟩
  | 79 => ⟨S16x16, .i32⟩
  | 80 => ⟨S16x16, .i32⟩
  | 81 => ⟨S16x16, .i1⟩
  | 82 => ⟨S16x16, .f32⟩
  | 83 => ⟨S_, .f32⟩
  | 84 => ⟨S32x32, .f32⟩
  | 85 => ⟨S16x1x16x1, .f32⟩
  | 86 => ⟨S1x32x1x32, .f32⟩
  | 87 => ⟨S16x32x16x32, .f32⟩
  | 88 => ⟨S16x32x16x32, .f32⟩
  | 89 => ⟨S16x32x16x32, .f32⟩
  | 90 => ⟨S512x512, .f32⟩
  | 91 => ⟨S512x512, .bf16⟩
  | 92 => ⟨S16x16, .i32⟩
  | 93 => ⟨S16x16, .i32⟩
  | 94 => ⟨S_, .i32⟩
  | 95 => ⟨S16x16, .i32⟩
  | 96 => ⟨S16x16, .i32⟩
  | 97 => ⟨S16x16, .i1⟩
  | 98 => ⟨S16x16, .f32⟩
  | 99 => ⟨S_, .f32⟩
  | 100 => ⟨S32x1, .f32⟩
  | 101 => ⟨S16x1x16x1, .f32⟩
  | 102 => ⟨S1x32x1x1, .f32⟩
  | 103 => ⟨S16x32x16x1, .f32⟩
  | 104 => ⟨S16x32x16x1, .f32⟩
  | 105 => ⟨S16x32x16x1, .f32⟩
  | 106 => ⟨S512x16, .f32⟩
  | 107 => ⟨S512x16, .bf16⟩
  | 108 => ⟨S_, .f32⟩
  | 109 => ⟨S16x1, .f32⟩
  | 110 => ⟨S32x32, .i32⟩
  | 111 => ⟨S32x32, .i32⟩
  | 112 => ⟨S_, .i32⟩
  | 113 => ⟨S32x32, .i32⟩
  | 114 => ⟨S32x32, .i32⟩
  | 115 => ⟨S32x32, .i1⟩
  | 116 => ⟨S32x32, .f32⟩
  | 117 => ⟨S16x1x1x1, .f32⟩
  | 118 => ⟨S1x32x1x32, .f32⟩
  | 119 => ⟨S16x32x1x32, .f32⟩
  | 120 => ⟨S16x32x1x32, .f32⟩
  | 121 => ⟨S16x32x1x32, .f32⟩
  | 122 => ⟨S512x32, .f32⟩
  | 123 => ⟨S512x32, .bf16⟩
  | 124 => ⟨S512x16, .i32⟩
  | 125 => ⟨S512x16, .i32⟩
  | 126 => ⟨S_, .i32⟩
  | 127 => ⟨S512x16, .i32⟩
  | _ => ⟨S16384x1x32, .f32⟩

abbrev hbmTy0_1 (i : Nat) : BufTy := match i % 128 with
  | 0 => ⟨S512x16, .i32⟩
  | 1 => ⟨S512x16, .i1⟩
  | 2 => ⟨S512x16, .f32⟩
  | 3 => ⟨S16, .i32⟩
  | 4 => ⟨S16, .i32⟩
  | 5 => ⟨S16, .i32⟩
  | 6 => ⟨S16x32, .i32⟩
  | 7 => ⟨S512, .i32⟩
  | 8 => ⟨S1x512, .i32⟩
  | 9 => ⟨S32, .f32⟩
  | 10 => ⟨S32, .f32⟩
  | 11 => ⟨S1x32, .f32⟩
  | 12 => ⟨S16x32, .f32⟩
  | 13 => ⟨S512, .f32⟩
  | 14 => ⟨S1x512, .f32⟩
  | 15 => ⟨S32, .f32⟩
  | 16 => ⟨S32, .f32⟩
  | 17 => ⟨S1x32, .f32⟩
  | 18 => ⟨S16x32, .f32⟩
  | 19 => ⟨S512, .f32⟩
  | 20 => ⟨S1x512, .f32⟩
  | 21 => ⟨S1x16, .f32⟩
  | 22 => ⟨S16x1, .f32⟩
  | _ => ⟨S16384x1x32, .f32⟩

abbrev hbmTy (i : Nat) : BufTy := match i / 128 with
  | 0 => hbmTy0_0 i
  | 1 => hbmTy0_1 i
  | _ => ⟨S16384x1x32, .f32⟩

abbrev bufTy : (tb : Table) → Fin (tcTables nBuf tb) → BufTy
  | .hbm, ⟨i, _⟩ => hbmTy i
  | .local _ .vmem, ⟨0, _⟩ => ⟨S18432x32, .f32⟩
  | .local _ .vmem, ⟨1, _⟩ => ⟨S4608x128, .f32⟩
  | .local _ .vmem, ⟨2, _⟩ => ⟨S4608x128, .bf16⟩
  | .local _ .vmem, ⟨3, _⟩ => ⟨S4608x128, .bf16⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x16, .bf16⟩
  | .local _ .vmem, ⟨11, _⟩ => ⟨S512x32, .bf16⟩
  | .local _ .vmem, ⟨12, _⟩ => ⟨S512x16, .f32⟩
  | .local _ .vmem, ⟨13, _⟩ => ⟨S1x512, .i32⟩
  | .local _ .vmem, ⟨14, _⟩ => ⟨S1x512, .f32⟩
  | .local _ .vmem, ⟨15, _⟩ => ⟨S1x512, .f32⟩
  | .local _ .vmem, ⟨16, _⟩ => ⟨S1x16, .f32⟩
  | .local _ .vmem, ⟨17, _⟩ => ⟨S16x128x512, .bf16⟩
  | .local _ .smem, ⟨0, _⟩ => ⟨S17, .i32⟩
  | _, _ => ⟨S16384x1x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_call0_v0 : Ref sig .tc := ⟨.hbm, 5, rfl⟩
abbrev main_call0_c : Ref sig .tc := ⟨.hbm, 6, rfl⟩
abbrev main_call0_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_0 : Ref sig .tc := ⟨.hbm, 13, rfl⟩
abbrev main_call0_call1_v0 : Ref sig .tc := ⟨.hbm, 14, rfl⟩
abbrev main_call0_v6 : Ref sig .tc := ⟨.hbm, 15, rfl⟩
abbrev main_call0_c_1 : Ref sig .tc := ⟨.hbm, 16, rfl⟩
abbrev main_call0_call2_v0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_v18 : Ref sig .tc := ⟨.hbm, 29, rfl⟩
abbrev main_call0_c_2 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_call3_v0 : Ref sig .tc := ⟨.hbm, 35, rfl⟩
abbrev main_call0_call3_v1 : Ref sig .tc := ⟨.hbm, 36, rfl⟩
abbrev main_call0_call3_v2 : Ref sig .tc := ⟨.hbm, 37, rfl⟩
abbrev main_call0_call3_v3 : Ref sig .tc := ⟨.hbm, 38, rfl⟩
abbrev main_call0_call3_v4 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_c_3 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_call4_v0 : Ref sig .tc := ⟨.hbm, 60, rfl⟩
abbrev main_call0_call4_v1 : Ref sig .tc := ⟨.hbm, 61, rfl⟩
abbrev main_call0_call4_v2 : Ref sig .tc := ⟨.hbm, 62, rfl⟩
abbrev main_call0_call4_v3 : Ref sig .tc := ⟨.hbm, 63, rfl⟩
abbrev main_call0_call4_v4 : Ref sig .tc := ⟨.hbm, 64, rfl⟩
abbrev main_call0_v42 : Ref sig .tc := ⟨.hbm, 65, rfl⟩
abbrev main_call0_v43 : Ref sig .tc := ⟨.hbm, 66, rfl⟩
abbrev main_call0_cst : Ref sig .tc := ⟨.hbm, 67, rfl⟩
abbrev main_call0_v44 : Ref sig .tc := ⟨.hbm, 68, rfl⟩
abbrev main_call0_call5_v0 : Ref sig .tc := ⟨.hbm, 69, rfl⟩
abbrev main_call0_call5_v1 : Ref sig .tc := ⟨.hbm, 70, rfl⟩
abbrev main_call0_call5_v2 : Ref sig .tc := ⟨.hbm, 71, rfl⟩
abbrev main_call0_call5_v3 : Ref sig .tc := ⟨.hbm, 72, rfl⟩
abbrev main_call0_call5_v4 : Ref sig .tc := ⟨.hbm, 73, rfl⟩
abbrev main_call0_v45 : Ref sig .tc := ⟨.hbm, 74, rfl⟩
abbrev main_call0_v46 : Ref sig .tc := ⟨.hbm, 75, rfl⟩
abbrev main_call0_v47 : Ref sig .tc := ⟨.hbm, 76, rfl⟩
abbrev main_call0_v48 : Ref sig .tc := ⟨.hbm, 77, rfl⟩
abbrev main_call0_c_4 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_cst_5 : Ref sig .tc := ⟨.hbm, 83, rfl⟩
abbrev main_call0_v53 : Ref sig .tc := ⟨.hbm, 84, rfl⟩
abbrev main_call0_call6_v0 : Ref sig .tc := ⟨.hbm, 85, rfl⟩
abbrev main_call0_call6_v1 : Ref sig .tc := ⟨.hbm, 86, rfl⟩
abbrev main_call0_call6_v2 : Ref sig .tc := ⟨.hbm, 87, rfl⟩
abbrev main_call0_call6_v3 : Ref sig .tc := ⟨.hbm, 88, rfl⟩
abbrev main_call0_call6_v4 : Ref sig .tc := ⟨.hbm, 89, rfl⟩
abbrev main_call0_v54 : Ref sig .tc := ⟨.hbm, 90, rfl⟩
abbrev main_call0_v55 : Ref sig .tc := ⟨.hbm, 91, rfl⟩
abbrev main_call0_v56 : Ref sig .tc := ⟨.hbm, 92, rfl⟩
abbrev main_call0_v57 : Ref sig .tc := ⟨.hbm, 93, rfl⟩
abbrev main_call0_c_6 : Ref sig .tc := ⟨.hbm, 94, rfl⟩
abbrev main_call0_v58 : Ref sig .tc := ⟨.hbm, 95, rfl⟩
abbrev main_call0_v59 : Ref sig .tc := ⟨.hbm, 96, rfl⟩
abbrev main_call0_v60 : Ref sig .tc := ⟨.hbm, 97, rfl⟩
abbrev main_call0_v61 : Ref sig .tc := ⟨.hbm, 98, rfl⟩
abbrev main_call0_cst_7 : Ref sig .tc := ⟨.hbm, 99, rfl⟩
abbrev main_call0_v62 : Ref sig .tc := ⟨.hbm, 100, rfl⟩
abbrev main_call0_call7_v0 : Ref sig .tc := ⟨.hbm, 101, rfl⟩
abbrev main_call0_call7_v1 : Ref sig .tc := ⟨.hbm, 102, rfl⟩
abbrev main_call0_call7_v2 : Ref sig .tc := ⟨.hbm, 103, rfl⟩
abbrev main_call0_call7_v3 : Ref sig .tc := ⟨.hbm, 104, rfl⟩
abbrev main_call0_call7_v4 : Ref sig .tc := ⟨.hbm, 105, rfl⟩
abbrev main_call0_v63 : Ref sig .tc := ⟨.hbm, 106, rfl⟩
abbrev main_call0_v64 : Ref sig .tc := ⟨.hbm, 107, rfl⟩
abbrev main_call0_cst_8 : Ref sig .tc := ⟨.hbm, 108, rfl⟩
abbrev main_call0_v65 : Ref sig .tc := ⟨.hbm, 109, rfl⟩
abbrev main_call0_v66 : Ref sig .tc := ⟨.hbm, 110, rfl⟩
abbrev main_call0_v67 : Ref sig .tc := ⟨.hbm, 111, rfl⟩
abbrev main_call0_c_9 : Ref sig .tc := ⟨.hbm, 112, rfl⟩
abbrev main_call0_v68 : Ref sig .tc := ⟨.hbm, 113, rfl⟩
abbrev main_call0_v69 : Ref sig .tc := ⟨.hbm, 114, rfl⟩
abbrev main_call0_v70 : Ref sig .tc := ⟨.hbm, 115, rfl⟩
abbrev main_call0_v71 : Ref sig .tc := ⟨.hbm, 116, rfl⟩
abbrev main_call0_call8_v0 : Ref sig .tc := ⟨.hbm, 117, rfl⟩
abbrev main_call0_call8_v1 : Ref sig .tc := ⟨.hbm, 118, rfl⟩
abbrev main_call0_call8_v2 : Ref sig .tc := ⟨.hbm, 119, rfl⟩
abbrev main_call0_call8_v3 : Ref sig .tc := ⟨.hbm, 120, rfl⟩
abbrev main_call0_call8_v4 : Ref sig .tc := ⟨.hbm, 121, rfl⟩
abbrev main_call0_v72 : Ref sig .tc := ⟨.hbm, 122, rfl⟩
abbrev main_call0_v73 : Ref sig .tc := ⟨.hbm, 123, rfl⟩
abbrev main_call0_v74 : Ref sig .tc := ⟨.hbm, 124, rfl⟩
abbrev main_call0_v75 : Ref sig .tc := ⟨.hbm, 125, rfl⟩
abbrev main_call0_c_10 : Ref sig .tc := ⟨.hbm, 126, rfl⟩
abbrev main_call0_v76 : Ref sig .tc := ⟨.hbm, 127, rfl⟩
abbrev main_call0_v77 : Ref sig .tc := ⟨.hbm, 128, rfl⟩
abbrev main_call0_v78 : Ref sig .tc := ⟨.hbm, 129, rfl⟩
abbrev main_call0_v79 : Ref sig .tc := ⟨.hbm, 130, rfl⟩
abbrev main_call0_v80 : Ref sig .tc := ⟨.hbm, 131, rfl⟩
abbrev main_call0_v81 : Ref sig .tc := ⟨.hbm, 132, rfl⟩
abbrev main_call0_v82 : Ref sig .tc := ⟨.hbm, 133, rfl⟩
abbrev main_call0_v83 : Ref sig .tc := ⟨.hbm, 134, rfl⟩
abbrev main_call0_v84 : Ref sig .tc := ⟨.hbm, 135, rfl⟩
abbrev main_call0_v85 : Ref sig .tc := ⟨.hbm, 136, rfl⟩
abbrev main_call0_v86 : Ref sig .tc := ⟨.hbm, 137, rfl⟩
abbrev main_call0_v87 : Ref sig .tc := ⟨.hbm, 138, rfl⟩
abbrev main_call0_v88 : Ref sig .tc := ⟨.hbm, 139, rfl⟩
abbrev main_call0_v89 : Ref sig .tc := ⟨.hbm, 140, rfl⟩
abbrev main_call0_v90 : Ref sig .tc := ⟨.hbm, 141, rfl⟩
abbrev main_call0_v91 : Ref sig .tc := ⟨.hbm, 142, rfl⟩
abbrev main_call0_v92 : Ref sig .tc := ⟨.hbm, 143, rfl⟩
abbrev main_call0_v93 : Ref sig .tc := ⟨.hbm, 144, rfl⟩
abbrev main_call0_v94 : Ref sig .tc := ⟨.hbm, 145, rfl⟩
abbrev main_call0_v95 : Ref sig .tc := ⟨.hbm, 146, rfl⟩
abbrev main_call0_v96 : Ref sig .tc := ⟨.hbm, 147, rfl⟩
abbrev main_call0_v97 : Ref sig .tc := ⟨.hbm, 148, rfl⟩
abbrev main_call0_v98 : Ref sig .tc := ⟨.hbm, 149, rfl⟩
abbrev main_v0 : Ref sig .tc := ⟨.hbm, 150, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_mult1 (v53 : BitVec 32) : BitVec 32 :=
  v53

def k0_off1 (v53 : BitVec 32) : Fin 2 → Nat :=
  let v57 : BitVec 32 := v53
  let v58 : Index := Scalar.indexCast v57
  let c0_11 : Index := 0#32
  ![v58.toNat, 0]
def k0_mult2 (v53 : BitVec 32) : BitVec 32 :=
  let c0_i32_16 : BitVec 32 := 0#32
  let v68 : BitVec 1 := Scalar.cmpi .sgt v53 c0_i32_16
  let v69 : BitVec 32 := Scalar.extui v68
  let c0_i32_17 : BitVec 32 := 0#32
  let v70 : BitVec 1 := Scalar.cmpi .slt v53 c0_i32_17
  let v71 : BitVec 32 := Scalar.extui v70
  let v72 : BitVec 32 := Scalar.subi v69 v71
  let c4_i32_15 : BitVec 32 := 4#32
  let c0_i32_18 : BitVec 32 := 0#32
  let v73 : BitVec 1 := Scalar.cmpi .sgt c4_i32_15 c0_i32_18
  let v74 : BitVec 32 := Scalar.extui v73
  let c0_i32_19 : BitVec 32 := 0#32
  let v75 : BitVec 1 := Scalar.cmpi .slt c4_i32_15 c0_i32_19
  let v76 : BitVec 32 := Scalar.extui v75
  let v77 : BitVec 32 := Scalar.subi v74 v76
  let v78 : BitVec 1 := Scalar.cmpi .ne v72 v77
  let v79 : BitVec 32 := Scalar.remsi v53 c4_i32_15
  let c0_i32_20 : BitVec 32 := 0#32
  let v80 : BitVec 1 := Scalar.cmpi .ne v79 c0_i32_20
  let v81 : BitVec 1 := Scalar.andi v78 v80
  let v67 : BitVec 32 := Scalar.divsi v53 c4_i32_15
  let c1_i32_21 : BitVec 32 := 1#32
  let v82 : BitVec 32 := Scalar.subi v67 c1_i32_21
  let v83 : BitVec 32 := Scalar.select v81 v82 v67
  v83
def k0_off2 (v53 : BitVec 32) : Fin 2 → Nat :=
  let c0_i32_16 : BitVec 32 := 0#32
  let v68 : BitVec 1 := Scalar.cmpi .sgt v53 c0_i32_16
  let v69 : BitVec 32 := Scalar.extui v68
  let c0_i32_17 : BitVec 32 := 0#32
  let v70 : BitVec 1 := Scalar.cmpi .slt v53 c0_i32_17
  let v71 : BitVec 32 := Scalar.extui v70
  let v72 : BitVec 32 := Scalar.subi v69 v71
  let c4_i32_15 : BitVec 32 := 4#32
  let c0_i32_18 : BitVec 32 := 0#32
  let v73 : BitVec 1 := Scalar.cmpi .sgt c4_i32_15 c0_i32_18
  let v74 : BitVec 32 := Scalar.extui v73
  let c0_i32_19 : BitVec 32 := 0#32
  let v75 : BitVec 1 := Scalar.cmpi .slt c4_i32_15 c0_i32_19
  let v76 : BitVec 32 := Scalar.extui v75
  let v77 : BitVec 32 := Scalar.subi v74 v76
  let v78 : BitVec 1 := Scalar.cmpi .ne v72 v77
  let v79 : BitVec 32 := Scalar.remsi v53 c4_i32_15
  let c0_i32_20 : BitVec 32 := 0#32
  let v80 : BitVec 1 := Scalar.cmpi .ne v79 c0_i32_20
  let v81 : BitVec 1 := Scalar.andi v78 v80
  let v67 : BitVec 32 := Scalar.divsi v53 c4_i32_15
  let c1_i32_21 : BitVec 32 := 1#32
  let v82 : BitVec 32 := Scalar.subi v67 c1_i32_21
  let v83 : BitVec 32 := Scalar.select v81 v82 v67
  let v84 : BitVec 32 := v83
  let v85 : Index := Scalar.indexCast v84
  let c0_22 : Index := 0#32
  ![v85.toNat, 0]

def k0_chk1 (v53 : BitVec 32) : Prop :=
  (8 ∣ (k0_mult1 v53).toNat) ∧
  (∀ a, (k0_off1 v53) a + S2048x32.size a ≤ S18432x32.size a) ∧
  (8 ∣ (k0_mult2 v53).toNat) ∧
  (∀ a, (k0_off2 v53) a + S512x128.size a ≤ S4608x128.size a)
theorem k0_mult1_dvd : ∀ (v53 : BitVec 32) (k0_hw1 : k0_chk1 v53), 8 ∣ (k0_mult1 v53).toNat := fun v53 k0_hw1 => k0_hw1.1
theorem k0_off1_inb : ∀ (v53 : BitVec 32) (k0_hw1 : k0_chk1 v53), ∀ a, (k0_off1 v53) a + S2048x32.size a ≤ S18432x32.size a := fun v53 k0_hw1 => k0_hw1.2.1
theorem k0_mult2_dvd : ∀ (v53 : BitVec 32) (k0_hw1 : k0_chk1 v53), 8 ∣ (k0_mult2 v53).toNat := fun v53 k0_hw1 => k0_hw1.2.2.1
theorem k0_off2_inb : ∀ (v53 : BitVec 32) (k0_hw1 : k0_chk1 v53), ∀ a, (k0_off2 v53) a + S512x128.size a ≤ S4608x128.size a := fun v53 k0_hw1 => k0_hw1.2.2.2

def k0_mult3 (v135 : BitVec 32) : BitVec 32 :=
  v135

def k0_off3 (v135 : BitVec 32) : Fin 2 → Nat :=
  let v139 : BitVec 32 := v135
  let v140 : Index := Scalar.indexCast v139
  let c0_39 : Index := 0#32
  ![v140.toNat, 0]
def k0_mult4 (v135 : BitVec 32) : BitVec 32 :=
  let c0_i32_43 : BitVec 32 := 0#32
  let v150 : BitVec 1 := Scalar.cmpi .sgt v135 c0_i32_43
  let v151 : BitVec 32 := Scalar.extui v150
  let c0_i32_44 : BitVec 32 := 0#32
  let v152 : BitVec 1 := Scalar.cmpi .slt v135 c0_i32_44
  let v153 : BitVec 32 := Scalar.extui v152
  let v154 : BitVec 32 := Scalar.subi v151 v153
  let c4_i32_42 : BitVec 32 := 4#32
  let c0_i32_45 : BitVec 32 := 0#32
  let v155 : BitVec 1 := Scalar.cmpi .sgt c4_i32_42 c0_i32_45
  let v156 : BitVec 32 := Scalar.extui v155
  let c0_i32_46 : BitVec 32 := 0#32
  let v157 : BitVec 1 := Scalar.cmpi .slt c4_i32_42 c0_i32_46
  let v158 : BitVec 32 := Scalar.extui v157
  let v159 : BitVec 32 := Scalar.subi v156 v158
  let v160 : BitVec 1 := Scalar.cmpi .ne v154 v159
  let v161 : BitVec 32 := Scalar.remsi v135 c4_i32_42
  let c0_i32_47 : BitVec 32 := 0#32
  let v162 : BitVec 1 := Scalar.cmpi .ne v161 c0_i32_47
  let v163 : BitVec 1 := Scalar.andi v160 v162
  let v149 : BitVec 32 := Scalar.divsi v135 c4_i32_42
  let c1_i32_48 : BitVec 32 := 1#32
  let v164 : BitVec 32 := Scalar.subi v149 c1_i32_48
  let v165 : BitVec 32 := Scalar.select v163 v164 v149
  v165
def k0_off4 (v135 : BitVec 32) : Fin 2 → Nat :=
  let c0_i32_43 : BitVec 32 := 0#32
  let v150 : BitVec 1 := Scalar.cmpi .sgt v135 c0_i32_43
  let v151 : BitVec 32 := Scalar.extui v150
  let c0_i32_44 : BitVec 32 := 0#32
  let v152 : BitVec 1 := Scalar.cmpi .slt v135 c0_i32_44
  let v153 : BitVec 32 := Scalar.extui v152
  let v154 : BitVec 32 := Scalar.subi v151 v153
  let c4_i32_42 : BitVec 32 := 4#32
  let c0_i32_45 : BitVec 32 := 0#32
  let v155 : BitVec 1 := Scalar.cmpi .sgt c4_i32_42 c0_i32_45
  let v156 : BitVec 32 := Scalar.extui v155
  let c0_i32_46 : BitVec 32 := 0#32
  let v157 : BitVec 1 := Scalar.cmpi .slt c4_i32_42 c0_i32_46
  let v158 : BitVec 32 := Scalar.extui v157
  let v159 : BitVec 32 := Scalar.subi v156 v158
  let v160 : BitVec 1 := Scalar.cmpi .ne v154 v159
  let v161 : BitVec 32 := Scalar.remsi v135 c4_i32_42
  let c0_i32_47 : BitVec 32 := 0#32
  let v162 : BitVec 1 := Scalar.cmpi .ne v161 c0_i32_47
  let v163 : BitVec 1 := Scalar.andi v160 v162
  let v149 : BitVec 32 := Scalar.divsi v135 c4_i32_42
  let c1_i32_48 : BitVec 32 := 1#32
  let v164 : BitVec 32 := Scalar.subi v149 c1_i32_48
  let v165 : BitVec 32 := Scalar.select v163 v164 v149
  let v166 : BitVec 32 := v165
  let v167 : Index := Scalar.indexCast v166
  let c0_49 : Index := 0#32
  ![v167.toNat, 0]

def k0_chk2 (v135 : BitVec 32) : Prop :=
  (8 ∣ (k0_mult3 v135).toNat) ∧
  (∀ a, (k0_off3 v135) a + S2048x32.size a ≤ S18432x32.size a) ∧
  (8 ∣ (k0_mult4 v135).toNat) ∧
  (∀ a, (k0_off4 v135) a + S512x128.size a ≤ S4608x128.size a)
theorem k0_mult3_dvd : ∀ (v135 : BitVec 32) (k0_hw2 : k0_chk2 v135), 8 ∣ (k0_mult3 v135).toNat := fun v135 k0_hw2 => k0_hw2.1
theorem k0_off3_inb : ∀ (v135 : BitVec 32) (k0_hw2 : k0_chk2 v135), ∀ a, (k0_off3 v135) a + S2048x32.size a ≤ S18432x32.size a := fun v135 k0_hw2 => k0_hw2.2.1
theorem k0_mult4_dvd : ∀ (v135 : BitVec 32) (k0_hw2 : k0_chk2 v135), 8 ∣ (k0_mult4 v135).toNat := fun v135 k0_hw2 => k0_hw2.2.2.1
theorem k0_off4_inb : ∀ (v135 : BitVec 32) (k0_hw2 : k0_chk2 v135), ∀ a, (k0_off4 v135) a + S512x128.size a ≤ S4608x128.size a := fun v135 k0_hw2 => k0_hw2.2.2.2

def k0_mult5 (v217 : BitVec 32) : BitVec 32 :=
  v217

def k0_off5 (v217 : BitVec 32) : Fin 2 → Nat :=
  let v221 : BitVec 32 := v217
  let v222 : Index := Scalar.indexCast v221
  let c0_66 : Index := 0#32
  ![v222.toNat, 0]
def k0_mult6 (v217 : BitVec 32) : BitVec 32 :=
  let c0_i32_70 : BitVec 32 := 0#32
  let v232 : BitVec 1 := Scalar.cmpi .sgt v217 c0_i32_70
  let v233 : BitVec 32 := Scalar.extui v232
  let c0_i32_71 : BitVec 32 := 0#32
  let v234 : BitVec 1 := Scalar.cmpi .slt v217 c0_i32_71
  let v235 : BitVec 32 := Scalar.extui v234
  let v236 : BitVec 32 := Scalar.subi v233 v235
  let c4_i32_69 : BitVec 32 := 4#32
  let c0_i32_72 : BitVec 32 := 0#32
  let v237 : BitVec 1 := Scalar.cmpi .sgt c4_i32_69 c0_i32_72
  let v238 : BitVec 32 := Scalar.extui v237
  let c0_i32_73 : BitVec 32 := 0#32
  let v239 : BitVec 1 := Scalar.cmpi .slt c4_i32_69 c0_i32_73
  let v240 : BitVec 32 := Scalar.extui v239
  let v241 : BitVec 32 := Scalar.subi v238 v240
  let v242 : BitVec 1 := Scalar.cmpi .ne v236 v241
  let v243 : BitVec 32 := Scalar.remsi v217 c4_i32_69
  let c0_i32_74 : BitVec 32 := 0#32
  let v244 : BitVec 1 := Scalar.cmpi .ne v243 c0_i32_74
  let v245 : BitVec 1 := Scalar.andi v242 v244
  let v231 : BitVec 32 := Scalar.divsi v217 c4_i32_69
  let c1_i32_75 : BitVec 32 := 1#32
  let v246 : BitVec 32 := Scalar.subi v231 c1_i32_75
  let v247 : BitVec 32 := Scalar.select v245 v246 v231
  v247
def k0_off6 (v217 : BitVec 32) : Fin 2 → Nat :=
  let c0_i32_70 : BitVec 32 := 0#32
  let v232 : BitVec 1 := Scalar.cmpi .sgt v217 c0_i32_70
  let v233 : BitVec 32 := Scalar.extui v232
  let c0_i32_71 : BitVec 32 := 0#32
  let v234 : BitVec 1 := Scalar.cmpi .slt v217 c0_i32_71
  let v235 : BitVec 32 := Scalar.extui v234
  let v236 : BitVec 32 := Scalar.subi v233 v235
  let c4_i32_69 : BitVec 32 := 4#32
  let c0_i32_72 : BitVec 32 := 0#32
  let v237 : BitVec 1 := Scalar.cmpi .sgt c4_i32_69 c0_i32_72
  let v238 : BitVec 32 := Scalar.extui v237
  let c0_i32_73 : BitVec 32 := 0#32
  let v239 : BitVec 1 := Scalar.cmpi .slt c4_i32_69 c0_i32_73
  let v240 : BitVec 32 := Scalar.extui v239
  let v241 : BitVec 32 := Scalar.subi v238 v240
  let v242 : BitVec 1 := Scalar.cmpi .ne v236 v241
  let v243 : BitVec 32 := Scalar.remsi v217 c4_i32_69
  let c0_i32_74 : BitVec 32 := 0#32
  let v244 : BitVec 1 := Scalar.cmpi .ne v243 c0_i32_74
  let v245 : BitVec 1 := Scalar.andi v242 v244
  let v231 : BitVec 32 := Scalar.divsi v217 c4_i32_69
  let c1_i32_75 : BitVec 32 := 1#32
  let v246 : BitVec 32 := Scalar.subi v231 c1_i32_75
  let v247 : BitVec 32 := Scalar.select v245 v246 v231
  let v248 : BitVec 32 := v247
  let v249 : Index := Scalar.indexCast v248
  let c0_76 : Index := 0#32
  ![v249.toNat, 0]

def k0_chk3 (v217 : BitVec 32) : Prop :=
  (8 ∣ (k0_mult5 v217).toNat) ∧
  (∀ a, (k0_off5 v217) a + S2048x32.size a ≤ S18432x32.size a) ∧
  (8 ∣ (k0_mult6 v217).toNat) ∧
  (∀ a, (k0_off6 v217) a + S512x128.size a ≤ S4608x128.size a)
theorem k0_mult5_dvd : ∀ (v217 : BitVec 32) (k0_hw3 : k0_chk3 v217), 8 ∣ (k0_mult5 v217).toNat := fun v217 k0_hw3 => k0_hw3.1
theorem k0_off5_inb : ∀ (v217 : BitVec 32) (k0_hw3 : k0_chk3 v217), ∀ a, (k0_off5 v217) a + S2048x32.size a ≤ S18432x32.size a := fun v217 k0_hw3 => k0_hw3.2.1
theorem k0_mult6_dvd : ∀ (v217 : BitVec 32) (k0_hw3 : k0_chk3 v217), 8 ∣ (k0_mult6 v217).toNat := fun v217 k0_hw3 => k0_hw3.2.2.1
theorem k0_off6_inb : ∀ (v217 : BitVec 32) (k0_hw3 : k0_chk3 v217), ∀ a, (k0_off6 v217) a + S512x128.size a ≤ S4608x128.size a := fun v217 k0_hw3 => k0_hw3.2.2.2

def k0_mult7 (v299 : BitVec 32) : BitVec 32 :=
  v299

def k0_off7 (v299 : BitVec 32) : Fin 2 → Nat :=
  let v303 : BitVec 32 := v299
  let v304 : Index := Scalar.indexCast v303
  let c0_92 : Index := 0#32
  ![v304.toNat, 0]
def k0_mult8 (v299 : BitVec 32) : BitVec 32 :=
  let c0_i32_96 : BitVec 32 := 0#32
  let v314 : BitVec 1 := Scalar.cmpi .sgt v299 c0_i32_96
  let v315 : BitVec 32 := Scalar.extui v314
  let c0_i32_97 : BitVec 32 := 0#32
  let v316 : BitVec 1 := Scalar.cmpi .slt v299 c0_i32_97
  let v317 : BitVec 32 := Scalar.extui v316
  let v318 : BitVec 32 := Scalar.subi v315 v317
  let c4_i32_95 : BitVec 32 := 4#32
  let c0_i32_98 : BitVec 32 := 0#32
  let v319 : BitVec 1 := Scalar.cmpi .sgt c4_i32_95 c0_i32_98
  let v320 : BitVec 32 := Scalar.extui v319
  let c0_i32_99 : BitVec 32 := 0#32
  let v321 : BitVec 1 := Scalar.cmpi .slt c4_i32_95 c0_i32_99
  let v322 : BitVec 32 := Scalar.extui v321
  let v323 : BitVec 32 := Scalar.subi v320 v322
  let v324 : BitVec 1 := Scalar.cmpi .ne v318 v323
  let v325 : BitVec 32 := Scalar.remsi v299 c4_i32_95
  let c0_i32_100 : BitVec 32 := 0#32
  let v326 : BitVec 1 := Scalar.cmpi .ne v325 c0_i32_100
  let v327 : BitVec 1 := Scalar.andi v324 v326
  let v313 : BitVec 32 := Scalar.divsi v299 c4_i32_95
  let c1_i32_101 : BitVec 32 := 1#32
  let v328 : BitVec 32 := Scalar.subi v313 c1_i32_101
  let v329 : BitVec 32 := Scalar.select v327 v328 v313
  v329
def k0_off8 (v299 : BitVec 32) : Fin 2 → Nat :=
  let c0_i32_96 : BitVec 32 := 0#32
  let v314 : BitVec 1 := Scalar.cmpi .sgt v299 c0_i32_96
  let v315 : BitVec 32 := Scalar.extui v314
  let c0_i32_97 : BitVec 32 := 0#32
  let v316 : BitVec 1 := Scalar.cmpi .slt v299 c0_i32_97
  let v317 : BitVec 32 := Scalar.extui v316
  let v318 : BitVec 32 := Scalar.subi v315 v317
  let c4_i32_95 : BitVec 32 := 4#32
  let c0_i32_98 : BitVec 32 := 0#32
  let v319 : BitVec 1 := Scalar.cmpi .sgt c4_i32_95 c0_i32_98
  let v320 : BitVec 32 := Scalar.extui v319
  let c0_i32_99 : BitVec 32 := 0#32
  let v321 : BitVec 1 := Scalar.cmpi .slt c4_i32_95 c0_i32_99
  let v322 : BitVec 32 := Scalar.extui v321
  let v323 : BitVec 32 := Scalar.subi v320 v322
  let v324 : BitVec 1 := Scalar.cmpi .ne v318 v323
  let v325 : BitVec 32 := Scalar.remsi v299 c4_i32_95
  let c0_i32_100 : BitVec 32 := 0#32
  let v326 : BitVec 1 := Scalar.cmpi .ne v325 c0_i32_100
  let v327 : BitVec 1 := Scalar.andi v324 v326
  let v313 : BitVec 32 := Scalar.divsi v299 c4_i32_95
  let c1_i32_101 : BitVec 32 := 1#32
  let v328 : BitVec 32 := Scalar.subi v313 c1_i32_101
  let v329 : BitVec 32 := Scalar.select v327 v328 v313
  let v330 : BitVec 32 := v329
  let v331 : Index := Scalar.indexCast v330
  let c0_102 : Index := 0#32
  ![v331.toNat, 0]

def k0_chk4 (v299 : BitVec 32) : Prop :=
  (8 ∣ (k0_mult7 v299).toNat) ∧
  (∀ a, (k0_off7 v299) a + S2048x32.size a ≤ S18432x32.size a) ∧
  (8 ∣ (k0_mult8 v299).toNat) ∧
  (∀ a, (k0_off8 v299) a + S512x128.size a ≤ S4608x128.size a)
theorem k0_mult7_dvd : ∀ (v299 : BitVec 32) (k0_hw4 : k0_chk4 v299), 8 ∣ (k0_mult7 v299).toNat := fun v299 k0_hw4 => k0_hw4.1
theorem k0_off7_inb : ∀ (v299 : BitVec 32) (k0_hw4 : k0_chk4 v299), ∀ a, (k0_off7 v299) a + S2048x32.size a ≤ S18432x32.size a := fun v299 k0_hw4 => k0_hw4.2.1
theorem k0_mult8_dvd : ∀ (v299 : BitVec 32) (k0_hw4 : k0_chk4 v299), 8 ∣ (k0_mult8 v299).toNat := fun v299 k0_hw4 => k0_hw4.2.2.1
theorem k0_off8_inb : ∀ (v299 : BitVec 32) (k0_hw4 : k0_chk4 v299), ∀ a, (k0_off8 v299) a + S512x128.size a ≤ S4608x128.size a := fun v299 k0_hw4 => k0_hw4.2.2.2

def k0_mult9 (v381 : BitVec 32) : BitVec 32 :=
  v381

def k0_off9 (v381 : BitVec 32) : Fin 2 → Nat :=
  let v385 : BitVec 32 := v381
  let v386 : Index := Scalar.indexCast v385
  let c0_118 : Index := 0#32
  ![v386.toNat, 0]
def k0_mult10 (v381 : BitVec 32) : BitVec 32 :=
  let c0_i32_122 : BitVec 32 := 0#32
  let v396 : BitVec 1 := Scalar.cmpi .sgt v381 c0_i32_122
  let v397 : BitVec 32 := Scalar.extui v396
  let c0_i32_123 : BitVec 32 := 0#32
  let v398 : BitVec 1 := Scalar.cmpi .slt v381 c0_i32_123
  let v399 : BitVec 32 := Scalar.extui v398
  let v400 : BitVec 32 := Scalar.subi v397 v399
  let c4_i32_121 : BitVec 32 := 4#32
  let c0_i32_124 : BitVec 32 := 0#32
  let v401 : BitVec 1 := Scalar.cmpi .sgt c4_i32_121 c0_i32_124
  let v402 : BitVec 32 := Scalar.extui v401
  let c0_i32_125 : BitVec 32 := 0#32
  let v403 : BitVec 1 := Scalar.cmpi .slt c4_i32_121 c0_i32_125
  let v404 : BitVec 32 := Scalar.extui v403
  let v405 : BitVec 32 := Scalar.subi v402 v404
  let v406 : BitVec 1 := Scalar.cmpi .ne v400 v405
  let v407 : BitVec 32 := Scalar.remsi v381 c4_i32_121
  let c0_i32_126 : BitVec 32 := 0#32
  let v408 : BitVec 1 := Scalar.cmpi .ne v407 c0_i32_126
  let v409 : BitVec 1 := Scalar.andi v406 v408
  let v395 : BitVec 32 := Scalar.divsi v381 c4_i32_121
  let c1_i32_127 : BitVec 32 := 1#32
  let v410 : BitVec 32 := Scalar.subi v395 c1_i32_127
  let v411 : BitVec 32 := Scalar.select v409 v410 v395
  v411
def k0_off10 (v381 : BitVec 32) : Fin 2 → Nat :=
  let c0_i32_122 : BitVec 32 := 0#32
  let v396 : BitVec 1 := Scalar.cmpi .sgt v381 c0_i32_122
  let v397 : BitVec 32 := Scalar.extui v396
  let c0_i32_123 : BitVec 32 := 0#32
  let v398 : BitVec 1 := Scalar.cmpi .slt v381 c0_i32_123
  let v399 : BitVec 32 := Scalar.extui v398
  let v400 : BitVec 32 := Scalar.subi v397 v399
  let c4_i32_121 : BitVec 32 := 4#32
  let c0_i32_124 : BitVec 32 := 0#32
  let v401 : BitVec 1 := Scalar.cmpi .sgt c4_i32_121 c0_i32_124
  let v402 : BitVec 32 := Scalar.extui v401
  let c0_i32_125 : BitVec 32 := 0#32
  let v403 : BitVec 1 := Scalar.cmpi .slt c4_i32_121 c0_i32_125
  let v404 : BitVec 32 := Scalar.extui v403
  let v405 : BitVec 32 := Scalar.subi v402 v404
  let v406 : BitVec 1 := Scalar.cmpi .ne v400 v405
  let v407 : BitVec 32 := Scalar.remsi v381 c4_i32_121
  let c0_i32_126 : BitVec 32 := 0#32
  let v408 : BitVec 1 := Scalar.cmpi .ne v407 c0_i32_126
  let v409 : BitVec 1 := Scalar.andi v406 v408
  let v395 : BitVec 32 := Scalar.divsi v381 c4_i32_121
  let c1_i32_127 : BitVec 32 := 1#32
  let v410 : BitVec 32 := Scalar.subi v395 c1_i32_127
  let v411 : BitVec 32 := Scalar.select v409 v410 v395
  let v412 : BitVec 32 := v411
  let v413 : Index := Scalar.indexCast v412
  let c0_128 : Index := 0#32
  ![v413.toNat, 0]

def k0_chk5 (v381 : BitVec 32) : Prop :=
  (8 ∣ (k0_mult9 v381).toNat) ∧
  (∀ a, (k0_off9 v381) a + S2048x32.size a ≤ S18432x32.size a) ∧
  (8 ∣ (k0_mult10 v381).toNat) ∧
  (∀ a, (k0_off10 v381) a + S512x128.size a ≤ S4608x128.size a)
theorem k0_mult9_dvd : ∀ (v381 : BitVec 32) (k0_hw5 : k0_chk5 v381), 8 ∣ (k0_mult9 v381).toNat := fun v381 k0_hw5 => k0_hw5.1
theorem k0_off9_inb : ∀ (v381 : BitVec 32) (k0_hw5 : k0_chk5 v381), ∀ a, (k0_off9 v381) a + S2048x32.size a ≤ S18432x32.size a := fun v381 k0_hw5 => k0_hw5.2.1
theorem k0_mult10_dvd : ∀ (v381 : BitVec 32) (k0_hw5 : k0_chk5 v381), 8 ∣ (k0_mult10 v381).toNat := fun v381 k0_hw5 => k0_hw5.2.2.1
theorem k0_off10_inb : ∀ (v381 : BitVec 32) (k0_hw5 : k0_chk5 v381), ∀ a, (k0_off10 v381) a + S512x128.size a ≤ S4608x128.size a := fun v381 k0_hw5 => k0_hw5.2.2.2

def k0_mult11 (v463 : BitVec 32) : BitVec 32 :=
  v463

def k0_off11 (v463 : BitVec 32) : Fin 2 → Nat :=
  let v467 : BitVec 32 := v463
  let v468 : Index := Scalar.indexCast v467
  let c0_145 : Index := 0#32
  ![v468.toNat, 0]
def k0_mult12 (v463 : BitVec 32) : BitVec 32 :=
  let c0_i32_149 : BitVec 32 := 0#32
  let v478 : BitVec 1 := Scalar.cmpi .sgt v463 c0_i32_149
  let v479 : BitVec 32 := Scalar.extui v478
  let c0_i32_150 : BitVec 32 := 0#32
  let v480 : BitVec 1 := Scalar.cmpi .slt v463 c0_i32_150
  let v481 : BitVec 32 := Scalar.extui v480
  let v482 : BitVec 32 := Scalar.subi v479 v481
  let c4_i32_148 : BitVec 32 := 4#32
  let c0_i32_151 : BitVec 32 := 0#32
  let v483 : BitVec 1 := Scalar.cmpi .sgt c4_i32_148 c0_i32_151
  let v484 : BitVec 32 := Scalar.extui v483
  let c0_i32_152 : BitVec 32 := 0#32
  let v485 : BitVec 1 := Scalar.cmpi .slt c4_i32_148 c0_i32_152
  let v486 : BitVec 32 := Scalar.extui v485
  let v487 : BitVec 32 := Scalar.subi v484 v486
  let v488 : BitVec 1 := Scalar.cmpi .ne v482 v487
  let v489 : BitVec 32 := Scalar.remsi v463 c4_i32_148
  let c0_i32_153 : BitVec 32 := 0#32
  let v490 : BitVec 1 := Scalar.cmpi .ne v489 c0_i32_153
  let v491 : BitVec 1 := Scalar.andi v488 v490
  let v477 : BitVec 32 := Scalar.divsi v463 c4_i32_148
  let c1_i32_154 : BitVec 32 := 1#32
  let v492 : BitVec 32 := Scalar.subi v477 c1_i32_154
  let v493 : BitVec 32 := Scalar.select v491 v492 v477
  v493
def k0_off12 (v463 : BitVec 32) : Fin 2 → Nat :=
  let c0_i32_149 : BitVec 32 := 0#32
  let v478 : BitVec 1 := Scalar.cmpi .sgt v463 c0_i32_149
  let v479 : BitVec 32 := Scalar.extui v478
  let c0_i32_150 : BitVec 32 := 0#32
  let v480 : BitVec 1 := Scalar.cmpi .slt v463 c0_i32_150
  let v481 : BitVec 32 := Scalar.extui v480
  let v482 : BitVec 32 := Scalar.subi v479 v481
  let c4_i32_148 : BitVec 32 := 4#32
  let c0_i32_151 : BitVec 32 := 0#32
  let v483 : BitVec 1 := Scalar.cmpi .sgt c4_i32_148 c0_i32_151
  let v484 : BitVec 32 := Scalar.extui v483
  let c0_i32_152 : BitVec 32 := 0#32
  let v485 : BitVec 1 := Scalar.cmpi .slt c4_i32_148 c0_i32_152
  let v486 : BitVec 32 := Scalar.extui v485
  let v487 : BitVec 32 := Scalar.subi v484 v486
  let v488 : BitVec 1 := Scalar.cmpi .ne v482 v487
  let v489 : BitVec 32 := Scalar.remsi v463 c4_i32_148
  let c0_i32_153 : BitVec 32 := 0#32
  let v490 : BitVec 1 := Scalar.cmpi .ne v489 c0_i32_153
  let v491 : BitVec 1 := Scalar.andi v488 v490
  let v477 : BitVec 32 := Scalar.divsi v463 c4_i32_148
  let c1_i32_154 : BitVec 32 := 1#32
  let v492 : BitVec 32 := Scalar.subi v477 c1_i32_154
  let v493 : BitVec 32 := Scalar.select v491 v492 v477
  let v494 : BitVec 32 := v493
  let v495 : Index := Scalar.indexCast v494
  let c0_155 : Index := 0#32
  ![v495.toNat, 0]

def k0_chk6 (v463 : BitVec 32) : Prop :=
  (8 ∣ (k0_mult11 v463).toNat) ∧
  (∀ a, (k0_off11 v463) a + S2048x32.size a ≤ S18432x32.size a) ∧
  (8 ∣ (k0_mult12 v463).toNat) ∧
  (∀ a, (k0_off12 v463) a + S512x128.size a ≤ S4608x128.size a)
theorem k0_mult11_dvd : ∀ (v463 : BitVec 32) (k0_hw6 : k0_chk6 v463), 8 ∣ (k0_mult11 v463).toNat := fun v463 k0_hw6 => k0_hw6.1
theorem k0_off11_inb : ∀ (v463 : BitVec 32) (k0_hw6 : k0_chk6 v463), ∀ a, (k0_off11 v463) a + S2048x32.size a ≤ S18432x32.size a := fun v463 k0_hw6 => k0_hw6.2.1
theorem k0_mult12_dvd : ∀ (v463 : BitVec 32) (k0_hw6 : k0_chk6 v463), 8 ∣ (k0_mult12 v463).toNat := fun v463 k0_hw6 => k0_hw6.2.2.1
theorem k0_off12_inb : ∀ (v463 : BitVec 32) (k0_hw6 : k0_chk6 v463), ∀ a, (k0_off12 v463) a + S512x128.size a ≤ S4608x128.size a := fun v463 k0_hw6 => k0_hw6.2.2.2

def k0_mult13 (v545 : BitVec 32) : BitVec 32 :=
  v545

def k0_off13 (v545 : BitVec 32) : Fin 2 → Nat :=
  let v549 : BitVec 32 := v545
  let v550 : Index := Scalar.indexCast v549
  let c0_171 : Index := 0#32
  ![v550.toNat, 0]
def k0_mult14 (v545 : BitVec 32) : BitVec 32 :=
  let c0_i32_175 : BitVec 32 := 0#32
  let v560 : BitVec 1 := Scalar.cmpi .sgt v545 c0_i32_175
  let v561 : BitVec 32 := Scalar.extui v560
  let c0_i32_176 : BitVec 32 := 0#32
  let v562 : BitVec 1 := Scalar.cmpi .slt v545 c0_i32_176
  let v563 : BitVec 32 := Scalar.extui v562
  let v564 : BitVec 32 := Scalar.subi v561 v563
  let c4_i32_174 : BitVec 32 := 4#32
  let c0_i32_177 : BitVec 32 := 0#32
  let v565 : BitVec 1 := Scalar.cmpi .sgt c4_i32_174 c0_i32_177
  let v566 : BitVec 32 := Scalar.extui v565
  let c0_i32_178 : BitVec 32 := 0#32
  let v567 : BitVec 1 := Scalar.cmpi .slt c4_i32_174 c0_i32_178
  let v568 : BitVec 32 := Scalar.extui v567
  let v569 : BitVec 32 := Scalar.subi v566 v568
  let v570 : BitVec 1 := Scalar.cmpi .ne v564 v569
  let v571 : BitVec 32 := Scalar.remsi v545 c4_i32_174
  let c0_i32_179 : BitVec 32 := 0#32
  let v572 : BitVec 1 := Scalar.cmpi .ne v571 c0_i32_179
  let v573 : BitVec 1 := Scalar.andi v570 v572
  let v559 : BitVec 32 := Scalar.divsi v545 c4_i32_174
  let c1_i32_180 : BitVec 32 := 1#32
  let v574 : BitVec 32 := Scalar.subi v559 c1_i32_180
  let v575 : BitVec 32 := Scalar.select v573 v574 v559
  v575
def k0_off14 (v545 : BitVec 32) : Fin 2 → Nat :=
  let c0_i32_175 : BitVec 32 := 0#32
  let v560 : BitVec 1 := Scalar.cmpi .sgt v545 c0_i32_175
  let v561 : BitVec 32 := Scalar.extui v560
  let c0_i32_176 : BitVec 32 := 0#32
  let v562 : BitVec 1 := Scalar.cmpi .slt v545 c0_i32_176
  let v563 : BitVec 32 := Scalar.extui v562
  let v564 : BitVec 32 := Scalar.subi v561 v563
  let c4_i32_174 : BitVec 32 := 4#32
  let c0_i32_177 : BitVec 32 := 0#32
  let v565 : BitVec 1 := Scalar.cmpi .sgt c4_i32_174 c0_i32_177
  let v566 : BitVec 32 := Scalar.extui v565
  let c0_i32_178 : BitVec 32 := 0#32
  let v567 : BitVec 1 := Scalar.cmpi .slt c4_i32_174 c0_i32_178
  let v568 : BitVec 32 := Scalar.extui v567
  let v569 : BitVec 32 := Scalar.subi v566 v568
  let v570 : BitVec 1 := Scalar.cmpi .ne v564 v569
  let v571 : BitVec 32 := Scalar.remsi v545 c4_i32_174
  let c0_i32_179 : BitVec 32 := 0#32
  let v572 : BitVec 1 := Scalar.cmpi .ne v571 c0_i32_179
  let v573 : BitVec 1 := Scalar.andi v570 v572
  let v559 : BitVec 32 := Scalar.divsi v545 c4_i32_174
  let c1_i32_180 : BitVec 32 := 1#32
  let v574 : BitVec 32 := Scalar.subi v559 c1_i32_180
  let v575 : BitVec 32 := Scalar.select v573 v574 v559
  let v576 : BitVec 32 := v575
  let v577 : Index := Scalar.indexCast v576
  let c0_181 : Index := 0#32
  ![v577.toNat, 0]

def k0_chk7 (v545 : BitVec 32) : Prop :=
  (8 ∣ (k0_mult13 v545).toNat) ∧
  (∀ a, (k0_off13 v545) a + S2048x32.size a ≤ S18432x32.size a) ∧
  (8 ∣ (k0_mult14 v545).toNat) ∧
  (∀ a, (k0_off14 v545) a + S512x128.size a ≤ S4608x128.size a)
theorem k0_mult13_dvd : ∀ (v545 : BitVec 32) (k0_hw7 : k0_chk7 v545), 8 ∣ (k0_mult13 v545).toNat := fun v545 k0_hw7 => k0_hw7.1
theorem k0_off13_inb : ∀ (v545 : BitVec 32) (k0_hw7 : k0_chk7 v545), ∀ a, (k0_off13 v545) a + S2048x32.size a ≤ S18432x32.size a := fun v545 k0_hw7 => k0_hw7.2.1
theorem k0_mult14_dvd : ∀ (v545 : BitVec 32) (k0_hw7 : k0_chk7 v545), 8 ∣ (k0_mult14 v545).toNat := fun v545 k0_hw7 => k0_hw7.2.2.1
theorem k0_off14_inb : ∀ (v545 : BitVec 32) (k0_hw7 : k0_chk7 v545), ∀ a, (k0_off14 v545) a + S512x128.size a ≤ S4608x128.size a := fun v545 k0_hw7 => k0_hw7.2.2.2

def k0_mult15 (v627 : BitVec 32) : BitVec 32 :=
  v627

def k0_off15 (v627 : BitVec 32) : Fin 2 → Nat :=
  let v631 : BitVec 32 := v627
  let v632 : Index := Scalar.indexCast v631
  let c0_197 : Index := 0#32
  ![v632.toNat, 0]
def k0_mult16 (v627 : BitVec 32) : BitVec 32 :=
  let c0_i32_201 : BitVec 32 := 0#32
  let v642 : BitVec 1 := Scalar.cmpi .sgt v627 c0_i32_201
  let v643 : BitVec 32 := Scalar.extui v642
  let c0_i32_202 : BitVec 32 := 0#32
  let v644 : BitVec 1 := Scalar.cmpi .slt v627 c0_i32_202
  let v645 : BitVec 32 := Scalar.extui v644
  let v646 : BitVec 32 := Scalar.subi v643 v645
  let c4_i32_200 : BitVec 32 := 4#32
  let c0_i32_203 : BitVec 32 := 0#32
  let v647 : BitVec 1 := Scalar.cmpi .sgt c4_i32_200 c0_i32_203
  let v648 : BitVec 32 := Scalar.extui v647
  let c0_i32_204 : BitVec 32 := 0#32
  let v649 : BitVec 1 := Scalar.cmpi .slt c4_i32_200 c0_i32_204
  let v650 : BitVec 32 := Scalar.extui v649
  let v651 : BitVec 32 := Scalar.subi v648 v650
  let v652 : BitVec 1 := Scalar.cmpi .ne v646 v651
  let v653 : BitVec 32 := Scalar.remsi v627 c4_i32_200
  let c0_i32_205 : BitVec 32 := 0#32
  let v654 : BitVec 1 := Scalar.cmpi .ne v653 c0_i32_205
  let v655 : BitVec 1 := Scalar.andi v652 v654
  let v641 : BitVec 32 := Scalar.divsi v627 c4_i32_200
  let c1_i32_206 : BitVec 32 := 1#32
  let v656 : BitVec 32 := Scalar.subi v641 c1_i32_206
  let v657 : BitVec 32 := Scalar.select v655 v656 v641
  v657
def k0_off16 (v627 : BitVec 32) : Fin 2 → Nat :=
  let c0_i32_201 : BitVec 32 := 0#32
  let v642 : BitVec 1 := Scalar.cmpi .sgt v627 c0_i32_201
  let v643 : BitVec 32 := Scalar.extui v642
  let c0_i32_202 : BitVec 32 := 0#32
  let v644 : BitVec 1 := Scalar.cmpi .slt v627 c0_i32_202
  let v645 : BitVec 32 := Scalar.extui v644
  let v646 : BitVec 32 := Scalar.subi v643 v645
  let c4_i32_200 : BitVec 32 := 4#32
  let c0_i32_203 : BitVec 32 := 0#32
  let v647 : BitVec 1 := Scalar.cmpi .sgt c4_i32_200 c0_i32_203
  let v648 : BitVec 32 := Scalar.extui v647
  let c0_i32_204 : BitVec 32 := 0#32
  let v649 : BitVec 1 := Scalar.cmpi .slt c4_i32_200 c0_i32_204
  let v650 : BitVec 32 := Scalar.extui v649
  let v651 : BitVec 32 := Scalar.subi v648 v650
  let v652 : BitVec 1 := Scalar.cmpi .ne v646 v651
  let v653 : BitVec 32 := Scalar.remsi v627 c4_i32_200
  let c0_i32_205 : BitVec 32 := 0#32
  let v654 : BitVec 1 := Scalar.cmpi .ne v653 c0_i32_205
  let v655 : BitVec 1 := Scalar.andi v652 v654
  let v641 : BitVec 32 := Scalar.divsi v627 c4_i32_200
  let c1_i32_206 : BitVec 32 := 1#32
  let v656 : BitVec 32 := Scalar.subi v641 c1_i32_206
  let v657 : BitVec 32 := Scalar.select v655 v656 v641
  let v658 : BitVec 32 := v657
  let v659 : Index := Scalar.indexCast v658
  let c0_207 : Index := 0#32
  ![v659.toNat, 0]

def k0_chk8 (v627 : BitVec 32) : Prop :=
  (8 ∣ (k0_mult15 v627).toNat) ∧
  (∀ a, (k0_off15 v627) a + S2048x32.size a ≤ S18432x32.size a) ∧
  (8 ∣ (k0_mult16 v627).toNat) ∧
  (∀ a, (k0_off16 v627) a + S512x128.size a ≤ S4608x128.size a)
theorem k0_mult15_dvd : ∀ (v627 : BitVec 32) (k0_hw8 : k0_chk8 v627), 8 ∣ (k0_mult15 v627).toNat := fun v627 k0_hw8 => k0_hw8.1
theorem k0_off15_inb : ∀ (v627 : BitVec 32) (k0_hw8 : k0_chk8 v627), ∀ a, (k0_off15 v627) a + S2048x32.size a ≤ S18432x32.size a := fun v627 k0_hw8 => k0_hw8.2.1
theorem k0_mult16_dvd : ∀ (v627 : BitVec 32) (k0_hw8 : k0_chk8 v627), 8 ∣ (k0_mult16 v627).toNat := fun v627 k0_hw8 => k0_hw8.2.2.1
theorem k0_off16_inb : ∀ (v627 : BitVec 32) (k0_hw8 : k0_chk8 v627), ∀ a, (k0_off16 v627) a + S512x128.size a ≤ S4608x128.size a := fun v627 k0_hw8 => k0_hw8.2.2.2

def k0_mult17 (v709 : BitVec 32) : BitVec 32 :=
  v709

def k0_off17 (v709 : BitVec 32) : Fin 2 → Nat :=
  let v713 : BitVec 32 := v709
  let v714 : Index := Scalar.indexCast v713
  let c0_223 : Index := 0#32
  ![v714.toNat, 0]
def k0_mult18 (v709 : BitVec 32) : BitVec 32 :=
  let c0_i32_227 : BitVec 32 := 0#32
  let v724 : BitVec 1 := Scalar.cmpi .sgt v709 c0_i32_227
  let v725 : BitVec 32 := Scalar.extui v724
  let c0_i32_228 : BitVec 32 := 0#32
  let v726 : BitVec 1 := Scalar.cmpi .slt v709 c0_i32_228
  let v727 : BitVec 32 := Scalar.extui v726
  let v728 : BitVec 32 := Scalar.subi v725 v727
  let c4_i32_226 : BitVec 32 := 4#32
  let c0_i32_229 : BitVec 32 := 0#32
  let v729 : BitVec 1 := Scalar.cmpi .sgt c4_i32_226 c0_i32_229
  let v730 : BitVec 32 := Scalar.extui v729
  let c0_i32_230 : BitVec 32 := 0#32
  let v731 : BitVec 1 := Scalar.cmpi .slt c4_i32_226 c0_i32_230
  let v732 : BitVec 32 := Scalar.extui v731
  let v733 : BitVec 32 := Scalar.subi v730 v732
  let v734 : BitVec 1 := Scalar.cmpi .ne v728 v733
  let v735 : BitVec 32 := Scalar.remsi v709 c4_i32_226
  let c0_i32_231 : BitVec 32 := 0#32
  let v736 : BitVec 1 := Scalar.cmpi .ne v735 c0_i32_231
  let v737 : BitVec 1 := Scalar.andi v734 v736
  let v723 : BitVec 32 := Scalar.divsi v709 c4_i32_226
  let c1_i32_232 : BitVec 32 := 1#32
  let v738 : BitVec 32 := Scalar.subi v723 c1_i32_232
  let v739 : BitVec 32 := Scalar.select v737 v738 v723
  v739
def k0_off18 (v709 : BitVec 32) : Fin 2 → Nat :=
  let c0_i32_227 : BitVec 32 := 0#32
  let v724 : BitVec 1 := Scalar.cmpi .sgt v709 c0_i32_227
  let v725 : BitVec 32 := Scalar.extui v724
  let c0_i32_228 : BitVec 32 := 0#32
  let v726 : BitVec 1 := Scalar.cmpi .slt v709 c0_i32_228
  let v727 : BitVec 32 := Scalar.extui v726
  let v728 : BitVec 32 := Scalar.subi v725 v727
  let c4_i32_226 : BitVec 32 := 4#32
  let c0_i32_229 : BitVec 32 := 0#32
  let v729 : BitVec 1 := Scalar.cmpi .sgt c4_i32_226 c0_i32_229
  let v730 : BitVec 32 := Scalar.extui v729
  let c0_i32_230 : BitVec 32 := 0#32
  let v731 : BitVec 1 := Scalar.cmpi .slt c4_i32_226 c0_i32_230
  let v732 : BitVec 32 := Scalar.extui v731
  let v733 : BitVec 32 := Scalar.subi v730 v732
  let v734 : BitVec 1 := Scalar.cmpi .ne v728 v733
  let v735 : BitVec 32 := Scalar.remsi v709 c4_i32_226
  let c0_i32_231 : BitVec 32 := 0#32
  let v736 : BitVec 1 := Scalar.cmpi .ne v735 c0_i32_231
  let v737 : BitVec 1 := Scalar.andi v734 v736
  let v723 : BitVec 32 := Scalar.divsi v709 c4_i32_226
  let c1_i32_232 : BitVec 32 := 1#32
  let v738 : BitVec 32 := Scalar.subi v723 c1_i32_232
  let v739 : BitVec 32 := Scalar.select v737 v738 v723
  let v740 : BitVec 32 := v739
  let v741 : Index := Scalar.indexCast v740
  let c0_233 : Index := 0#32
  ![v741.toNat, 0]

def k0_chk9 (v709 : BitVec 32) : Prop :=
  (8 ∣ (k0_mult17 v709).toNat) ∧
  (∀ a, (k0_off17 v709) a + S2048x32.size a ≤ S18432x32.size a) ∧
  (8 ∣ (k0_mult18 v709).toNat) ∧
  (∀ a, (k0_off18 v709) a + S512x128.size a ≤ S4608x128.size a)
theorem k0_mult17_dvd : ∀ (v709 : BitVec 32) (k0_hw9 : k0_chk9 v709), 8 ∣ (k0_mult17 v709).toNat := fun v709 k0_hw9 => k0_hw9.1
theorem k0_off17_inb : ∀ (v709 : BitVec 32) (k0_hw9 : k0_chk9 v709), ∀ a, (k0_off17 v709) a + S2048x32.size a ≤ S18432x32.size a := fun v709 k0_hw9 => k0_hw9.2.1
theorem k0_mult18_dvd : ∀ (v709 : BitVec 32) (k0_hw9 : k0_chk9 v709), 8 ∣ (k0_mult18 v709).toNat := fun v709 k0_hw9 => k0_hw9.2.2.1
theorem k0_off18_inb : ∀ (v709 : BitVec 32) (k0_hw9 : k0_chk9 v709), ∀ a, (k0_off18 v709) a + S512x128.size a ≤ S4608x128.size a := fun v709 k0_hw9 => k0_hw9.2.2.2

def k0_mult19 (v791 : BitVec 32) : BitVec 32 :=
  v791

def k0_off19 (v791 : BitVec 32) : Fin 2 → Nat :=
  let v795 : BitVec 32 := v791
  let v796 : Index := Scalar.indexCast v795
  let c0_249 : Index := 0#32
  ![v796.toNat, 0]
def k0_mult20 (v791 : BitVec 32) : BitVec 32 :=
  let c0_i32_253 : BitVec 32 := 0#32
  let v806 : BitVec 1 := Scalar.cmpi .sgt v791 c0_i32_253
  let v807 : BitVec 32 := Scalar.extui v806
  let c0_i32_254 : BitVec 32 := 0#32
  let v808 : BitVec 1 := Scalar.cmpi .slt v791 c0_i32_254
  let v809 : BitVec 32 := Scalar.extui v808
  let v810 : BitVec 32 := Scalar.subi v807 v809
  let c4_i32_252 : BitVec 32 := 4#32
  let c0_i32_255 : BitVec 32 := 0#32
  let v811 : BitVec 1 := Scalar.cmpi .sgt c4_i32_252 c0_i32_255
  let v812 : BitVec 32 := Scalar.extui v811
  let c0_i32_256 : BitVec 32 := 0#32
  let v813 : BitVec 1 := Scalar.cmpi .slt c4_i32_252 c0_i32_256
  let v814 : BitVec 32 := Scalar.extui v813
  let v815 : BitVec 32 := Scalar.subi v812 v814
  let v816 : BitVec 1 := Scalar.cmpi .ne v810 v815
  let v817 : BitVec 32 := Scalar.remsi v791 c4_i32_252
  let c0_i32_257 : BitVec 32 := 0#32
  let v818 : BitVec 1 := Scalar.cmpi .ne v817 c0_i32_257
  let v819 : BitVec 1 := Scalar.andi v816 v818
  let v805 : BitVec 32 := Scalar.divsi v791 c4_i32_252
  let c1_i32_258 : BitVec 32 := 1#32
  let v820 : BitVec 32 := Scalar.subi v805 c1_i32_258
  let v821 : BitVec 32 := Scalar.select v819 v820 v805
  v821
def k0_off20 (v791 : BitVec 32) : Fin 2 → Nat :=
  let c0_i32_253 : BitVec 32 := 0#32
  let v806 : BitVec 1 := Scalar.cmpi .sgt v791 c0_i32_253
  let v807 : BitVec 32 := Scalar.extui v806
  let c0_i32_254 : BitVec 32 := 0#32
  let v808 : BitVec 1 := Scalar.cmpi .slt v791 c0_i32_254
  let v809 : BitVec 32 := Scalar.extui v808
  let v810 : BitVec 32 := Scalar.subi v807 v809
  let c4_i32_252 : BitVec 32 := 4#32
  let c0_i32_255 : BitVec 32 := 0#32
  let v811 : BitVec 1 := Scalar.cmpi .sgt c4_i32_252 c0_i32_255
  let v812 : BitVec 32 := Scalar.extui v811
  let c0_i32_256 : BitVec 32 := 0#32
  let v813 : BitVec 1 := Scalar.cmpi .slt c4_i32_252 c0_i32_256
  let v814 : BitVec 32 := Scalar.extui v813
  let v815 : BitVec 32 := Scalar.subi v812 v814
  let v816 : BitVec 1 := Scalar.cmpi .ne v810 v815
  let v817 : BitVec 32 := Scalar.remsi v791 c4_i32_252
  let c0_i32_257 : BitVec 32 := 0#32
  let v818 : BitVec 1 := Scalar.cmpi .ne v817 c0_i32_257
  let v819 : BitVec 1 := Scalar.andi v816 v818
  let v805 : BitVec 32 := Scalar.divsi v791 c4_i32_252
  let c1_i32_258 : BitVec 32 := 1#32
  let v820 : BitVec 32 := Scalar.subi v805 c1_i32_258
  let v821 : BitVec 32 := Scalar.select v819 v820 v805
  let v822 : BitVec 32 := v821
  let v823 : Index := Scalar.indexCast v822
  let c0_259 : Index := 0#32
  ![v823.toNat, 0]

def k0_chk10 (v791 : BitVec 32) : Prop :=
  (8 ∣ (k0_mult19 v791).toNat) ∧
  (∀ a, (k0_off19 v791) a + S2048x32.size a ≤ S18432x32.size a) ∧
  (8 ∣ (k0_mult20 v791).toNat) ∧
  (∀ a, (k0_off20 v791) a + S512x128.size a ≤ S4608x128.size a)
theorem k0_mult19_dvd : ∀ (v791 : BitVec 32) (k0_hw10 : k0_chk10 v791), 8 ∣ (k0_mult19 v791).toNat := fun v791 k0_hw10 => k0_hw10.1
theorem k0_off19_inb : ∀ (v791 : BitVec 32) (k0_hw10 : k0_chk10 v791), ∀ a, (k0_off19 v791) a + S2048x32.size a ≤ S18432x32.size a := fun v791 k0_hw10 => k0_hw10.2.1
theorem k0_mult20_dvd : ∀ (v791 : BitVec 32) (k0_hw10 : k0_chk10 v791), 8 ∣ (k0_mult20 v791).toNat := fun v791 k0_hw10 => k0_hw10.2.2.1
theorem k0_off20_inb : ∀ (v791 : BitVec 32) (k0_hw10 : k0_chk10 v791), ∀ a, (k0_off20 v791) a + S512x128.size a ≤ S4608x128.size a := fun v791 k0_hw10 => k0_hw10.2.2.2

def k0_mult21 (v873 : BitVec 32) : BitVec 32 :=
  v873

def k0_off21 (v873 : BitVec 32) : Fin 2 → Nat :=
  let v877 : BitVec 32 := v873
  let v878 : Index := Scalar.indexCast v877
  let c0_275 : Index := 0#32
  ![v878.toNat, 0]
def k0_mult22 (v873 : BitVec 32) : BitVec 32 :=
  let c0_i32_279 : BitVec 32 := 0#32
  let v888 : BitVec 1 := Scalar.cmpi .sgt v873 c0_i32_279
  let v889 : BitVec 32 := Scalar.extui v888
  let c0_i32_280 : BitVec 32 := 0#32
  let v890 : BitVec 1 := Scalar.cmpi .slt v873 c0_i32_280
  let v891 : BitVec 32 := Scalar.extui v890
  let v892 : BitVec 32 := Scalar.subi v889 v891
  let c4_i32_278 : BitVec 32 := 4#32
  let c0_i32_281 : BitVec 32 := 0#32
  let v893 : BitVec 1 := Scalar.cmpi .sgt c4_i32_278 c0_i32_281
  let v894 : BitVec 32 := Scalar.extui v893
  let c0_i32_282 : BitVec 32 := 0#32
  let v895 : BitVec 1 := Scalar.cmpi .slt c4_i32_278 c0_i32_282
  let v896 : BitVec 32 := Scalar.extui v895
  let v897 : BitVec 32 := Scalar.subi v894 v896
  let v898 : BitVec 1 := Scalar.cmpi .ne v892 v897
  let v899 : BitVec 32 := Scalar.remsi v873 c4_i32_278
  let c0_i32_283 : BitVec 32 := 0#32
  let v900 : BitVec 1 := Scalar.cmpi .ne v899 c0_i32_283
  let v901 : BitVec 1 := Scalar.andi v898 v900
  let v887 : BitVec 32 := Scalar.divsi v873 c4_i32_278
  let c1_i32_284 : BitVec 32 := 1#32
  let v902 : BitVec 32 := Scalar.subi v887 c1_i32_284
  let v903 : BitVec 32 := Scalar.select v901 v902 v887
  v903
def k0_off22 (v873 : BitVec 32) : Fin 2 → Nat :=
  let c0_i32_279 : BitVec 32 := 0#32
  let v888 : BitVec 1 := Scalar.cmpi .sgt v873 c0_i32_279
  let v889 : BitVec 32 := Scalar.extui v888
  let c0_i32_280 : BitVec 32 := 0#32
  let v890 : BitVec 1 := Scalar.cmpi .slt v873 c0_i32_280
  let v891 : BitVec 32 := Scalar.extui v890
  let v892 : BitVec 32 := Scalar.subi v889 v891
  let c4_i32_278 : BitVec 32 := 4#32
  let c0_i32_281 : BitVec 32 := 0#32
  let v893 : BitVec 1 := Scalar.cmpi .sgt c4_i32_278 c0_i32_281
  let v894 : BitVec 32 := Scalar.extui v893
  let c0_i32_282 : BitVec 32 := 0#32
  let v895 : BitVec 1 := Scalar.cmpi .slt c4_i32_278 c0_i32_282
  let v896 : BitVec 32 := Scalar.extui v895
  let v897 : BitVec 32 := Scalar.subi v894 v896
  let v898 : BitVec 1 := Scalar.cmpi .ne v892 v897
  let v899 : BitVec 32 := Scalar.remsi v873 c4_i32_278
  let c0_i32_283 : BitVec 32 := 0#32
  let v900 : BitVec 1 := Scalar.cmpi .ne v899 c0_i32_283
  let v901 : BitVec 1 := Scalar.andi v898 v900
  let v887 : BitVec 32 := Scalar.divsi v873 c4_i32_278
  let c1_i32_284 : BitVec 32 := 1#32
  let v902 : BitVec 32 := Scalar.subi v887 c1_i32_284
  let v903 : BitVec 32 := Scalar.select v901 v902 v887
  let v904 : BitVec 32 := v903
  let v905 : Index := Scalar.indexCast v904
  let c0_285 : Index := 0#32
  ![v905.toNat, 0]

def k0_chk11 (v873 : BitVec 32) : Prop :=
  (8 ∣ (k0_mult21 v873).toNat) ∧
  (∀ a, (k0_off21 v873) a + S2048x32.size a ≤ S18432x32.size a) ∧
  (8 ∣ (k0_mult22 v873).toNat) ∧
  (∀ a, (k0_off22 v873) a + S512x128.size a ≤ S4608x128.size a)
theorem k0_mult21_dvd : ∀ (v873 : BitVec 32) (k0_hw11 : k0_chk11 v873), 8 ∣ (k0_mult21 v873).toNat := fun v873 k0_hw11 => k0_hw11.1
theorem k0_off21_inb : ∀ (v873 : BitVec 32) (k0_hw11 : k0_chk11 v873), ∀ a, (k0_off21 v873) a + S2048x32.size a ≤ S18432x32.size a := fun v873 k0_hw11 => k0_hw11.2.1
theorem k0_mult22_dvd : ∀ (v873 : BitVec 32) (k0_hw11 : k0_chk11 v873), 8 ∣ (k0_mult22 v873).toNat := fun v873 k0_hw11 => k0_hw11.2.2.1
theorem k0_off22_inb : ∀ (v873 : BitVec 32) (k0_hw11 : k0_chk11 v873), ∀ a, (k0_off22 v873) a + S512x128.size a ≤ S4608x128.size a := fun v873 k0_hw11 => k0_hw11.2.2.2

def k0_mult23 (v955 : BitVec 32) : BitVec 32 :=
  v955

def k0_off23 (v955 : BitVec 32) : Fin 2 → Nat :=
  let v959 : BitVec 32 := v955
  let v960 : Index := Scalar.indexCast v959
  let c0_301 : Index := 0#32
  ![v960.toNat, 0]
def k0_mult24 (v955 : BitVec 32) : BitVec 32 :=
  let c0_i32_305 : BitVec 32 := 0#32
  let v970 : BitVec 1 := Scalar.cmpi .sgt v955 c0_i32_305
  let v971 : BitVec 32 := Scalar.extui v970
  let c0_i32_306 : BitVec 32 := 0#32
  let v972 : BitVec 1 := Scalar.cmpi .slt v955 c0_i32_306
  let v973 : BitVec 32 := Scalar.extui v972
  let v974 : BitVec 32 := Scalar.subi v971 v973
  let c4_i32_304 : BitVec 32 := 4#32
  let c0_i32_307 : BitVec 32 := 0#32
  let v975 : BitVec 1 := Scalar.cmpi .sgt c4_i32_304 c0_i32_307
  let v976 : BitVec 32 := Scalar.extui v975
  let c0_i32_308 : BitVec 32 := 0#32
  let v977 : BitVec 1 := Scalar.cmpi .slt c4_i32_304 c0_i32_308
  let v978 : BitVec 32 := Scalar.extui v977
  let v979 : BitVec 32 := Scalar.subi v976 v978
  let v980 : BitVec 1 := Scalar.cmpi .ne v974 v979
  let v981 : BitVec 32 := Scalar.remsi v955 c4_i32_304
  let c0_i32_309 : BitVec 32 := 0#32
  let v982 : BitVec 1 := Scalar.cmpi .ne v981 c0_i32_309
  let v983 : BitVec 1 := Scalar.andi v980 v982
  let v969 : BitVec 32 := Scalar.divsi v955 c4_i32_304
  let c1_i32_310 : BitVec 32 := 1#32
  let v984 : BitVec 32 := Scalar.subi v969 c1_i32_310
  let v985 : BitVec 32 := Scalar.select v983 v984 v969
  v985
def k0_off24 (v955 : BitVec 32) : Fin 2 → Nat :=
  let c0_i32_305 : BitVec 32 := 0#32
  let v970 : BitVec 1 := Scalar.cmpi .sgt v955 c0_i32_305
  let v971 : BitVec 32 := Scalar.extui v970
  let c0_i32_306 : BitVec 32 := 0#32
  let v972 : BitVec 1 := Scalar.cmpi .slt v955 c0_i32_306
  let v973 : BitVec 32 := Scalar.extui v972
  let v974 : BitVec 32 := Scalar.subi v971 v973
  let c4_i32_304 : BitVec 32 := 4#32
  let c0_i32_307 : BitVec 32 := 0#32
  let v975 : BitVec 1 := Scalar.cmpi .sgt c4_i32_304 c0_i32_307
  let v976 : BitVec 32 := Scalar.extui v975
  let c0_i32_308 : BitVec 32 := 0#32
  let v977 : BitVec 1 := Scalar.cmpi .slt c4_i32_304 c0_i32_308
  let v978 : BitVec 32 := Scalar.extui v977
  let v979 : BitVec 32 := Scalar.subi v976 v978
  let v980 : BitVec 1 := Scalar.cmpi .ne v974 v979
  let v981 : BitVec 32 := Scalar.remsi v955 c4_i32_304
  let c0_i32_309 : BitVec 32 := 0#32
  let v982 : BitVec 1 := Scalar.cmpi .ne v981 c0_i32_309
  let v983 : BitVec 1 := Scalar.andi v980 v982
  let v969 : BitVec 32 := Scalar.divsi v955 c4_i32_304
  let c1_i32_310 : BitVec 32 := 1#32
  let v984 : BitVec 32 := Scalar.subi v969 c1_i32_310
  let v985 : BitVec 32 := Scalar.select v983 v984 v969
  let v986 : BitVec 32 := v985
  let v987 : Index := Scalar.indexCast v986
  let c0_311 : Index := 0#32
  ![v987.toNat, 0]

def k0_chk12 (v955 : BitVec 32) : Prop :=
  (8 ∣ (k0_mult23 v955).toNat) ∧
  (∀ a, (k0_off23 v955) a + S2048x32.size a ≤ S18432x32.size a) ∧
  (8 ∣ (k0_mult24 v955).toNat) ∧
  (∀ a, (k0_off24 v955) a + S512x128.size a ≤ S4608x128.size a)
theorem k0_mult23_dvd : ∀ (v955 : BitVec 32) (k0_hw12 : k0_chk12 v955), 8 ∣ (k0_mult23 v955).toNat := fun v955 k0_hw12 => k0_hw12.1
theorem k0_off23_inb : ∀ (v955 : BitVec 32) (k0_hw12 : k0_chk12 v955), ∀ a, (k0_off23 v955) a + S2048x32.size a ≤ S18432x32.size a := fun v955 k0_hw12 => k0_hw12.2.1
theorem k0_mult24_dvd : ∀ (v955 : BitVec 32) (k0_hw12 : k0_chk12 v955), 8 ∣ (k0_mult24 v955).toNat := fun v955 k0_hw12 => k0_hw12.2.2.1
theorem k0_off24_inb : ∀ (v955 : BitVec 32) (k0_hw12 : k0_chk12 v955), ∀ a, (k0_off24 v955) a + S512x128.size a ≤ S4608x128.size a := fun v955 k0_hw12 => k0_hw12.2.2.2

def k0_mult25 (v1037 : BitVec 32) : BitVec 32 :=
  v1037

def k0_off25 (v1037 : BitVec 32) : Fin 2 → Nat :=
  let v1041 : BitVec 32 := v1037
  let v1042 : Index := Scalar.indexCast v1041
  let c0_327 : Index := 0#32
  ![v1042.toNat, 0]
def k0_mult26 (v1037 : BitVec 32) : BitVec 32 :=
  let c0_i32_331 : BitVec 32 := 0#32
  let v1052 : BitVec 1 := Scalar.cmpi .sgt v1037 c0_i32_331
  let v1053 : BitVec 32 := Scalar.extui v1052
  let c0_i32_332 : BitVec 32 := 0#32
  let v1054 : BitVec 1 := Scalar.cmpi .slt v1037 c0_i32_332
  let v1055 : BitVec 32 := Scalar.extui v1054
  let v1056 : BitVec 32 := Scalar.subi v1053 v1055
  let c4_i32_330 : BitVec 32 := 4#32
  let c0_i32_333 : BitVec 32 := 0#32
  let v1057 : BitVec 1 := Scalar.cmpi .sgt c4_i32_330 c0_i32_333
  let v1058 : BitVec 32 := Scalar.extui v1057
  let c0_i32_334 : BitVec 32 := 0#32
  let v1059 : BitVec 1 := Scalar.cmpi .slt c4_i32_330 c0_i32_334
  let v1060 : BitVec 32 := Scalar.extui v1059
  let v1061 : BitVec 32 := Scalar.subi v1058 v1060
  let v1062 : BitVec 1 := Scalar.cmpi .ne v1056 v1061
  let v1063 : BitVec 32 := Scalar.remsi v1037 c4_i32_330
  let c0_i32_335 : BitVec 32 := 0#32
  let v1064 : BitVec 1 := Scalar.cmpi .ne v1063 c0_i32_335
  let v1065 : BitVec 1 := Scalar.andi v1062 v1064
  let v1051 : BitVec 32 := Scalar.divsi v1037 c4_i32_330
  let c1_i32_336 : BitVec 32 := 1#32
  let v1066 : BitVec 32 := Scalar.subi v1051 c1_i32_336
  let v1067 : BitVec 32 := Scalar.select v1065 v1066 v1051
  v1067
def k0_off26 (v1037 : BitVec 32) : Fin 2 → Nat :=
  let c0_i32_331 : BitVec 32 := 0#32
  let v1052 : BitVec 1 := Scalar.cmpi .sgt v1037 c0_i32_331
  let v1053 : BitVec 32 := Scalar.extui v1052
  let c0_i32_332 : BitVec 32 := 0#32
  let v1054 : BitVec 1 := Scalar.cmpi .slt v1037 c0_i32_332
  let v1055 : BitVec 32 := Scalar.extui v1054
  let v1056 : BitVec 32 := Scalar.subi v1053 v1055
  let c4_i32_330 : BitVec 32 := 4#32
  let c0_i32_333 : BitVec 32 := 0#32
  let v1057 : BitVec 1 := Scalar.cmpi .sgt c4_i32_330 c0_i32_333
  let v1058 : BitVec 32 := Scalar.extui v1057
  let c0_i32_334 : BitVec 32 := 0#32
  let v1059 : BitVec 1 := Scalar.cmpi .slt c4_i32_330 c0_i32_334
  let v1060 : BitVec 32 := Scalar.extui v1059
  let v1061 : BitVec 32 := Scalar.subi v1058 v1060
  let v1062 : BitVec 1 := Scalar.cmpi .ne v1056 v1061
  let v1063 : BitVec 32 := Scalar.remsi v1037 c4_i32_330
  let c0_i32_335 : BitVec 32 := 0#32
  let v1064 : BitVec 1 := Scalar.cmpi .ne v1063 c0_i32_335
  let v1065 : BitVec 1 := Scalar.andi v1062 v1064
  let v1051 : BitVec 32 := Scalar.divsi v1037 c4_i32_330
  let c1_i32_336 : BitVec 32 := 1#32
  let v1066 : BitVec 32 := Scalar.subi v1051 c1_i32_336
  let v1067 : BitVec 32 := Scalar.select v1065 v1066 v1051
  let v1068 : BitVec 32 := v1067
  let v1069 : Index := Scalar.indexCast v1068
  let c0_337 : Index := 0#32
  ![v1069.toNat, 0]

def k0_chk13 (v1037 : BitVec 32) : Prop :=
  (8 ∣ (k0_mult25 v1037).toNat) ∧
  (∀ a, (k0_off25 v1037) a + S2048x32.size a ≤ S18432x32.size a) ∧
  (8 ∣ (k0_mult26 v1037).toNat) ∧
  (∀ a, (k0_off26 v1037) a + S512x128.size a ≤ S4608x128.size a)
theorem k0_mult25_dvd : ∀ (v1037 : BitVec 32) (k0_hw13 : k0_chk13 v1037), 8 ∣ (k0_mult25 v1037).toNat := fun v1037 k0_hw13 => k0_hw13.1
theorem k0_off25_inb : ∀ (v1037 : BitVec 32) (k0_hw13 : k0_chk13 v1037), ∀ a, (k0_off25 v1037) a + S2048x32.size a ≤ S18432x32.size a := fun v1037 k0_hw13 => k0_hw13.2.1
theorem k0_mult26_dvd : ∀ (v1037 : BitVec 32) (k0_hw13 : k0_chk13 v1037), 8 ∣ (k0_mult26 v1037).toNat := fun v1037 k0_hw13 => k0_hw13.2.2.1
theorem k0_off26_inb : ∀ (v1037 : BitVec 32) (k0_hw13 : k0_chk13 v1037), ∀ a, (k0_off26 v1037) a + S512x128.size a ≤ S4608x128.size a := fun v1037 k0_hw13 => k0_hw13.2.2.2

def k0_mult27 (v1119 : BitVec 32) : BitVec 32 :=
  v1119

def k0_off27 (v1119 : BitVec 32) : Fin 2 → Nat :=
  let v1123 : BitVec 32 := v1119
  let v1124 : Index := Scalar.indexCast v1123
  let c0_353 : Index := 0#32
  ![v1124.toNat, 0]
def k0_mult28 (v1119 : BitVec 32) : BitVec 32 :=
  let c0_i32_357 : BitVec 32 := 0#32
  let v1134 : BitVec 1 := Scalar.cmpi .sgt v1119 c0_i32_357
  let v1135 : BitVec 32 := Scalar.extui v1134
  let c0_i32_358 : BitVec 32 := 0#32
  let v1136 : BitVec 1 := Scalar.cmpi .slt v1119 c0_i32_358
  let v1137 : BitVec 32 := Scalar.extui v1136
  let v1138 : BitVec 32 := Scalar.subi v1135 v1137
  let c4_i32_356 : BitVec 32 := 4#32
  let c0_i32_359 : BitVec 32 := 0#32
  let v1139 : BitVec 1 := Scalar.cmpi .sgt c4_i32_356 c0_i32_359
  let v1140 : BitVec 32 := Scalar.extui v1139
  let c0_i32_360 : BitVec 32 := 0#32
  let v1141 : BitVec 1 := Scalar.cmpi .slt c4_i32_356 c0_i32_360
  let v1142 : BitVec 32 := Scalar.extui v1141
  let v1143 : BitVec 32 := Scalar.subi v1140 v1142
  let v1144 : BitVec 1 := Scalar.cmpi .ne v1138 v1143
  let v1145 : BitVec 32 := Scalar.remsi v1119 c4_i32_356
  let c0_i32_361 : BitVec 32 := 0#32
  let v1146 : BitVec 1 := Scalar.cmpi .ne v1145 c0_i32_361
  let v1147 : BitVec 1 := Scalar.andi v1144 v1146
  let v1133 : BitVec 32 := Scalar.divsi v1119 c4_i32_356
  let c1_i32_362 : BitVec 32 := 1#32
  let v1148 : BitVec 32 := Scalar.subi v1133 c1_i32_362
  let v1149 : BitVec 32 := Scalar.select v1147 v1148 v1133
  v1149
def k0_off28 (v1119 : BitVec 32) : Fin 2 → Nat :=
  let c0_i32_357 : BitVec 32 := 0#32
  let v1134 : BitVec 1 := Scalar.cmpi .sgt v1119 c0_i32_357
  let v1135 : BitVec 32 := Scalar.extui v1134
  let c0_i32_358 : BitVec 32 := 0#32
  let v1136 : BitVec 1 := Scalar.cmpi .slt v1119 c0_i32_358
  let v1137 : BitVec 32 := Scalar.extui v1136
  let v1138 : BitVec 32 := Scalar.subi v1135 v1137
  let c4_i32_356 : BitVec 32 := 4#32
  let c0_i32_359 : BitVec 32 := 0#32
  let v1139 : BitVec 1 := Scalar.cmpi .sgt c4_i32_356 c0_i32_359
  let v1140 : BitVec 32 := Scalar.extui v1139
  let c0_i32_360 : BitVec 32 := 0#32
  let v1141 : BitVec 1 := Scalar.cmpi .slt c4_i32_356 c0_i32_360
  let v1142 : BitVec 32 := Scalar.extui v1141
  let v1143 : BitVec 32 := Scalar.subi v1140 v1142
  let v1144 : BitVec 1 := Scalar.cmpi .ne v1138 v1143
  let v1145 : BitVec 32 := Scalar.remsi v1119 c4_i32_356
  let c0_i32_361 : BitVec 32 := 0#32
  let v1146 : BitVec 1 := Scalar.cmpi .ne v1145 c0_i32_361
  let v1147 : BitVec 1 := Scalar.andi v1144 v1146
  let v1133 : BitVec 32 := Scalar.divsi v1119 c4_i32_356
  let c1_i32_362 : BitVec 32 := 1#32
  let v1148 : BitVec 32 := Scalar.subi v1133 c1_i32_362
  let v1149 : BitVec 32 := Scalar.select v1147 v1148 v1133
  let v1150 : BitVec 32 := v1149
  let v1151 : Index := Scalar.indexCast v1150
  let c0_363 : Index := 0#32
  ![v1151.toNat, 0]

def k0_chk14 (v1119 : BitVec 32) : Prop :=
  (8 ∣ (k0_mult27 v1119).toNat) ∧
  (∀ a, (k0_off27 v1119) a + S2048x32.size a ≤ S18432x32.size a) ∧
  (8 ∣ (k0_mult28 v1119).toNat) ∧
  (∀ a, (k0_off28 v1119) a + S512x128.size a ≤ S4608x128.size a)
theorem k0_mult27_dvd : ∀ (v1119 : BitVec 32) (k0_hw14 : k0_chk14 v1119), 8 ∣ (k0_mult27 v1119).toNat := fun v1119 k0_hw14 => k0_hw14.1
theorem k0_off27_inb : ∀ (v1119 : BitVec 32) (k0_hw14 : k0_chk14 v1119), ∀ a, (k0_off27 v1119) a + S2048x32.size a ≤ S18432x32.size a := fun v1119 k0_hw14 => k0_hw14.2.1
theorem k0_mult28_dvd : ∀ (v1119 : BitVec 32) (k0_hw14 : k0_chk14 v1119), 8 ∣ (k0_mult28 v1119).toNat := fun v1119 k0_hw14 => k0_hw14.2.2.1
theorem k0_off28_inb : ∀ (v1119 : BitVec 32) (k0_hw14 : k0_chk14 v1119), ∀ a, (k0_off28 v1119) a + S512x128.size a ≤ S4608x128.size a := fun v1119 k0_hw14 => k0_hw14.2.2.2

def k0_mult29 (v1201 : BitVec 32) : BitVec 32 :=
  v1201

def k0_off29 (v1201 : BitVec 32) : Fin 2 → Nat :=
  let v1205 : BitVec 32 := v1201
  let v1206 : Index := Scalar.indexCast v1205
  let c0_379 : Index := 0#32
  ![v1206.toNat, 0]
def k0_mult30 (v1201 : BitVec 32) : BitVec 32 :=
  let c0_i32_383 : BitVec 32 := 0#32
  let v1216 : BitVec 1 := Scalar.cmpi .sgt v1201 c0_i32_383
  let v1217 : BitVec 32 := Scalar.extui v1216
  let c0_i32_384 : BitVec 32 := 0#32
  let v1218 : BitVec 1 := Scalar.cmpi .slt v1201 c0_i32_384
  let v1219 : BitVec 32 := Scalar.extui v1218
  let v1220 : BitVec 32 := Scalar.subi v1217 v1219
  let c4_i32_382 : BitVec 32 := 4#32
  let c0_i32_385 : BitVec 32 := 0#32
  let v1221 : BitVec 1 := Scalar.cmpi .sgt c4_i32_382 c0_i32_385
  let v1222 : BitVec 32 := Scalar.extui v1221
  let c0_i32_386 : BitVec 32 := 0#32
  let v1223 : BitVec 1 := Scalar.cmpi .slt c4_i32_382 c0_i32_386
  let v1224 : BitVec 32 := Scalar.extui v1223
  let v1225 : BitVec 32 := Scalar.subi v1222 v1224
  let v1226 : BitVec 1 := Scalar.cmpi .ne v1220 v1225
  let v1227 : BitVec 32 := Scalar.remsi v1201 c4_i32_382
  let c0_i32_387 : BitVec 32 := 0#32
  let v1228 : BitVec 1 := Scalar.cmpi .ne v1227 c0_i32_387
  let v1229 : BitVec 1 := Scalar.andi v1226 v1228
  let v1215 : BitVec 32 := Scalar.divsi v1201 c4_i32_382
  let c1_i32_388 : BitVec 32 := 1#32
  let v1230 : BitVec 32 := Scalar.subi v1215 c1_i32_388
  let v1231 : BitVec 32 := Scalar.select v1229 v1230 v1215
  v1231
def k0_off30 (v1201 : BitVec 32) : Fin 2 → Nat :=
  let c0_i32_383 : BitVec 32 := 0#32
  let v1216 : BitVec 1 := Scalar.cmpi .sgt v1201 c0_i32_383
  let v1217 : BitVec 32 := Scalar.extui v1216
  let c0_i32_384 : BitVec 32 := 0#32
  let v1218 : BitVec 1 := Scalar.cmpi .slt v1201 c0_i32_384
  let v1219 : BitVec 32 := Scalar.extui v1218
  let v1220 : BitVec 32 := Scalar.subi v1217 v1219
  let c4_i32_382 : BitVec 32 := 4#32
  let c0_i32_385 : BitVec 32 := 0#32
  let v1221 : BitVec 1 := Scalar.cmpi .sgt c4_i32_382 c0_i32_385
  let v1222 : BitVec 32 := Scalar.extui v1221
  let c0_i32_386 : BitVec 32 := 0#32
  let v1223 : BitVec 1 := Scalar.cmpi .slt c4_i32_382 c0_i32_386
  let v1224 : BitVec 32 := Scalar.extui v1223
  let v1225 : BitVec 32 := Scalar.subi v1222 v1224
  let v1226 : BitVec 1 := Scalar.cmpi .ne v1220 v1225
  let v1227 : BitVec 32 := Scalar.remsi v1201 c4_i32_382
  let c0_i32_387 : BitVec 32 := 0#32
  let v1228 : BitVec 1 := Scalar.cmpi .ne v1227 c0_i32_387
  let v1229 : BitVec 1 := Scalar.andi v1226 v1228
  let v1215 : BitVec 32 := Scalar.divsi v1201 c4_i32_382
  let c1_i32_388 : BitVec 32 := 1#32
  let v1230 : BitVec 32 := Scalar.subi v1215 c1_i32_388
  let v1231 : BitVec 32 := Scalar.select v1229 v1230 v1215
  let v1232 : BitVec 32 := v1231
  let v1233 : Index := Scalar.indexCast v1232
  let c0_389 : Index := 0#32
  ![v1233.toNat, 0]

def k0_chk15 (v1201 : BitVec 32) : Prop :=
  (8 ∣ (k0_mult29 v1201).toNat) ∧
  (∀ a, (k0_off29 v1201) a + S2048x32.size a ≤ S18432x32.size a) ∧
  (8 ∣ (k0_mult30 v1201).toNat) ∧
  (∀ a, (k0_off30 v1201) a + S512x128.size a ≤ S4608x128.size a)
theorem k0_mult29_dvd : ∀ (v1201 : BitVec 32) (k0_hw15 : k0_chk15 v1201), 8 ∣ (k0_mult29 v1201).toNat := fun v1201 k0_hw15 => k0_hw15.1
theorem k0_off29_inb : ∀ (v1201 : BitVec 32) (k0_hw15 : k0_chk15 v1201), ∀ a, (k0_off29 v1201) a + S2048x32.size a ≤ S18432x32.size a := fun v1201 k0_hw15 => k0_hw15.2.1
theorem k0_mult30_dvd : ∀ (v1201 : BitVec 32) (k0_hw15 : k0_chk15 v1201), 8 ∣ (k0_mult30 v1201).toNat := fun v1201 k0_hw15 => k0_hw15.2.2.1
theorem k0_off30_inb : ∀ (v1201 : BitVec 32) (k0_hw15 : k0_chk15 v1201), ∀ a, (k0_off30 v1201) a + S512x128.size a ≤ S4608x128.size a := fun v1201 k0_hw15 => k0_hw15.2.2.2

def k0_mult31 (v1283 : BitVec 32) : BitVec 32 :=
  v1283

def k0_off31 (v1283 : BitVec 32) : Fin 2 → Nat :=
  let v1287 : BitVec 32 := v1283
  let v1288 : Index := Scalar.indexCast v1287
  let c0_405 : Index := 0#32
  ![v1288.toNat, 0]
def k0_mult32 (v1283 : BitVec 32) : BitVec 32 :=
  let c0_i32_409 : BitVec 32 := 0#32
  let v1298 : BitVec 1 := Scalar.cmpi .sgt v1283 c0_i32_409
  let v1299 : BitVec 32 := Scalar.extui v1298
  let c0_i32_410 : BitVec 32 := 0#32
  let v1300 : BitVec 1 := Scalar.cmpi .slt v1283 c0_i32_410
  let v1301 : BitVec 32 := Scalar.extui v1300
  let v1302 : BitVec 32 := Scalar.subi v1299 v1301
  let c4_i32_408 : BitVec 32 := 4#32
  let c0_i32_411 : BitVec 32 := 0#32
  let v1303 : BitVec 1 := Scalar.cmpi .sgt c4_i32_408 c0_i32_411
  let v1304 : BitVec 32 := Scalar.extui v1303
  let c0_i32_412 : BitVec 32 := 0#32
  let v1305 : BitVec 1 := Scalar.cmpi .slt c4_i32_408 c0_i32_412
  let v1306 : BitVec 32 := Scalar.extui v1305
  let v1307 : BitVec 32 := Scalar.subi v1304 v1306
  let v1308 : BitVec 1 := Scalar.cmpi .ne v1302 v1307
  let v1309 : BitVec 32 := Scalar.remsi v1283 c4_i32_408
  let c0_i32_413 : BitVec 32 := 0#32
  let v1310 : BitVec 1 := Scalar.cmpi .ne v1309 c0_i32_413
  let v1311 : BitVec 1 := Scalar.andi v1308 v1310
  let v1297 : BitVec 32 := Scalar.divsi v1283 c4_i32_408
  let c1_i32_414 : BitVec 32 := 1#32
  let v1312 : BitVec 32 := Scalar.subi v1297 c1_i32_414
  let v1313 : BitVec 32 := Scalar.select v1311 v1312 v1297
  v1313
def k0_off32 (v1283 : BitVec 32) : Fin 2 → Nat :=
  let c0_i32_409 : BitVec 32 := 0#32
  let v1298 : BitVec 1 := Scalar.cmpi .sgt v1283 c0_i32_409
  let v1299 : BitVec 32 := Scalar.extui v1298
  let c0_i32_410 : BitVec 32 := 0#32
  let v1300 : BitVec 1 := Scalar.cmpi .slt v1283 c0_i32_410
  let v1301 : BitVec 32 := Scalar.extui v1300
  let v1302 : BitVec 32 := Scalar.subi v1299 v1301
  let c4_i32_408 : BitVec 32 := 4#32
  let c0_i32_411 : BitVec 32 := 0#32
  let v1303 : BitVec 1 := Scalar.cmpi .sgt c4_i32_408 c0_i32_411
  let v1304 : BitVec 32 := Scalar.extui v1303
  let c0_i32_412 : BitVec 32 := 0#32
  let v1305 : BitVec 1 := Scalar.cmpi .slt c4_i32_408 c0_i32_412
  let v1306 : BitVec 32 := Scalar.extui v1305
  let v1307 : BitVec 32 := Scalar.subi v1304 v1306
  let v1308 : BitVec 1 := Scalar.cmpi .ne v1302 v1307
  let v1309 : BitVec 32 := Scalar.remsi v1283 c4_i32_408
  let c0_i32_413 : BitVec 32 := 0#32
  let v1310 : BitVec 1 := Scalar.cmpi .ne v1309 c0_i32_413
  let v1311 : BitVec 1 := Scalar.andi v1308 v1310
  let v1297 : BitVec 32 := Scalar.divsi v1283 c4_i32_408
  let c1_i32_414 : BitVec 32 := 1#32
  let v1312 : BitVec 32 := Scalar.subi v1297 c1_i32_414
  let v1313 : BitVec 32 := Scalar.select v1311 v1312 v1297
  let v1314 : BitVec 32 := v1313
  let v1315 : Index := Scalar.indexCast v1314
  let c0_415 : Index := 0#32
  ![v1315.toNat, 0]

def k0_chk16 (v1283 : BitVec 32) : Prop :=
  (8 ∣ (k0_mult31 v1283).toNat) ∧
  (∀ a, (k0_off31 v1283) a + S2048x32.size a ≤ S18432x32.size a) ∧
  (8 ∣ (k0_mult32 v1283).toNat) ∧
  (∀ a, (k0_off32 v1283) a + S512x128.size a ≤ S4608x128.size a)
theorem k0_mult31_dvd : ∀ (v1283 : BitVec 32) (k0_hw16 : k0_chk16 v1283), 8 ∣ (k0_mult31 v1283).toNat := fun v1283 k0_hw16 => k0_hw16.1
theorem k0_off31_inb : ∀ (v1283 : BitVec 32) (k0_hw16 : k0_chk16 v1283), ∀ a, (k0_off31 v1283) a + S2048x32.size a ≤ S18432x32.size a := fun v1283 k0_hw16 => k0_hw16.2.1
theorem k0_mult32_dvd : ∀ (v1283 : BitVec 32) (k0_hw16 : k0_chk16 v1283), 8 ∣ (k0_mult32 v1283).toNat := fun v1283 k0_hw16 => k0_hw16.2.2.1
theorem k0_off32_inb : ∀ (v1283 : BitVec 32) (k0_hw16 : k0_chk16 v1283), ∀ a, (k0_off32 v1283) a + S512x128.size a ≤ S4608x128.size a := fun v1283 k0_hw16 => k0_hw16.2.2.2

@[reducible] def k0_t1_loop : Scf.Loop 32 :=
  let c1_i32_565 : BitVec 32 := 1#32
  let c3_i32_566 : BitVec 32 := 3#32
  let v1629 : BitVec 32 := Scalar.addi c1_i32_565 c3_i32_566
  let c1_i32_567 : BitVec 32 := 1#32
  ⟨c1_i32_565, v1629, c1_i32_567⟩
def k0_mult33 (k0_t1 : Fin k0_t1_loop.trips) : BitVec 32 :=
  let c1_i32_565 : BitVec 32 := 1#32
  let c1_i32_567 : BitVec 32 := 1#32
  let arg20 : BitVec 32 := Scf.iv c1_i32_565 c1_i32_567 k0_t1
  let c16_i32 : BitVec 32 := 16#32
  let v2021 : BitVec 32 := Scalar.muli arg20 c16_i32
  v2021
def k0_off33 (k0_t1 : Fin k0_t1_loop.trips) : Fin 3 → Nat :=
  let c0_759 : Index := 0#32
  let c1_i32_565 : BitVec 32 := 1#32
  let c1_i32_567 : BitVec 32 := 1#32
  let arg20 : BitVec 32 := Scf.iv c1_i32_565 c1_i32_567 k0_t1
  let c16_i32 : BitVec 32 := 16#32
  let v2021 : BitVec 32 := Scalar.muli arg20 c16_i32
  let v2022 : BitVec 32 := v2021
  let v2023 : Index := Scalar.indexCast v2022
  let c0_760 : Index := 0#32
  ![0, v2023.toNat, 0]
@[reducible] def k0_t2_loop : Scf.Loop 32 :=
  let c4_i32_569 : BitVec 32 := 4#32
  let c4_i32_570 : BitVec 32 := 4#32
  let v1631 : BitVec 32 := Scalar.addi c4_i32_569 c4_i32_570
  let c1_i32_571 : BitVec 32 := 1#32
  ⟨c4_i32_569, v1631, c1_i32_571⟩
def k0_mult34 (k0_t2 : Fin k0_t2_loop.trips) : BitVec 32 :=
  let c4_i32_569 : BitVec 32 := 4#32
  let c1_i32_571 : BitVec 32 := 1#32
  let arg20 : BitVec 32 := Scf.iv c4_i32_569 c1_i32_571 k0_t2
  let c16_i32 : BitVec 32 := 16#32
  let v2021 : BitVec 32 := Scalar.muli arg20 c16_i32
  v2021
def k0_off34 (k0_t2 : Fin k0_t2_loop.trips) : Fin 3 → Nat :=
  let c0_759 : Index := 0#32
  let c4_i32_569 : BitVec 32 := 4#32
  let c1_i32_571 : BitVec 32 := 1#32
  let arg20 : BitVec 32 := Scf.iv c4_i32_569 c1_i32_571 k0_t2
  let c16_i32 : BitVec 32 := 16#32
  let v2021 : BitVec 32 := Scalar.muli arg20 c16_i32
  let v2022 : BitVec 32 := v2021
  let v2023 : Index := Scalar.indexCast v2022
  let c0_760 : Index := 0#32
  ![0, v2023.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S18432x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4608x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x16 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x32 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S16384x1x32 : Shape := ⟨3, ![16384, 1, 32]⟩
abbrev S16384x1 : Shape := ⟨2, ![16384, 1]⟩
abbrev S17 : Shape := ⟨1, ![17]⟩
abbrev S1x32x32 : Shape := ⟨3, ![1, 32, 32]⟩
abbrev S1x32 : Shape := ⟨2, ![1, 32]⟩
abbrev S16 : Shape := ⟨1, ![16]⟩
abbrev S16x1 : Shape := ⟨2, ![16, 1]⟩
abbrev S2048 : Shape := ⟨1, ![2048]⟩
abbrev S1x2048 : Shape := ⟨2, ![1, 2048]⟩
abbrev S16x2048 : Shape := ⟨2, ![16, 2048]⟩
abbrev S_ : Shape := ⟨0, ![]⟩
abbrev S16x2048x1 : Shape := ⟨3, ![16, 2048, 1]⟩
abbrev S16x2048x1x32 : Shape := ⟨4, ![16, 2048, 1, 32]⟩
abbrev S2048x16x1x32 : Shape := ⟨4, ![2048, 16, 1, 32]⟩
abbrev S2048x16 : Shape := ⟨2, ![2048, 16]⟩
abbrev S1x1x32 : Shape := ⟨3, ![1, 1, 32]⟩
abbrev S1x16x1x32 : Shape := ⟨4, ![1, 16, 1, 32]⟩
abbrev S16x1x32 : Shape := ⟨3, ![16, 1, 32]⟩
abbrev S2047x16x1x32 : Shape := ⟨4, ![2047, 16, 1, 32]⟩
abbrev S2047x16 : Shape := ⟨2, ![2047, 16]⟩
abbrev S1x16 : Shape := ⟨2, ![1, 16]⟩
abbrev S16x1x32x1 : Shape := ⟨4, ![16, 1, 32, 1]⟩
abbrev S1x1x32x32 : Shape := ⟨4, ![1, 1, 32, 32]⟩
abbrev S16x1x32x32 : Shape := ⟨4, ![16, 1, 32, 32]⟩
abbrev S16x1x1x32 : Shape := ⟨4, ![16, 1, 1, 32]⟩
abbrev S16x1x1 : Shape := ⟨3, ![16, 1, 1]⟩
abbrev S16384 : Shape := ⟨1, ![16384]⟩
abbrev S1x17 : Shape := ⟨2, ![1, 17]⟩
abbrev S16384x17 : Shape := ⟨2, ![16384, 17]⟩
abbrev S16384x1x1 : Shape := ⟨3, ![16384, 1, 1]⟩
abbrev S1x16384 : Shape := ⟨2, ![1, 16384]⟩
abbrev S1x16384x1 : Shape := ⟨3, ![1, 16384, 1]⟩
abbrev S1x16384x32 : Shape := ⟨3, ![1, 16384, 32]⟩
abbrev S1x16x1 : Shape := ⟨3, ![1, 16, 1]⟩

abbrev nBuf : Space → Nat
  | .hbm => 180
  | .vmem => 0
  | .smem => 0
  | _ => 0

abbrev hbmTy0_0 (i : Nat) : BufTy := match i % 128 with
  | 0 => ⟨S16384x1x32, .f32⟩
  | 1 => ⟨S16384x1, .i32⟩
  | 2 => ⟨S17, .i32⟩
  | 3 => ⟨S1x32x32, .f32⟩
  | 4 => ⟨S1x32, .f32⟩
  | 5 => ⟨S1x32, .f32⟩
  | 6 => ⟨S16, .i32⟩
  | 7 => ⟨S16, .i32⟩
  | 8 => ⟨S16, .i32⟩
  | 9 => ⟨S16, .i32⟩
  | 10 => ⟨S16x1, .i32⟩
  | 11 => ⟨S2048, .i32⟩
  | 12 => ⟨S1x2048, .i32⟩
  | 13 => ⟨S16x2048, .i32⟩
  | 14 => ⟨S16x2048, .i32⟩
  | 15 => ⟨S16x2048, .i32⟩
  | 16 => ⟨S_, .i32⟩
  | 17 => ⟨S_, .i32⟩
  | 18 => ⟨S_, .i32⟩
  | 19 => ⟨S16x2048, .i32⟩
  | 20 => ⟨S16x2048, .i32⟩
  | 21 => ⟨S_, .i32⟩
  | 22 => ⟨S16x2048, .i32⟩
  | 23 => ⟨S16x2048, .i32⟩
  | 24 => ⟨S16x2048x1, .i32⟩
  | 25 => ⟨S16x2048x1x32, .f32⟩
  | 26 => ⟨S2048, .i32⟩
  | 27 => ⟨S1x2048, .i32⟩
  | 28 => ⟨S16x1, .i32⟩
  | 29 => ⟨S16x2048, .i32⟩
  | 30 => ⟨S16x2048, .i32⟩
  | 31 => ⟨S16x2048, .i1⟩
  | 32 => ⟨S2048x16x1x32, .f32⟩
  | 33 => ⟨S2048x16, .i1⟩
  | 34 => ⟨S1x1x32, .f32⟩
  | 35 => ⟨S1x16x1x32, .f32⟩
  | 36 => ⟨S16x1x32, .f32⟩
  | 37 => ⟨S16x1x32, .f32⟩
  | 38 => ⟨S16x1x32, .f32⟩
  | 39 => ⟨S2047x16x1x32, .f32⟩
  | 40 => ⟨S2047x16, .i1⟩
  | 41 => ⟨S_, .i32⟩
  | 42 => ⟨S2047x16x1x32, .f32⟩
  | 43 => ⟨S2047x16, .i1⟩
  | 44 => ⟨S1x32x32, .f32⟩
  | 45 => ⟨S_, .i32⟩
  | 46 => ⟨S16x1x32, .f32⟩
  | 47 => ⟨S_, .i32⟩
  | 48 => ⟨S_, .i1⟩
  | 49 => ⟨S_, .i32⟩
  | 50 => ⟨S_, .i32⟩
  | 51 => ⟨S_, .i32⟩
  | 52 => ⟨S1x16x1x32, .f32⟩
  | 53 => ⟨S16x1x32, .f32⟩
  | 54 => ⟨S_, .i32⟩
  | 55 => ⟨S1x16, .i1⟩
  | 56 => ⟨S16, .i1⟩
  | 57 => ⟨S16x1x32x1, .f32⟩
  | 58 => ⟨S1x1x32x32, .f32⟩
  | 59 => ⟨S16x1x32x32, .f32⟩
  | 60 => ⟨S16x1x32x32, .f32⟩
  | 61 => ⟨S16x1x32x32, .f32⟩
  | 62 => ⟨S_, .f32⟩
  | 63 => ⟨S16x1x32, .f32⟩
  | 64 => ⟨S16x1x32, .f32⟩
  | 65 => ⟨S_, .f32⟩
  | 66 => ⟨S16x1x32, .f32⟩
  | 67 => ⟨S16x1x32, .i1⟩
  | 68 => ⟨S_, .f32⟩
  | 69 => ⟨S_, .f32⟩
  | 70 => ⟨S16x1x32, .f32⟩
  | 71 => ⟨S16x1x32, .f32⟩
  | 72 => ⟨S16x1x1x32, .f32⟩
  | 73 => ⟨S16x1x32x32, .f32⟩
  | 74 => ⟨S16x1x32x32, .f32⟩
  | 75 => ⟨S16x1x32x32, .f32⟩
  | 76 => ⟨S_, .f32⟩
  | 77 => ⟨S16x1x32, .f32⟩
  | 78 => ⟨S16x1x32, .f32⟩
  | 79 => ⟨S16x1x32, .f32⟩
  | 80 => ⟨S16x1x32, .f32⟩
  | 81 => ⟨S16x1x1, .i1⟩
  | 82 => ⟨S16x1x32, .i1⟩
  | 83 => ⟨S16x1x32, .f32⟩
  | 84 => ⟨S_, .i32⟩
  | 85 => ⟨S_, .i32⟩
  | 86 => ⟨S1x1x32, .f32⟩
  | 87 => ⟨S16x1x32, .f32⟩
  | 88 => ⟨S16x1x32, .f32⟩
  | 89 => ⟨S_, .f32⟩
  | 90 => ⟨S16x1, .f32⟩
  | 91 => ⟨S16x1, .f32⟩
  | 92 => ⟨S_, .f32⟩
  | 93 => ⟨S16x1, .f32⟩
  | 94 => ⟨S16x1, .i1⟩
  | 95 => ⟨S_, .f32⟩
  | 96 => ⟨S_, .f32⟩
  | 97 => ⟨S16x1, .f32⟩
  | 98 => ⟨S16x1, .f32⟩
  | 99 => ⟨S16x1x1, .f32⟩
  | 100 => ⟨S16x1x32, .f32⟩
  | 101 => ⟨S16x1x32, .f32⟩
  | 102 => ⟨S16x1x32, .f32⟩
  | 103 => ⟨S_, .f32⟩
  | 104 => ⟨S16x1, .f32⟩
  | 105 => ⟨S16x1, .f32⟩
  | 106 => ⟨S16x1, .f32⟩
  | 107 => ⟨S16384, .i32⟩
  | 108 => ⟨S1x17, .i32⟩
  | 109 => ⟨S16384x1, .i32⟩
  | 110 => ⟨S16384x17, .i32⟩
  | 111 => ⟨S16384x17, .i32⟩
  | 112 => ⟨S16384x17, .i1⟩
  | 113 => ⟨S16384x17, .i32⟩
  | 114 => ⟨S_, .i32⟩
  | 115 => ⟨S16384, .i32⟩
  | 116 => ⟨S_, .i32⟩
  | 117 => ⟨S16384, .i32⟩
  | 118 => ⟨S16384, .i32⟩
  | 119 => ⟨S16384x1, .i32⟩
  | 120 => ⟨S16384, .i32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S16384x1x32, .f32⟩

abbrev hbmTy0_1 (i : Nat) : BufTy := match i % 128 with
  | 0 => ⟨S16384, .i32⟩
  | 1 => ⟨S16384x1x1, .i32⟩
  | 2 => ⟨S_, .i32⟩
  | 3 => ⟨S16384x1x1, .i32⟩
  | 4 => ⟨S16384x1x1, .i1⟩
  | 5 => ⟨S_, .i32⟩
  | 6 => ⟨S16384x1x1, .i32⟩
  | 7 => ⟨S16384x1x1, .i32⟩
  | 8 => ⟨S16384x1x1, .i32⟩
  | 9 => ⟨S16384x1x1, .f32⟩
  | 10 => ⟨S_, .f32⟩
  | 11 => ⟨S16384x1, .f32⟩
  | 12 => ⟨S16384x1, .i32⟩
  | 13 => ⟨S16384x1, .i32⟩
  | 14 => ⟨S1x16384, .i32⟩
  | 15 => ⟨S1x16384x1, .i32⟩
  | 16 => ⟨S1x16384x32, .f32⟩
  | 17 => ⟨S16384x1x32, .f32⟩
  | 18 => ⟨S16384x1x1, .i32⟩
  | 19 => ⟨S_, .i32⟩
  | 20 => ⟨S16384x1x1, .i32⟩
  | 21 => ⟨S16384x1x1, .i1⟩
  | 22 => ⟨S_, .i32⟩
  | 23 => ⟨S16384x1x1, .i32⟩
  | 24 => ⟨S16384x1x1, .i32⟩
  | 25 => ⟨S16384x1x1, .i32⟩
  | 26 => ⟨S16384x1x1, .f32⟩
  | 27 => ⟨S_, .f32⟩
  | 28 => ⟨S16384x1, .f32⟩
  | 29 => ⟨S1x16384, .i32⟩
  | 30 => ⟨S1x16384x1, .i32⟩
  | 31 => ⟨S1x16384, .f32⟩
  | 32 => ⟨S16384x1, .f32⟩
  | 33 => ⟨S16384x1, .i1⟩
  | 34 => ⟨S16384x1, .f32⟩
  | 35 => ⟨S16384x1, .f32⟩
  | 36 => ⟨S_, .f32⟩
  | 37 => ⟨S16x1, .f32⟩
  | 38 => ⟨S16384x1, .i32⟩
  | 39 => ⟨S16x1, .f32⟩
  | 40 => ⟨S16, .i32⟩
  | 41 => ⟨S_, .i32⟩
  | 42 => ⟨S16, .i32⟩
  | 43 => ⟨S16, .i32⟩
  | 44 => ⟨S16x1, .i32⟩
  | 45 => ⟨S16x1, .i32⟩
  | 46 => ⟨S1x16, .i32⟩
  | 47 => ⟨S1x16x1, .i32⟩
  | 48 => ⟨S1x16, .f32⟩
  | 49 => ⟨S16x1, .f32⟩
  | 50 => ⟨S16x1, .f32⟩
  | 51 => ⟨S16x1, .f32⟩
  | _ => ⟨S16384x1x32, .f32⟩

abbrev hbmTy (i : Nat) : BufTy := match i / 128 with
  | 0 => hbmTy0_0 i
  | 1 => hbmTy0_1 i
  | _ => ⟨S16384x1x32, .f32⟩

abbrev bufTy : (tb : Table) → Fin (tcTables nBuf tb) → BufTy
  | .hbm, ⟨i, _⟩ => hbmTy i
  | _, _ => ⟨S16384x1x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev main_v28_3 : Ref sig .tc := ⟨.hbm, 45, rfl⟩
abbrev main_v28_4 : Ref sig .tc := ⟨.hbm, 46, rfl⟩
abbrev main_while0c_c_17 : Ref sig .tc := ⟨.hbm, 47, rfl⟩
abbrev main_while0c_v95 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_v0 : Ref sig .tc := ⟨.hbm, 52, rfl⟩
abbrev main_while0b_v95 : Ref sig .tc := ⟨.hbm, 53, rfl⟩
abbrev main_while0b_call2_c : Ref sig .tc := ⟨.hbm, 54, rfl⟩
abbrev main_while0b_call2_v0 : Ref sig .tc := ⟨.hbm, 55, rfl⟩
abbrev main_while0b_v96 : Ref sig .tc := ⟨.hbm, 56, rfl⟩
abbrev main_while0b_v97 : Ref sig .tc := ⟨.hbm, 57, rfl⟩
abbrev main_while0b_v98 : Ref sig .tc := ⟨.hbm, 58, rfl⟩
abbrev main_while0b_v99 : Ref sig .tc := ⟨.hbm, 59, rfl⟩
abbrev main_while0b_v100 : Ref sig .tc := ⟨.hbm, 60, rfl⟩
abbrev main_while0b_v101 : Ref sig .tc := ⟨.hbm, 61, rfl⟩
abbrev main_while0b_cst_17 : Ref sig .tc := ⟨.hbm, 62, rfl⟩
abbrev main_while0b_v102 : Ref sig .tc := ⟨.hbm, 63, rfl⟩
abbrev main_while0b_v103 : Ref sig .tc := ⟨.hbm, 64, rfl⟩
abbrev main_while0b_cst_18 : Ref sig .tc := ⟨.hbm, 65, rfl⟩
abbrev main_while0b_v104 : Ref sig .tc := ⟨.hbm, 66, rfl⟩
abbrev main_while0b_v105 : Ref sig .tc := ⟨.hbm, 67, rfl⟩
abbrev main_while0b_cst_19 : Ref sig .tc := ⟨.hbm, 68, rfl⟩
abbrev main_while0b_call3_v0 : Ref sig .tc := ⟨.hbm, 69, rfl⟩
abbrev main_while0b_call3_v1 : Ref sig .tc := ⟨.hbm, 70, rfl⟩
abbrev main_while0b_v106 : Ref sig .tc := ⟨.hbm, 71, rfl⟩
abbrev main_while0b_v107 : Ref sig .tc := ⟨.hbm, 72, rfl⟩
abbrev main_while0b_v108 : Ref sig .tc := ⟨.hbm, 73, rfl⟩
abbrev main_while0b_v109 : Ref sig .tc := ⟨.hbm, 74, rfl⟩
abbrev main_while0b_v110 : Ref sig .tc := ⟨.hbm, 75, rfl⟩
abbrev main_while0b_cst_20 : Ref sig .tc := ⟨.hbm, 76, rfl⟩
abbrev main_while0b_v111 : Ref sig .tc := ⟨.hbm, 77, rfl⟩
abbrev main_while0b_v112 : Ref sig .tc := ⟨.hbm, 78, rfl⟩
abbrev main_while0b_v113 : Ref sig .tc := ⟨.hbm, 79, rfl⟩
abbrev main_while0b_v114 : Ref sig .tc := ⟨.hbm, 80, rfl⟩
abbrev main_while0b_v115 : Ref sig .tc := ⟨.hbm, 81, rfl⟩
abbrev main_while0b_call4_v0 : Ref sig .tc := ⟨.hbm, 82, rfl⟩
abbrev main_while0b_v116 : Ref sig .tc := ⟨.hbm, 83, rfl⟩
abbrev main_while0b_c_21 : Ref sig .tc := ⟨.hbm, 84, rfl⟩
abbrev main_while0b_v117 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_cst : Ref sig .tc := ⟨.hbm, 89, rfl⟩
abbrev main_v32 : Ref sig .tc := ⟨.hbm, 90, rfl⟩
abbrev main_v33 : Ref sig .tc := ⟨.hbm, 91, rfl⟩
abbrev main_cst_2 : Ref sig .tc := ⟨.hbm, 92, rfl⟩
abbrev main_v34 : Ref sig .tc := ⟨.hbm, 93, rfl⟩
abbrev main_v35 : Ref sig .tc := ⟨.hbm, 94, rfl⟩
abbrev main_cst_3 : Ref sig .tc := ⟨.hbm, 95, rfl⟩
abbrev main_call5_v0 : Ref sig .tc := ⟨.hbm, 96, rfl⟩
abbrev main_call5_v1 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_cst_4 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_c_5 : Ref sig .tc := ⟨.hbm, 114, rfl⟩
abbrev main_v51 : Ref sig .tc := ⟨.hbm, 115, rfl⟩
abbrev main_c_6 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_c_7 : Ref sig .tc := ⟨.hbm, 122, rfl⟩
abbrev main_v57 : Ref sig .tc := ⟨.hbm, 123, rfl⟩
abbrev main_v58 : Ref sig .tc := ⟨.hbm, 124, rfl⟩
abbrev main_c_8 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_call7_c : Ref sig .tc := ⟨.hbm, 130, rfl⟩
abbrev main_call7_v0 : Ref sig .tc := ⟨.hbm, 131, rfl⟩
abbrev main_call7_v1 : Ref sig .tc := ⟨.hbm, 132, rfl⟩
abbrev main_call7_c_0 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_v63 : Ref sig .tc := ⟨.hbm, 137, rfl⟩
abbrev main_cst_9 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_call8_c : Ref sig .tc := ⟨.hbm, 147, rfl⟩
abbrev main_call8_v0 : Ref sig .tc := ⟨.hbm, 148, rfl⟩
abbrev main_call8_v1 : Ref sig .tc := ⟨.hbm, 149, rfl⟩
abbrev main_call8_c_0 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_v72 : Ref sig .tc := ⟨.hbm, 154, rfl⟩
abbrev main_cst_10 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_11 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_c_12 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩

abbrev nD : Nat := 1
abbrev τ : Topo := Topo.v7x

variable {F : FTy → Type} [FloatOps F]

abbrev main_while0_count : Scf.Loop 32 := ⟨0#32, 2047#32, 1#32⟩
-- ==== Proof.Packed.lean ====
module
public import proofs.«01_k».proof.Proof.Gen.Pre_packed
public import proofs.«01_k».proof.Proof.Gen.Pre_packed_finite
public import proofs.«01_k».proof.Defs
public import Idealize.ShloMosaic.Lib.Pointwise
public import Idealize.ShloMosaic.Lib.ReduceAll
@[expose] public section

/-! The offsets of a packed batch: what the preconditions say of the 17 words of `cu_seqlens`, as natural numbers. -/

noncomputable section

namespace Cert.Crf

open Idealize.ShloMosaic

/-- Offsets of 16 sequences packed one after another over 16384 tokens, each of a length in [64, 2048] that is a
    multiple of 64. -/
structure Packed (cu : Fin 17 → ℕ) : Prop where
  zero : cu 0 = 0
  last : cu 16 = 16384
  lo : ∀ b : Fin 16, cu b.castSucc + 64 ≤ cu b.succ
  hi : ∀ b : Fin 16, cu b.succ ≤ cu b.castSucc + 2048
  dvd : ∀ b : Fin 16, 64 ∣ cu b.succ - cu b.castSucc

/-- The words of a vector of 17 words, as natural numbers. -/
def cuN (x : (⟨1, ![17]⟩ : Shape).Idx → BitVec 32) (j : Fin 17) : ℕ := (x (ix1 j)).toNat

/-- Every offset is a multiple of 64. -/
theorem Packed.dvd_cu {cu : Fin 17 → ℕ} (h : Packed cu) (j : Fin 17) : 64 ∣ cu j := by
  induction j using Fin.induction with
  | zero => rw [h.zero]; exact dvd_zero _
  | succ b ih =>
    have h1 := h.dvd b
    have h2 := h.lo b
    omega

/-- Offsets before the last lie 64 short of the end, at most. -/
theorem Packed.le_cu {cu : Fin 17 → ℕ} (h : Packed cu) (b : Fin 16) : cu b.castSucc + 64 ≤ 16384 := by
  have l := h.lo
  have e := h.last
  simp only [Fin.forall_fin_succ, Fin.succ_zero_eq_one, Fin.castSucc_zero] at l
  fin_cases b <;> simp_all <;> omega

/-- One step between two words whose difference is small: no wrap. -/
theorem step_word (v w : BitVec 32) (hv : v.toNat < 2 ^ 20)
    (h1 : IntOp.cmpi .sge (w - v) 64#32 = 1#1) (h2 : IntOp.cmpi .sle (w - v) 2048#32 = 1#1)
    (h3 : IntOp.cmpi .eq ((w - v) &&& 63#32) 0#32 = 1#1) :
    v.toNat + 64 ≤ w.toNat ∧ w.toNat ≤ v.toNat + 2048 ∧ 64 ∣ w.toNat - v.toNat := by
  have ofBool_eq_one (p : Bool) : (BitVec.ofBool p = 1#1) ↔ p = true := by cases p <;> decide
  simp only [IntOp.cmpi, ofBool_eq_one, BitVec.sle, decide_eq_true_eq, BitVec.toInt, BitVec.toNat_ofNat,
    beq_iff_eq] at h1 h2 h3
  have h3' := congrArg BitVec.toNat h3
  have e63 : (63#32 : BitVec 32).toNat = 2 ^ 6 - 1 := rfl
  rw [BitVec.toNat_and, e63, Nat.and_two_pow_sub_one_eq_mod] at h3'
  simp only [BitVec.toNat_ofNat] at h3'
  have hs : (w - v).toNat = (2 ^ 32 - v.toNat + w.toNat) % 2 ^ 32 := BitVec.toNat_sub _ _
  have hw := w.isLt
  omega

/-- The offsets' conditions, decoded from the words' comparisons. -/
theorem packed_of_words (x : (⟨1, ![17]⟩ : Shape).Idx → BitVec 32)
    (h0 : x (ix1 0) = 0#32) (h16 : x (ix1 16) = 16384#32)
    (h1 : ∀ b : Fin 16, IntOp.cmpi .sge (x (ix1 b.succ) - x (ix1 b.castSucc)) 64#32 = 1#1)
    (h2 : ∀ b : Fin 16, IntOp.cmpi .sle (x (ix1 b.succ) - x (ix1 b.castSucc)) 2048#32 = 1#1)
    (h3 : ∀ b : Fin 16, IntOp.cmpi .eq ((x (ix1 b.succ) - x (ix1 b.castSucc)) &&& 63#32) 0#32 = 1#1) :
    Packed (cuN x) := by
  have small : ∀ j : Fin 17, cuN x j ≤ 2048 * j.val := by
    intro j
    induction j using Fin.induction with
    | zero => simp [cuN, h0]
    | succ b ih =>
      have hb := b.isLt
      simp only [Fin.val_castSucc] at ih
      have := step_word (x (ix1 b.castSucc)) (x (ix1 b.succ)) (by unfold cuN at ih; omega) (h1 b) (h2 b) (h3 b)
      unfold cuN at *
      simp only [Fin.val_succ]
      omega
  have st : ∀ b : Fin 16, _ := fun b =>
    step_word (x (ix1 b.castSucc)) (x (ix1 b.succ))
      (by have := small b.castSucc; have hb := b.isLt; simp only [Fin.val_castSucc] at this; unfold cuN at this; omega)
      (h1 b) (h2 b) (h3 b)
  exact ⟨by simp [cuN, h0], by simp [cuN, h16], fun b => (st b).1, fun b => (st b).2.1, fun b => (st b).2.2⟩

theorem andi_eq_one (p q : BitVec 1) : IntOp.andi p q = 1#1 ↔ p = 1#1 ∧ q = 1#1 := by
  revert p q; decide

theorem cmpi_eq_one (v w : BitVec 32) : IntOp.cmpi .eq v w = 1#1 ↔ v = w := by
  have ofBool_eq_one (p : Bool) : (BitVec.ofBool p = 1#1) ↔ p = true := by cases p <;> decide
  simp [IntOp.cmpi, ofBool_eq_one]

/-- The predicate `packed`, all ones, says the offsets are packed. -/
theorem packed_of_fn [Pre_packed.Facts] {F : FTy → Type} [FloatOps F] (x0 : FVec F Pre_packed.S16384x1x32 .f32) (x1 : IVec Pre_packed.S16384x1 32)
    (x2 : IVec Pre_packed.S17 32) (x3 : FVec F Pre_packed.S1x32x32 .f32) (x4 x5 : FVec F Pre_packed.S1x32 .f32)
    (h : Pre_packed.fn x0 x1 x2 x3 x4 x5 = fun _ => 1#1) : Packed (cuN x2) := by
  have e : ∀ b : Fin 16, _ := fun b => congrFun h (ix1 b)
  pointwise [Pre_packed.fn, Pre_packed.fn_part1] at e
  simp only [andi_eq_one] at e
  have hs : ∀ b : Fin 16, (ix1 ⟨1 + b.val, by omega⟩ : Pre_packed.S17.Idx) = ix1 b.succ := fun b => by
    congr 1; ext; simp [Nat.add_comm]
  have hc : ∀ b : Fin 16, (ix1 ⟨b.val, by omega⟩ : Pre_packed.S17.Idx) = ix1 b.castSucc := fun b => rfl
  simp only [hs, hc] at e
  exact packed_of_words x2 ((cmpi_eq_one _ _).mp (e 0).1.2) ((cmpi_eq_one _ _).mp (e 0).2)
    (fun b => (e b).1.1.1.1) (fun b => (e b).1.1.1.2) (fun b => (e b).1.1.2)

/-- What `packed_finite` says: packed offsets, tags below 32, and every float a real number. -/
structure Inputs (x0 : (⟨3, ![16384, 1, 32]⟩ : Shape).Idx → EReal) (x1 : (⟨2, ![16384, 1]⟩ : Shape).Idx → BitVec 32)
    (x2 : (⟨1, ![17]⟩ : Shape).Idx → BitVec 32) (x3 : (⟨3, ![1, 32, 32]⟩ : Shape).Idx → EReal)
    (x4 x5 : (⟨2, ![1, 32]⟩ : Shape).Idx → EReal) : Prop where
  packed : Packed (cuN x2)
  tag : ∀ i, (x1 i).toNat < 32
  em : ∀ i, ∃ r : ℝ, x0 i = r
  tr : ∀ i, ∃ r : ℝ, x3 i = r
  st : ∀ i, ∃ r : ℝ, x4 i = r
  en : ∀ i, ∃ r : ℝ, x5 i = r

theorem fold_and_of_eq_one {ι : Type} [Fintype ι] (f : ι → BitVec 1) (h : Finset.fold IntOp.andi (1#1) f Finset.univ = 1#1)
    (i : ι) : f i = 1#1 := by
  classical
  have key : ∀ s : Finset ι, Finset.fold IntOp.andi (1#1) f s = 1#1 → ∀ i ∈ s, f i = 1#1 := by
    intro s
    induction s using Finset.induction_on with
    | empty => intro _ i hi; simp at hi
    | insert a s ha ih =>
      intro e i hi
      rw [Finset.fold_insert ha, andi_eq_one] at e
      rcases Finset.mem_insert.mp hi with rfl | hi
      · exact e.1
      · exact ih e.2 i hi
  exact key _ h i (Finset.mem_univ _)

/-- An absolute value below the infinity is that of a real number. -/
theorem real_of_abs_lt (x : Ideal .f32)
    (h : BitVec.ofBool (decide (FloatOps.absf x < Ideal.ofBits .f32 2139095040#32)) = 1#1) :
    ∃ r : ℝ, (x : EReal) = r := by
  have ofBool_eq_one (p : Bool) : (BitVec.ofBool p = 1#1) ↔ p = true := by cases p <;> decide
  rw [ofBool_eq_one, decide_eq_true_eq] at h
  have e : Ideal.ofBits .f32 2139095040#32 = (⊤ : EReal) := by
    simp [Ideal.ofBits, Ideal.ieee]
  rw [e] at h
  change EReal at x
  induction x with
  | bot => exact absurd h (by simp [FloatOps.absf])
  | top => exact absurd h (by simp [FloatOps.absf])
  | coe r => exact ⟨r, rfl⟩

/-- The predicate `packed_finite`, all ones. -/
theorem inputs_of_fn [Pre_packed_finite.Facts] (x0 : FVec Ideal Pre_packed.S16384x1x32 .f32) (x1 : IVec Pre_packed.S16384x1 32)
    (x2 : IVec Pre_packed.S17 32) (x3 : FVec Ideal Pre_packed.S1x32x32 .f32) (x4 x5 : FVec Ideal Pre_packed.S1x32 .f32)
    (h : Pre_packed_finite.fn x0 x1 x2 x3 x4 x5 = fun _ => 1#1) : Inputs x0 x1 x2 x3 x4 x5 := by
  have e : ∀ b : Fin 16, _ := fun b => congrFun h (ix1 b)
  pointwise [Pre_packed_finite.fn, Pre_packed_finite.fn_part1, Pre_packed_finite.fn_part2] at e
  simp only [andi_eq_one] at e
  have hs : ∀ b : Fin 16, (ix1 ⟨1 + b.val, by omega⟩ : Pre_packed.S17.Idx) = ix1 b.succ := fun b => by
    congr 1; ext; simp [Nat.add_comm]
  have hc : ∀ b : Fin 16, (ix1 ⟨b.val, by omega⟩ : Pre_packed.S17.Idx) = ix1 b.castSucc := fun b => rfl
  simp only [hs, hc] at e
  obtain ⟨⟨⟨⟨⟨-, ht⟩, h0⟩, h3⟩, h4⟩, h5⟩ := e 0
  refine ⟨packed_of_words x2 ((cmpi_eq_one _ _).mp (e 0).1.1.1.1.1.1.2) ((cmpi_eq_one _ _).mp (e 0).1.1.1.1.1.2)
    (fun b => (e b).1.1.1.1.1.1.1.1.1) (fun b => (e b).1.1.1.1.1.1.1.1.2) (fun b => (e b).1.1.1.1.1.1.1.2), ?_, ?_, ?_, ?_, ?_⟩
  · intro i
    have := fold_and_of_eq_one _ ht (i 0, i 1)
    rw [andi_eq_one, ← eq_ix2 i] at this
    have ofBool_eq_one (p : Bool) : (BitVec.ofBool p = 1#1) ↔ p = true := by cases p <;> decide
    obtain ⟨a, b⟩ := this
    simp only [IntOp.cmpi, ofBool_eq_one, BitVec.sle, BitVec.slt, decide_eq_true_eq, BitVec.toInt, BitVec.toNat_ofNat] at a b
    have := (x1 i).isLt
    omega
  · intro i
    have := fold_and_of_eq_one _ h0 (i 0, i 1, i 2)
    rw [← eq_ix3 i] at this
    exact real_of_abs_lt _ this
  · intro i
    have := fold_and_of_eq_one _ h3 (i 0, i 1, i 2)
    rw [← eq_ix3 i] at this
    exact real_of_abs_lt _ this
  · intro i
    have := fold_and_of_eq_one _ h4 (i 0, i 1)
    rw [← eq_ix2 i] at this
    exact real_of_abs_lt _ this
  · intro i
    have := fold_and_of_eq_one _ h5 (i 0, i 1)
    rw [← eq_ix2 i] at this
    exact real_of_abs_lt _ this

end Cert.Crf
-- ==== Proof.SideIdeal.lean ====
module
public import proofs.«01_k».proof.Proof.Packed
public import proofs.«01_k».proof.Proof.Gen.KernelIdeal.Frame
@[expose] public section

/-! The side conditions of the kernel's loads (program `KernelIdeal`), from the packed offsets. -/

noncomputable section

namespace Cert.Crf.KernelIdeal

open Idealize.ShloMosaic Idealize.ShloMosaic.TcCoe Cert.KernelIdeal Cert.KernelIdeal.Gen

variable {F : FTy → Type} [FloatOps F]

/-- At a multiple of 32 up to 16384, the row of the four-token arrays is the quarter of it. -/
theorem mult2_word : ∀ k : Fin 513, k0_mult2 (BitVec.ofNat 32 (32 * k.val)) = BitVec.ofNat 32 (8 * k.val) := by
  decide +kernel

/-- At a multiple of 32 up to 16384, the two loads' hints hold and both loads are inside their arrays. -/
theorem chk1_of (v : BitVec 32) (h1 : 32 ∣ v.toNat) (h2 : v.toNat ≤ 16384) : k0_chk1 v := by
  obtain ⟨k, hk⟩ := h1
  have hv : v = BitVec.ofNat 32 (32 * k) := by
    apply BitVec.eq_of_toNat_eq; rw [hk, BitVec.toNat_ofNat]; omega
  have m2 := mult2_word ⟨k, by omega⟩
  simp only at m2
  rw [← hv] at m2
  have off2 : k0_off2 v = ![(k0_mult2 v).toNat, 0] := rfl
  have off1 : k0_off1 v = ![v.toNat, 0] := rfl
  refine ⟨?_, ?_, ?_, ?_⟩
  · show 8 ∣ v.toNat
    omega
  · intro a
    rw [off1]
    fin_cases a
    · show v.toNat + 2048 ≤ 18432; omega
    · show 0 + 32 ≤ 32; omega
  · rw [m2, BitVec.toNat_ofNat]
    omega
  · intro a
    rw [off2, m2]
    fin_cases a
    · show (BitVec.ofNat 32 (8 * k)).toNat + 512 ≤ 4608
      rw [BitVec.toNat_ofNat]; omega
    · show 0 + 128 ≤ 128; omega

variable (m : (ℓ : Loc nD τ sig) → Buf (Elt F) ℓ)

/-- The table read at word `k` is the offset array's word. -/
theorem word_read (k : ℕ) (hk : k < 17) (hin : ∀ a, (![k] : Fin 1 → Nat) a + S1.size a ≤ S17.size a) :
    tbM0_0.view.readAt (Elt F) (Rect.unit (s := S17) ![k] S1.size hin).toLoadRect (tbl m 0) (Shape.Idx.first (numel1_S1.symm ▸ Nat.one_pos))
      = m (((0 : Dev nD) : Thread nD τ).loc main_arg2) (ix1 ⟨k, hk⟩) := by
  have e : tbl m 0 = m (((0 : Dev nD) : Thread nD τ).loc main_arg2) := V_main_arg2 m 0
  rw [e, View.readAt_apply]
  simp only [View.read_apply, cast_eq]
  congr 1
  funext a
  fin_cases a
  apply Fin.ext
  show k + 1 * (Shape.Idx.first (s := S1) (numel1_S1.symm ▸ Nat.one_pos) 0).val = k
  have := (Shape.Idx.first (s := S1) (numel1_S1.symm ▸ Nat.one_pos) 0).isLt
  have e1 : S1.size 0 = 1 := rfl
  omega

/-- The side conditions of every load, under packed offsets. -/
theorem hyps_of_packed (hO : Ok m)
    (h : Packed (cuN (m (((0 : Dev nD) : Thread nD τ).loc main_arg2)))) : Hyps m hO := by
  have key : ∀ (k : ℕ) (hk : k < 16) (hin : ∀ a, (![k] : Fin 1 → Nat) a + S1.size a ≤ S17.size a),
      k0_chk1 (tbM0_0.view.readAt (Elt F) (Rect.unit (s := S17) ![k] S1.size hin).toLoadRect (tbl m 0) (Shape.Idx.first (numel1_S1.symm ▸ Nat.one_pos))) := by
    intro k hk hin
    rw [word_read m k (by omega) hin]
    have a := h.dvd_cu (Fin.castSucc ⟨k, hk⟩)
    have b := h.le_cu ⟨k, hk⟩
    have e : cuN (m (((0 : Dev nD) : Thread nD τ).loc main_arg2)) (Fin.castSucc ⟨k, hk⟩) = (m (((0 : Dev nD) : Thread nD τ).loc main_arg2) (ix1 ⟨k, by omega⟩)).toNat := rfl
    exact chk1_of _ (by omega) (by omega)
  intro c t
  exact ⟨key 0 (by omega) _, key 1 (by omega) _, key 2 (by omega) _, key 3 (by omega) _, key 4 (by omega) _, key 5 (by omega) _,
    key 6 (by omega) _, key 7 (by omega) _, key 8 (by omega) _, key 9 (by omega) _, key 10 (by omega) _, key 11 (by omega) _,
    key 12 (by omega) _, key 13 (by omega) _, key 14 (by omega) _, key 15 (by omega) _⟩

end Cert.Crf.KernelIdeal
-- ==== Proof.Model.lean ====
module
public import proofs.«01_k».proof.Proof.Gen.KernelIdeal.Frame
public import Idealize.ShloMosaic.Lib.Pipeline.ValueKit
public import Idealize.ShloMosaic.Lib.Pointwise
@[expose] public section

/-! What the kernel computes, as functions of arrays: one time step, one rescaling, a block of
sixteen steps, one link of the chain that joins the chunks, one sequence's score. -/

noncomputable section

namespace Cert.Crf.Model

open Idealize.ShloMosaic Idealize.SL.Sem
open Cert.KernelIdeal Cert.KernelIdeal.Gen
open Pointwise

variable {F : FTy → Type} [FloatOps F]

/-- One time step of every chunk: times the transition weights, times the emission weights. -/
def adv (W : Vec F S512x512 .bf16) (R : Vec F S512x16 .bf16) (x : FVec F S512x512 .bf16)
    (e : FVec F S16x512 .bf16) : FVec F S512x512 .bf16 :=
  truncf .bf16
    (mulf
      (matmul dot_S512x512_S512x512_S512x512_1_0_0_1_n_n none x
        (shapeCast S512x512 W shapeCasts_S512x512_S512x512) (constant S512x512 .f32 0x00000000#32))
      (matmul dot_S512x16_S16x512_S512x512_1_0_0_1_n_n none
        (shapeCast S512x16 R shapeCasts_S512x16_S512x16) e (constant S512x512 .f32 0x00000000#32)))
    bitsLt_bf16_f32

/-- The sum of every 32×32 block, spread over the block. -/
def blockSum (O Q : Vec F S512x512 .bf16) (x : FVec F S512x512 .bf16) : FVec F S512x512 .f32 :=
  matmul dot_S512x512_S512x512_S512x512_1_0_0_1_n_n none
    (shapeCast S512x512 Q shapeCasts_S512x512_S512x512)
    (truncf .bf16
      (matmul dot_S512x512_S512x512_S512x512_1_0_0_1_n_n none x
        (shapeCast S512x512 O shapeCasts_S512x512_S512x512) (constant S512x512 .f32 0x00000000#32))
      bitsLt_bf16_f32)
    (constant S512x512 .f32 0x00000000#32)

/-- Every block over its sum. -/
def norm (O Q : Vec F S512x512 .bf16) (x : FVec F S512x512 .bf16) : FVec F S512x512 .bf16 :=
  truncf .bf16 (divf (extf .f32 x bitsLt_bf16_f32) (blockSum O Q x)) bitsLt_bf16_f32

/-- The scale so far with the logarithms of the block sums added. -/
def scale (O Q : Vec F S512x512 .bf16) (a : FVec F S512x512 .f32) (x : FVec F S512x512 .bf16) :
    FVec F S512x512 .f32 :=
  addf a (log (blockSum O Q x))

/-- One time step's emission weights off a slab of sixteen. -/
def row (s : Vec F S16x16x512 .bf16) (o : Fin 3 → ℕ) (h : S16x16x512.Slices o S16x1x512) :
    FVec F S16x512 .bf16 :=
  shapeCast S16x512 (extractStridedSlice S16x1x512 o s h) shapeCasts_S16x1x512_S16x512

/-- The steps 1 … 7 of a slab. -/
def seven (W : Vec F S512x512 .bf16) (R : Vec F S512x16 .bf16) (s : Vec F S16x16x512 .bf16)
    (x : FVec F S512x512 .bf16) : FVec F S512x512 .bf16 :=
  let x := adv W R x (row s ![0, 1, 0] slices_S16x16x512_o0_1_0_S16x1x512)
  let x := adv W R x (row s ![0, 2, 0] slices_S16x16x512_o0_2_0_S16x1x512)
  let x := adv W R x (row s ![0, 3, 0] slices_S16x16x512_o0_3_0_S16x1x512)
  let x := adv W R x (row s ![0, 4, 0] slices_S16x16x512_o0_4_0_S16x1x512)
  let x := adv W R x (row s ![0, 5, 0] slices_S16x16x512_o0_5_0_S16x1x512)
  let x := adv W R x (row s ![0, 6, 0] slices_S16x16x512_o0_6_0_S16x1x512)
  let x := adv W R x (row s ![0, 7, 0] slices_S16x16x512_o0_7_0_S16x1x512)
  x

/-- The steps 8 … 15 of a slab. -/
def eight (W : Vec F S512x512 .bf16) (R : Vec F S512x16 .bf16) (s : Vec F S16x16x512 .bf16)
    (x : FVec F S512x512 .bf16) : FVec F S512x512 .bf16 :=
  let x := adv W R x (row s ![0, 8, 0] slices_S16x16x512_o0_8_0_S16x1x512)
  let x := adv W R x (row s ![0, 9, 0] slices_S16x16x512_o0_9_0_S16x1x512)
  let x := adv W R x (row s ![0, 10, 0] slices_S16x16x512_o0_10_0_S16x1x512)
  let x := adv W R x (row s ![0, 11, 0] slices_S16x16x512_o0_11_0_S16x1x512)
  let x := adv W R x (row s ![0, 12, 0] slices_S16x16x512_o0_12_0_S16x1x512)
  let x := adv W R x (row s ![0, 13, 0] slices_S16x16x512_o0_13_0_S16x1x512)
  let x := adv W R x (row s ![0, 14, 0] slices_S16x16x512_o0_14_0_S16x1x512)
  let x := adv W R x (row s ![0, 15, 0] slices_S16x16x512_o0_15_0_S16x1x512)
  x

/-- After step 0 of a slab: seven steps, a rescaling, eight steps, a rescaling. -/
def rest (W O Q : Vec F S512x512 .bf16) (R : Vec F S512x16 .bf16) (s : Vec F S16x16x512 .bf16)
    (x : FVec F S512x512 .bf16) (a : FVec F S512x512 .f32) :
    FVec F S512x512 .bf16 × FVec F S512x512 .f32 :=
  (norm O Q (eight W R s (norm O Q (seven W R s x))),
    scale O Q (scale O Q a (seven W R s x)) (eight W R s (norm O Q (seven W R s x))))

/-- A slab of sixteen steps. -/
def block (W O Q : Vec F S512x512 .bf16) (R : Vec F S512x16 .bf16) (s : Vec F S16x16x512 .bf16)
    (p : FVec F S512x512 .bf16 × FVec F S512x512 .f32) :
    FVec F S512x512 .bf16 × FVec F S512x512 .f32 :=
  rest W O Q R s (adv W R p.1 (row s ![0, 0, 0] slices_S16x16x512_o0_0_0_S16x1x512)) p.2

/-- The first slab: step 0 is taken where `m` holds. -/
def firstBlock (W O Q : Vec F S512x512 .bf16) (R : Vec F S512x16 .bf16)
    (s : Vec F S16x16x512 .bf16) (m : IVec S512x512 1) :
    FVec F S512x512 .bf16 × FVec F S512x512 .f32 :=
  rest W O Q R s (select m (adv W R k0_pay134 (row s ![0, 0, 0] slices_S16x16x512_o0_0_0_S16x1x512)) k0_pay134)
    (broadcast S512x512 (Scalar.ofBits .f32 0x00000000#32))

/-- A chunk's matrices spread into block-diagonal form. -/
def diag (D : Vec F S512x32 .bf16) (O : Vec F S512x512 .bf16) (v : FVec F S32x512 .bf16) :
    FVec F S512x512 .bf16 :=
  mulf
    (truncf .bf16
      (matmul dot_S512x32_S32x512_S512x512_1_0_0_1_n_n none
        (shapeCast S512x32 D shapeCasts_S512x32_S512x32) v (constant S512x512 .f32 0x00000000#32))
      bitsLt_bf16_f32)
    (shapeCast S512x512 O shapeCasts_S512x512_S512x512)

/-- The running product with one chunk's matrices multiplied in. -/
def join (D : Vec F S512x32 .bf16) (O : Vec F S512x512 .bf16) (f : FVec F S32x512 .bf16)
    (p : FVec F S32x512 .bf16) : FVec F S32x512 .bf16 :=
  truncf .bf16
    (matmul dot_S32x512_S512x512_S32x512_1_0_0_1_n_n none f (diag D O p)
      (constant S32x512 .f32 0x00000000#32))
    bitsLt_bf16_f32

/-- The sum of every sequence's running product, spread over its columns. -/
def joinSum (O : Vec F S512x512 .bf16) (f : FVec F S32x512 .bf16) : FVec F S1x512 .f32 :=
  shapeCast S1x512
    (multiReduction .add [0] S512
      (matmul dot_S32x512_S512x512_S32x512_1_0_0_1_n_n none f
        (shapeCast S512x512 O shapeCasts_S512x512_S512x512) (constant S32x512 .f32 0x00000000#32))
      0x00000000#32 reduces_S32x512_S512 (.inl rfl) rfl)
    shapeCasts_S512_S1x512

/-- One link: multiply a chunk in, rescale. -/
def link (D : Vec F S512x32 .bf16) (O : Vec F S512x512 .bf16) (p : FVec F S32x512 .bf16)
    (q : FVec F S32x512 .bf16 × FVec F S1x512 .f32) : FVec F S32x512 .bf16 × FVec F S1x512 .f32 :=
  (truncf .bf16
      (divf (extf .f32 (join D O q.1 p) bitsLt_bf16_f32)
        (broadcastTo S32x512 (joinSum O (join D O q.1 p)) broadcasts_S1x512_S32x512))
      bitsLt_bf16_f32,
    addf q.2 (log (joinSum O (join D O q.1 p))))

/-- The chunks 1 … 15 joined to chunk 0. -/
def joined (D : Vec F S512x32 .bf16) (O : Vec F S512x512 .bf16) (x : FVec F S512x512 .bf16) :
    FVec F S32x512 .bf16 × FVec F S1x512 .f32 :=
  let q := (extractStridedSlice S32x512 ![0, 0] x slices_S512x512_o0_0_S32x512,
    broadcast S1x512 (Scalar.ofBits .f32 0x00000000#32))
  let q := link D O (extractStridedSlice S32x512 ![32, 0] x slices_S512x512_o32_0_S32x512) q
  let q := link D O (extractStridedSlice S32x512 ![64, 0] x slices_S512x512_o64_0_S32x512) q
  let q := link D O (extractStridedSlice S32x512 ![96, 0] x slices_S512x512_o96_0_S32x512) q
  let q := link D O (extractStridedSlice S32x512 ![128, 0] x slices_S512x512_o128_0_S32x512) q
  let q := link D O (extractStridedSlice S32x512 ![160, 0] x slices_S512x512_o160_0_S32x512) q
  let q := link D O (extractStridedSlice S32x512 ![192, 0] x slices_S512x512_o192_0_S32x512) q
  let q := link D O (extractStridedSlice S32x512 ![224, 0] x slices_S512x512_o224_0_S32x512) q
  let q := link D O (extractStridedSlice S32x512 ![256, 0] x slices_S512x512_o256_0_S32x512) q
  let q := link D O (extractStridedSlice S32x512 ![288, 0] x slices_S512x512_o288_0_S32x512) q
  let q := link D O (extractStridedSlice S32x512 ![320, 0] x slices_S512x512_o320_0_S32x512) q
  let q := link D O (extractStridedSlice S32x512 ![352, 0] x slices_S512x512_o352_0_S32x512) q
  let q := link D O (extractStridedSlice S32x512 ![384, 0] x slices_S512x512_o384_0_S32x512) q
  let q := link D O (extractStridedSlice S32x512 ![416, 0] x slices_S512x512_o416_0_S32x512) q
  let q := link D O (extractStridedSlice S32x512 ![448, 0] x slices_S512x512_o448_0_S32x512) q
  let q := link D O (extractStridedSlice S32x512 ![480, 0] x slices_S512x512_o480_0_S32x512) q
  q

/-- The length left to every chunk, as an integer array. -/
abbrev left (n : Vec F S1x512 .i32) : IVec S512x512 32 := k0_pay131 n

/-- The matrices that count: the snapshot after 64 steps, the identity, or all 128 steps. -/
def pick (n : Vec F S1x512 .i32) (s r : FVec F S512x512 .bf16) : FVec F S512x512 .bf16 :=
  k0_pay153 (k0_pay132 (F := F) (left (F := F) n)) k0_pay134 s r

/-- The scales that count, one for each chunk, added up. -/
def pickScale (n : Vec F S1x512 .i32) (s r : FVec F S512x512 .f32) : FVec F S1x512 .f32 :=
  k0_pay155 (k0_pay154 (k0_pay132 (F := F) (left (F := F) n)) s r)

/-- One sequence's score, spread over sixteen lanes. -/
def score (len : F .f32) (em : Vec F S512x128 .f32) (tg sr : Vec F S512x128 .bf16)
    (T : Vec F S128x128 .bf16) (st en : Vec F S1x128 .f32) : FVec F S1x16 .f32 :=
  k0_pay43 k0_pay32 (k0_pay37 k0_pay33 k0_pay34 k0_pay35 k0_pay36)
    (k0_pay38 (F := F) k0_pay33 k0_pay34 k0_pay35 k0_pay36) len em tg sr T st en

/-- The scores with sequence `b`'s put in its lane. -/
def addScore (b : BitVec 32) (s t : FVec F S1x16 .f32) : FVec F S1x16 .f32 :=
  addf s
    (select (cmpi .eq (iota .tc S1x16 32 [1] iota_S1x16_d1_w32) (broadcast S1x16 b)) t
      (broadcast S1x16 (Scalar.ofBits .f32 0x00000000#32)))

/-- The last step: the partition functions' logarithms, taken off the scores. -/
def last (D : Vec F S512x32 .bf16) (O : Vec F S512x512 .bf16) (S : Vec F S512x16 .f32)
    (sx ex : Vec F S1x512 .f32) (e0 : Vec F S1x1x512 .bf16) (sc : FVec F S1x16 .f32)
    (a : FVec F S1x512 .f32) (q : FVec F S32x512 .bf16 × FVec F S1x512 .f32) : FVec F S1x16 .f32 :=
  k0_pay1 sc a q.2
    (diag D O
      (truncf .bf16
        (mulf (extf .f32 q.1 bitsLt_bf16_f32)
          (broadcastTo S32x512 (shapeCast S1x512 ex shapeCasts_S1x512_S1x512)
            broadcasts_S1x512_S32x512))
        bitsLt_bf16_f32))
    sx e0 O S

/-- Sixteen steps' emission weights of every chunk, off all of them: the slab `k`. -/
def slab (E : Vec F S16x128x512 .bf16) (k : Fin 8) : Vec F S16x16x512 .bf16 :=
  fun j => E (ix3 (j 0) ⟨16 * k.val + (j 1).val, by have := (j 1).isLt; simp at this ⊢; omega⟩ (j 2))

/-- After 64 steps. -/
def after64 (W O Q : Vec F S512x512 .bf16) (R : Vec F S512x16 .bf16) (n : Vec F S1x512 .i32)
    (E : Vec F S16x128x512 .bf16) : FVec F S512x512 .bf16 × FVec F S512x512 .f32 :=
  block W O Q R (slab E 3) (block W O Q R (slab E 2) (block W O Q R (slab E 1)
    (firstBlock W O Q R (slab E 0) (k0_pay133 k0_pay130 (left (F := F) n)))))

/-- After 128 steps. -/
def after128 (W O Q : Vec F S512x512 .bf16) (R : Vec F S512x16 .bf16) (n : Vec F S1x512 .i32)
    (E : Vec F S16x128x512 .bf16) : FVec F S512x512 .bf16 × FVec F S512x512 .f32 :=
  block W O Q R (slab E 7) (block W O Q R (slab E 6) (block W O Q R (slab E 5)
    (block W O Q R (slab E 4) (after64 W O Q R n E))))

/-- All that the kernel computes, from its weights `E` and its scores `sc`. -/
def out (W O Q : Vec F S512x512 .bf16) (R : Vec F S512x16 .bf16) (D : Vec F S512x32 .bf16)
    (S : Vec F S512x16 .f32) (n : Vec F S1x512 .i32) (sx ex : Vec F S1x512 .f32)
    (E : Vec F S16x128x512 .bf16) (sc : FVec F S1x16 .f32) : FVec F S1x16 .f32 :=
  last D O S sx ex (fun j => E (ix3 ⟨0, by decide⟩ ⟨0, by decide⟩ (j 2))) sc
    (pickScale n (after64 W O Q R n E).2 (after128 W O Q R n E).2)
    (joined D O (pick n (after64 W O Q R n E).1 (after128 W O Q R n E).1))

end Cert.Crf.Model
-- ==== Proof.Read.lean ====
module
public import proofs.«01_k».proof.Proof.Model
public import Idealize.ShloMosaic.Lib.IdealHost
@[expose] public section

/-! The model's operations at an index, over the extended reals. -/

set_option maxRecDepth 16384

noncomputable section

namespace Cert.Crf.Model

open Idealize.ShloMosaic Idealize.SL.Sem
open Cert.KernelIdeal Cert.KernelIdeal.Gen
open Pointwise

theorem adv_apply (W : Vec Ideal S512x512 .bf16) (R : Vec Ideal S512x16 .bf16)
    (x : FVec Ideal S512x512 .bf16) (e : FVec Ideal S16x512 .bf16) (a b : Fin 512) :
    (adv W R x e (ix2 a b) : EReal)
      = (∑ k : Fin 512, x (ix2 a k) * W (ix2 k b)) * (∑ q : Fin 16, R (ix2 a q) * e (ix2 q b)) := by
  unfold adv; pointwise

theorem blockSum_apply (O Q : Vec Ideal S512x512 .bf16) (x : FVec Ideal S512x512 .bf16) (a b : Fin 512) :
    (blockSum O Q x (ix2 a b) : EReal)
      = ∑ k : Fin 512, Q (ix2 a k) * ∑ l : Fin 512, x (ix2 k l) * O (ix2 l b) := by
  unfold blockSum; pointwise

theorem norm_apply (O Q : Vec Ideal S512x512 .bf16) (x : FVec Ideal S512x512 .bf16) (a b : Fin 512) :
    (norm O Q x (ix2 a b) : EReal) = Ideal.div (x (ix2 a b)) (blockSum O Q x (ix2 a b)) := by
  unfold norm; pointwise

theorem scale_apply (O Q : Vec Ideal S512x512 .bf16) (s : FVec Ideal S512x512 .f32)
    (x : FVec Ideal S512x512 .bf16) (a b : Fin 512) :
    (scale O Q s x (ix2 a b) : EReal) = s (ix2 a b) + Ideal.log (blockSum O Q x (ix2 a b)) := by
  unfold scale; pointwise

theorem row_apply (s : Vec Ideal S16x16x512 .bf16) (u : ℕ) (hu : u < 16)
    (h : S16x16x512.Slices ![0, u, 0] S16x1x512) (g : Fin 16) (b : Fin 512) :
    (row s ![0, u, 0] h (ix2 g b) : EReal) = s (ix3 g ⟨u, hu⟩ b) := by
  unfold row; pointwise

theorem diag_apply (D : Vec Ideal S512x32 .bf16) (O : Vec Ideal S512x512 .bf16)
    (v : FVec Ideal S32x512 .bf16) (a b : Fin 512) :
    (diag D O v (ix2 a b) : EReal) = (∑ k : Fin 32, D (ix2 a k) * v (ix2 k b)) * O (ix2 a b) := by
  unfold diag; pointwise

theorem join_apply (D : Vec Ideal S512x32 .bf16) (O : Vec Ideal S512x512 .bf16)
    (f p : FVec Ideal S32x512 .bf16) (a : Fin 32) (b : Fin 512) :
    (join D O f p (ix2 a b) : EReal) = ∑ k : Fin 512, f (ix2 a k) * diag D O p (ix2 k b) := by
  unfold join; pointwise

theorem joinSum_apply (O : Vec Ideal S512x512 .bf16) (f : FVec Ideal S32x512 .bf16) (b : Fin 512) :
    (joinSum O f (ix2 0 b) : EReal) = ∑ a : Fin 32, ∑ k : Fin 512, f (ix2 a k) * O (ix2 k b) := by
  unfold joinSum; pointwise

theorem link1_apply (D : Vec Ideal S512x32 .bf16) (O : Vec Ideal S512x512 .bf16)
    (p : FVec Ideal S32x512 .bf16) (q : FVec Ideal S32x512 .bf16 × FVec Ideal S1x512 .f32)
    (a : Fin 32) (b : Fin 512) :
    ((link D O p q).1 (ix2 a b) : EReal)
      = Ideal.div (join D O q.1 p (ix2 a b)) (joinSum O (join D O q.1 p) (ix2 0 b)) := by
  unfold link; pointwise

theorem link2_apply (D : Vec Ideal S512x32 .bf16) (O : Vec Ideal S512x512 .bf16)
    (p : FVec Ideal S32x512 .bf16) (q : FVec Ideal S32x512 .bf16 × FVec Ideal S1x512 .f32) (b : Fin 512) :
    ((link D O p q).2 (ix2 0 b) : EReal)
      = q.2 (ix2 0 b) + Ideal.log (joinSum O (join D O q.1 p) (ix2 0 b)) := by
  unfold link; pointwise

theorem last_apply (D : Vec Ideal S512x32 .bf16) (O : Vec Ideal S512x512 .bf16) (S : Vec Ideal S512x16 .f32)
    (sx ex : Vec Ideal S1x512 .f32) (e0 : Vec Ideal S1x1x512 .bf16) (sc : FVec Ideal S1x16 .f32)
    (a : FVec Ideal S1x512 .f32) (q : FVec Ideal S32x512 .bf16 × FVec Ideal S1x512 .f32) (b : Fin 16) :
    (last D O S sx ex e0 sc a q (ix2 0 b) : EReal)
      = sc (ix2 0 b) - ∑ k : Fin 512,
          (Ideal.log (∑ l : Fin 512, (∑ r : Fin 512, (sx (ix2 0 r) * e0 (ix3 0 0 r)) *
              ((∑ i : Fin 32, D (ix2 r i) * (q.1 (ix2 i l) * ex (ix2 0 l))) * O (ix2 r l))) * O (ix2 l k))
            + a (ix2 0 k) + q.2 (ix2 0 k)) * S (ix2 k b) := by
  unfold last diag k0_pay1; pointwise

end Cert.Crf.Model
-- ==== Proof.Masks.lean ====
module
public import proofs.«01_k».proof.Proof.Read
@[expose] public section

/-! The masks, the identity blocks and the choices the kernel makes, at an index. -/

set_option maxRecDepth 16384

noncomputable section

namespace Cert.Crf.Model

open Idealize.ShloMosaic Idealize.SL.Sem
open Cert.KernelIdeal Cert.KernelIdeal.Gen
open Pointwise

theorem chunk_word (a : Fin 512) : k0_pay130 (ix2 a 0) = BitVec.ofNat 32 (a.val / 32) := by
  unfold k0_pay130; pointwise; revert a; decide +kernel

theorem left_apply (n : Vec Ideal S1x512 .i32) (a b : Fin 512) :
    left (F := Ideal) n (ix2 a b) = n (ix2 0 b) - BitVec.ofNat 32 (a.val / 32) * 128#32 := by
  unfold left k0_pay131; pointwise; rw [← chunk_word]; rfl

theorem mask_apply (n : Vec Ideal S1x512 .i32) (a b : Fin 512) :
    k0_pay133 k0_pay130 (left (F := Ideal) n) (ix2 a b)
      = IntOp.andi (IntOp.cmpi .sgt (BitVec.ofNat 32 (a.val / 32)) 0#32)
          (IntOp.cmpi .sgt (left (F := Ideal) n (ix2 a b)) 0#32) := by
  unfold k0_pay133; pointwise; rw [← chunk_word]

theorem int_val {w : ℕ} (t : FTy) (x : BitVec w) :
    (FloatOps.sitofp (F := Ideal) t x : EReal) = ((x.toInt : ℝ) : EReal) := rfl

theorem sixty_four : Ideal.ofBits .bf16 0x4280#16 = ((64 : ℝ) : EReal) := by
  have h1 : (BitVec.extractLsb' 15 1 (17024#16)) = 0#1 := by decide
  have h2 : (BitVec.extractLsb' 7 8 (17024#16)).toNat = 133 := by decide
  have h3 : (BitVec.extractLsb' 0 7 (17024#16)).toNat = 0 := by decide
  simp only [Ideal.ofBits, Ideal.ieee, h1, h2, h3]
  norm_num

theorem le_zero_iff (x : BitVec 32) : (((x.toInt : ℝ) : EReal) ≤ 0) ↔ x.toInt ≤ 0 := by
  rw [← EReal.coe_zero, EReal.coe_le_coe_iff]; exact_mod_cast Iff.rfl

theorem eq_sixty_four_iff (x : BitVec 32) : ((x.toInt : ℝ) : EReal) = ((64 : ℝ) : EReal) ↔ x.toInt = 64 := by
  rw [EReal.coe_eq_coe_iff]; exact_mod_cast Iff.rfl

/-- The remainder by 32, as the kernel spells it. -/
def rem32 (x : BitVec 32) : BitVec 32 :=
  Scalar.select
    (IntOp.andi
      (IntOp.xori
        (IntOp.cmpi CmpIPredicate.slt
          (IntOp.remsi ArithUnit.vector x
            (Scalar.select (Scalar.cmpi CmpIPredicate.eq 32#32 0#32) 1#32 32#32)) 0#32)
        (Scalar.cmpi CmpIPredicate.slt
          (Scalar.select (Scalar.cmpi CmpIPredicate.eq 32#32 0#32) 1#32 32#32) 0#32))
      (IntOp.cmpi CmpIPredicate.ne
        (IntOp.remsi ArithUnit.vector x
          (Scalar.select (Scalar.cmpi CmpIPredicate.eq 32#32 0#32) 1#32 32#32)) 0#32))
    (IntOp.addi
      (IntOp.remsi ArithUnit.vector x
        (Scalar.select (Scalar.cmpi CmpIPredicate.eq 32#32 0#32) 1#32 32#32))
      (Scalar.select (Scalar.cmpi CmpIPredicate.eq 32#32 0#32) 1#32 32#32))
    (IntOp.remsi ArithUnit.vector x
      (Scalar.select (Scalar.cmpi CmpIPredicate.eq 32#32 0#32) 1#32 32#32))

theorem rem32_eq (a : Fin 512) : rem32 (BitVec.ofNat 32 a.val) = BitVec.ofNat 32 (a.val % 32) := by
  revert a; decide +kernel

theorem rem_eq_iff (a b : ℕ) :
    BitVec.ofNat 32 (a % 32) = BitVec.ofNat 32 (b % 32) ↔ a % 32 = b % 32 := by
  constructor
  · intro h
    have := congrArg BitVec.toNat h
    simp only [BitVec.toNat_ofNat] at this
    omega
  · intro h; rw [h]

theorem eye_apply (a b : Fin 512) :
    (k0_pay134 (F := Ideal) (ix2 a b) : EReal) = if a.val % 32 = b.val % 32 then 1 else 0 := by
  unfold k0_pay134; pointwise
  change (FloatOps.sitofp (F := Ideal) FTy.f32 (BitVec.setWidth 32 (IntOp.cmpi CmpIPredicate.eq
    (rem32 (BitVec.ofNat 32 a.val)) (rem32 (BitVec.ofNat 32 b.val)))) : EReal) = _
  rw [rem32_eq, rem32_eq, int_val]
  by_cases h : a.val % 32 = b.val % 32
  · rw [if_pos h, h]
    simp [IntOp.cmpi]
  · rw [if_neg h]
    have : (BitVec.ofNat 32 (a.val % 32) == BitVec.ofNat 32 (b.val % 32)) = false :=
      beq_eq_false_iff_ne.mpr fun e => h ((rem_eq_iff _ _).mp e)
    simp [IntOp.cmpi, this]

theorem pick_apply (n : Vec Ideal S1x512 .i32) (s r : FVec Ideal S512x512 .bf16) (a b : Fin 512) :
    (pick n s r (ix2 a b) : EReal)
      = if (left (F := Ideal) n (ix2 a b)).toInt ≤ 0 then k0_pay134 (F := Ideal) (ix2 a b)
        else if (left (F := Ideal) n (ix2 a b)).toInt = 64 then s (ix2 a b) else r (ix2 a b) := by
  unfold pick k0_pay153 k0_pay132; pointwise
  rw [int_val, sixty_four]
  simp only [le_zero_iff, eq_sixty_four_iff]

theorem pickScale_apply (n : Vec Ideal S1x512 .i32) (s r : FVec Ideal S512x512 .f32) (b : Fin 512) :
    (pickScale n s r (ix2 0 b) : EReal)
      = ∑ a : Fin 512, if a.val % 32 = 0 then
          (if (left (F := Ideal) n (ix2 a b)).toInt ≤ 0 then 0
            else if (left (F := Ideal) n (ix2 a b)).toInt = 64 then s (ix2 a b) else r (ix2 a b))
        else 0 := by
  unfold pickScale k0_pay155 k0_pay154 k0_pay132; pointwise
  refine Finset.sum_congr rfl fun a _ => ?_
  change Scalar.select (IntOp.cmpi CmpIPredicate.eq (rem32 (BitVec.ofNat 32 a.val)) 0#32) _ _ = _
  rw [rem32_eq, int_val, sixty_four]
  simp only [le_zero_iff, eq_sixty_four_iff]
  have h : (BitVec.ofNat 32 (a.val % 32) = 0#32) ↔ a.val % 32 = 0 := rem_eq_iff a.val 0
  by_cases h0 : a.val % 32 = 0
  · simp [IntOp.cmpi, Scalar.select, h0]
  · have : (BitVec.ofNat 32 (a.val % 32) == 0#32) = false := beq_eq_false_iff_ne.mpr fun e => h0 (h.mp e)
    simp [IntOp.cmpi, Scalar.select, this, h0]

end Cert.Crf.Model
-- ==== Proof.Chain.lean ====
module
public import Mathlib.Data.Matrix.Mul
public import Mathlib.Analysis.SpecialFunctions.Log.Basic
@[expose] public section

/-! The forward recursion of one sequence, and its cutting into chunks of 128 steps: the product of
the chunks' transfer matrices carries the first vector to the last. -/

noncomputable section

namespace Cert.Crf.Chain

open Matrix

/-- Square matrices over the 32 tags. -/
abbrev Mat := Matrix (Fin 32) (Fin 32) ℝ

variable (w : Mat) (e : ℕ → Fin 32 → ℝ) (L : ℕ) (s : Fin 32 → ℝ)

/-- The forward vector after step `t`: it stays as it is from the length on. -/
def fwd : ℕ → Fin 32 → ℝ
  | 0 => fun j => s j * e 0 j
  | t + 1 => if t + 1 < L then fun j => (∑ i, fwd t i * w i j) * e (t + 1) j else fwd t

/-- The transfer matrix of the first `n` steps of chunk `g`; step 0 of chunk 0 is the start
vector's, and a chunk beyond the length leaves step 0 out. -/
def run (g : ℕ) : ℕ → Mat
  | 0 => 1
  | n + 1 =>
    if n = 0 ∧ ¬ (0 < g ∧ 128 * g < L) then run g n else run g n * w * diagonal (e (128 * g + n))

/-- The transfer matrix of chunk `g`, cut at the length. -/
def chunk (g : ℕ) : Mat :=
  if L ≤ 128 * g then 1 else if L = 128 * g + 64 then run w e L g 64 else run w e L g 128

/-- The product of the first `G` chunks. -/
def prod : ℕ → Mat
  | 0 => 1
  | G + 1 => prod G * chunk w e L G

theorem run_take (g n : ℕ) (h : ¬ (n = 0 ∧ ¬ (0 < g ∧ 128 * g < L))) :
    run w e L g (n + 1) = run w e L g n * w * diagonal (e (128 * g + n)) := if_neg h

theorem run_skip (g : ℕ) (h : ¬ (0 < g ∧ 128 * g < L)) : run w e L g 1 = 1 := if_pos ⟨rfl, h⟩

theorem fwd_stay (t : ℕ) (h : L ≤ t + 1) : ∀ n, fwd w e L s (t + n) = fwd w e L s t
  | 0 => rfl
  | n + 1 => by
    rw [← add_assoc, fwd, if_neg (by omega), fwd_stay t h n]

theorem vecMul_step (x : Fin 32 → ℝ) (M : Mat) (v : Fin 32 → ℝ) :
    x ᵥ* (M * w * diagonal v) = fun j => (∑ i, (x ᵥ* M) i * w i j) * v j := by
  rw [← vecMul_vecMul, ← vecMul_vecMul]
  funext j
  rw [vecMul_diagonal]
  rfl

theorem fwd_run (g : ℕ) (n : ℕ) (h : 128 * g + (n + 1) ≤ L) :
    fwd w e L s (128 * g - 1) ᵥ* run w e L g (n + 1) = fwd w e L s (128 * g + n) := by
  induction n with
  | zero =>
    rw [run]
    by_cases hg : g = 0
    · subst hg
      simp [run]
    · have hm : ¬ (0 = 0 ∧ ¬ (0 < g ∧ 128 * g < L)) := by omega
      rw [if_neg hm, vecMul_step]
      obtain ⟨k, hk⟩ : ∃ k, 128 * g = k + 1 := ⟨128 * g - 1, by omega⟩
      rw [hk, Nat.add_zero, Nat.add_sub_cancel, fwd, if_pos (by omega), run, vecMul_one]
  | succ n ih =>
    rw [run, if_neg (by omega), vecMul_step, ih (by omega), ← add_assoc, fwd, if_pos (by omega)]

theorem fwd_prod (hd : 64 ∣ L) (hL : 0 < L) :
    ∀ G, fwd w e L s 0 ᵥ* prod w e L G = fwd w e L s (128 * G - 1)
  | 0 => by simp [prod]
  | G + 1 => by
    rw [prod, ← vecMul_vecMul, fwd_prod hd hL G, chunk]
    by_cases h : L ≤ 128 * G
    · rw [if_pos h, vecMul_one, show 128 * (G + 1) - 1 = (128 * G - 1) + 128 by omega, fwd_stay w e L s (128 * G - 1) (by omega) 128]
    · rw [if_neg h]
      by_cases h64 : L = 128 * G + 64
      · rw [if_pos h64, fwd_run _ _ _ _ G 63 (by omega),
          show 128 * (G + 1) - 1 = (128 * G + 63) + 64 by omega, fwd_stay w e L s (128 * G + 63) (by omega) 64]
      · rw [if_neg h64, fwd_run _ _ _ _ G 127 (by omega)]
        rfl

theorem fwd_pos (hw : ∀ i j, 0 < w i j) (he : ∀ t i, 0 < e t i) (hs : ∀ i, 0 < s i) :
    ∀ t j, 0 < fwd w e L s t j
  | 0, j => mul_pos (hs j) (he 0 j)
  | t + 1, j => by
    rw [fwd]
    split
    · exact mul_pos (Finset.sum_pos (fun i _ => mul_pos (fwd_pos hw he hs t i) (hw i j)) Finset.univ_nonempty) (he _ _)
    · exact fwd_pos hw he hs t j

/-- A matrix with no negative entry and no empty row. -/
def Good (M : Mat) : Prop := (∀ i j, 0 ≤ M i j) ∧ ∀ i, ∃ j, 0 < M i j

theorem good_one : Good 1 := by
  refine ⟨fun i j => ?_, fun i => ⟨i, ?_⟩⟩
  · rw [one_apply]; split <;> norm_num
  · simp

theorem Good.mul {M N : Mat} (h : Good M) (k : Good N) : Good (M * N) := by
  refine ⟨fun i j => ?_, fun i => ?_⟩
  · rw [mul_apply]; exact Finset.sum_nonneg fun l _ => mul_nonneg (h.1 i l) (k.1 l j)
  obtain ⟨l, hl⟩ := h.2 i
  obtain ⟨j, hj⟩ := k.2 l
  refine ⟨j, ?_⟩
  rw [mul_apply]
  exact Finset.sum_pos' (fun l _ => mul_nonneg (h.1 i l) (k.1 l j)) ⟨l, Finset.mem_univ _, mul_pos hl hj⟩

theorem good_of_pos {M : Mat} (h : ∀ i j, 0 < M i j) : Good M :=
  ⟨fun i j => (h i j).le, fun i => ⟨0, h i 0⟩⟩

theorem good_diagonal {v : Fin 32 → ℝ} (h : ∀ i, 0 < v i) : Good (diagonal v) := by
  refine ⟨fun i j => ?_, fun i => ⟨i, ?_⟩⟩
  · rw [diagonal_apply]; split
    · exact (h i).le
    · exact le_rfl
  · simpa using h i

theorem Good.smul {M : Mat} (h : Good M) {c : ℝ} (hc : 0 < c) : Good (c • M) :=
  ⟨fun i j => mul_nonneg hc.le (h.1 i j), fun i => (h.2 i).imp fun _ hj => mul_pos hc hj⟩

/-- The sum of all entries. -/
def tot (M : Mat) : ℝ := ∑ i, ∑ j, M i j

theorem Good.tot_pos {M : Mat} (h : Good M) : 0 < tot M :=
  Finset.sum_pos (fun i _ => by
    obtain ⟨j, hj⟩ := h.2 i
    exact Finset.sum_pos' (fun j _ => h.1 i j) ⟨j, Finset.mem_univ _, hj⟩) Finset.univ_nonempty

/-- Dividing by the sum and adding its logarithm to the scale leaves the scaled matrix. -/
theorem rescale (c : ℝ) {M : Mat} (h : Good M) :
    Real.exp (c + Real.log (tot M)) • ((1 / tot M) • M) = Real.exp c • M := by
  have hp := h.tot_pos
  rw [smul_smul, Real.exp_add, Real.exp_log hp, mul_assoc, mul_one_div_cancel hp.ne', mul_one]

end Cert.Crf.Chain
-- ==== Proof.Blocks.lean ====
module
public import proofs.«01_k».proof.Proof.Masks
public import proofs.«01_k».proof.Proof.Chain
@[expose] public section

/-! The kernel's arrays as blocks of real 32×32 matrices, one block for each pair of a chunk and a
sequence, and what a time step, a rescaling and a whole chunk do to the blocks. -/

set_option maxRecDepth 16384

noncomputable section

namespace Cert.Crf.Model

open Idealize.ShloMosaic Idealize.SL.Sem
open Cert.KernelIdeal Cert.KernelIdeal.Gen
open Pointwise Cert.Crf.Chain Matrix

/-- Place `i` of group `g`. -/
def at32 (g : Fin 16) (i : Fin 32) : Fin 512 := ⟨32 * g.val + i.val, by omega⟩

theorem at32_div (g : Fin 16) (i : Fin 32) : (at32 g i).val / 32 = g.val := by
  simp only [at32]; omega

theorem at32_mod (g : Fin 16) (i : Fin 32) : (at32 g i).val % 32 = i.val := by
  simp only [at32]; omega

theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum512 (f : Fin 512 → EReal) : ∑ k, f k = ∑ g : Fin 16, ∑ i : Fin 32, f (at32 g i) := by
  rw [← Finset.sum_product', ← Equiv.sum_comp (finProdFinEquiv (m := 16) (n := 32)) (g := f)]
  refine Finset.sum_congr rfl fun x _ => congrArg f (Fin.ext ?_)
  simp [finProdFinEquiv, at32]; omega

theorem sum_pick (b : Fin 16) (f : Fin 16 → Fin 32 → EReal) :
    ∑ g, ∑ i, (if g = b then f g i else 0) = ∑ i, f b i := by
  rw [Finset.sum_comm]; simp

theorem sum_pick' (b : Fin 16) (f : Fin 16 → Fin 32 → EReal) :
    ∑ g, ∑ i, (if b = g then f g i else 0) = ∑ i, f b i := by
  rw [Finset.sum_comm]; simp

/-- What the constant operands hold. -/
structure Consts (W O Q : Vec Ideal S512x512 .bf16) (R : Vec Ideal S512x16 .bf16)
    (D : Vec Ideal S512x32 .bf16) (S : Vec Ideal S512x16 .f32) (w : Mat) : Prop where
  hW : ∀ b i c j, (W (ix2 (at32 b i) (at32 c j)) : EReal) = if b = c then ((w i j : ℝ) : EReal) else 0
  hO : ∀ b i c j, (O (ix2 (at32 b i) (at32 c j)) : EReal) = if b = c then 1 else 0
  hQ : ∀ b i c j, (Q (ix2 (at32 b i) (at32 c j)) : EReal) = if b = c then 1 else 0
  hR : ∀ b i c, (R (ix2 (at32 b i) c) : EReal) = if b = c then 1 else 0
  hD : ∀ b i k, (D (ix2 (at32 b i) k) : EReal) = if i = k then 1 else 0
  hS : ∀ b i c, (S (ix2 (at32 b i) c) : EReal) = if i = 0 then if b = c then 1 else 0 else 0

/-- The blocks of `x`. -/
def Blk (x : FVec Ideal S512x512 .bf16) (P : Fin 16 → Fin 16 → Mat) : Prop :=
  ∀ g b i j, (x (ix2 (at32 g i) (at32 b j)) : EReal) = ((P g b i j : ℝ) : EReal)

/-- The scales in `a`, one for each block. -/
def Lg (a : FVec Ideal S512x512 .f32) (c : Fin 16 → Fin 16 → ℝ) : Prop :=
  ∀ g b i j, (a (ix2 (at32 g i) (at32 b j)) : EReal) = ((c g b : ℝ) : EReal)

/-- The rows of `e`, cut into sequences. -/
def Flat (e : FVec Ideal S16x512 .bf16) (v : Fin 16 → Fin 16 → Fin 32 → ℝ) : Prop :=
  ∀ g b i, (e (ix2 g (at32 b i)) : EReal) = ((v g b i : ℝ) : EReal)

section steps
variable {W O Q : Vec Ideal S512x512 .bf16} {R : Vec Ideal S512x16 .bf16}
  {D : Vec Ideal S512x32 .bf16} {S : Vec Ideal S512x16 .f32} {w : Mat} (K : Consts W O Q R D S w)
include K

theorem adv_blk {x : FVec Ideal S512x512 .bf16} {e : FVec Ideal S16x512 .bf16}
    {P : Fin 16 → Fin 16 → Mat} {v : Fin 16 → Fin 16 → Fin 32 → ℝ} (hx : Blk x P) (he : Flat e v) :
    Blk (adv W R x e) fun g b => P g b * w * diagonal (v g b) := by
  intro g b i j
  rw [adv_apply, sum512]
  simp only [hx _ _ _ _, K.hW, K.hR, he _ _ _, mul_ite, mul_zero, ite_mul, one_mul, zero_mul]
  rw [sum_pick, Finset.sum_ite_eq, if_pos (Finset.mem_univ _)]
  simp only [← EReal.coe_mul]
  rw [coe_sum, ← EReal.coe_mul, mul_diagonal]
  rfl

theorem blockSum_blk {x : FVec Ideal S512x512 .bf16} {P : Fin 16 → Fin 16 → Mat} (hx : Blk x P)
    (g b : Fin 16) (i j : Fin 32) :
    (blockSum O Q x (ix2 (at32 g i) (at32 b j)) : EReal) = ((tot (P g b) : ℝ) : EReal) := by
  rw [blockSum_apply, sum512]
  simp only [sum512, hx _ _ _ _, K.hO, K.hQ, mul_ite, mul_zero, mul_one, ite_mul, one_mul, zero_mul]
  simp only [sum_pick]
  rw [sum_pick' g fun g i => ∑ l, ((P g b i l : ℝ) : EReal)]
  simp only [coe_sum]
  rfl

theorem norm_blk {x : FVec Ideal S512x512 .bf16} {P : Fin 16 → Fin 16 → Mat} (hx : Blk x P)
    (h : ∀ g b, tot (P g b) ≠ 0) : Blk (norm O Q x) fun g b => (1 / tot (P g b)) • P g b := by
  intro g b i j
  rw [norm_apply, blockSum_blk K hx, Ideal.div_coe (h g b), hx, ← EReal.coe_mul, mul_comm]
  rfl

theorem scale_lg {x : FVec Ideal S512x512 .bf16} {a : FVec Ideal S512x512 .f32}
    {P : Fin 16 → Fin 16 → Mat} {c : Fin 16 → Fin 16 → ℝ} (hx : Blk x P) (ha : Lg a c)
    (h : ∀ g b, 0 < tot (P g b)) :
    Lg (scale O Q a x) fun g b => c g b + Real.log (tot (P g b)) := by
  intro g b i j
  rw [scale_apply, blockSum_blk K hx, ha, Ideal.log_coe, if_neg (h g b).not_ge, EReal.coe_add]

end steps

/-- A pair of an array and its scales stands for the matrices `N`. -/
def Stands (p : FVec Ideal S512x512 .bf16 × FVec Ideal S512x512 .f32) (N : Fin 16 → Fin 16 → Mat) : Prop :=
  ∃ (P : Fin 16 → Fin 16 → Mat) (c : Fin 16 → Fin 16 → ℝ), Blk p.1 P ∧ Lg p.2 c ∧
    (∀ g b, Good (P g b)) ∧ ∀ g b, N g b = Real.exp (c g b) • P g b

section runs
variable {W O Q : Vec Ideal S512x512 .bf16} {R : Vec Ideal S512x16 .bf16}
  {D : Vec Ideal S512x32 .bf16} {S : Vec Ideal S512x16 .f32} {w : Mat} (K : Consts W O Q R D S w)
  (hw : ∀ i j, 0 < w i j)
include K

theorem rescale_stands {x : FVec Ideal S512x512 .bf16} {a : FVec Ideal S512x512 .f32}
    {N : Fin 16 → Fin 16 → Mat} (h : Stands (x, a) N) : Stands (norm O Q x, scale O Q a x) N := by
  obtain ⟨P, c, hx, ha, hg, hN⟩ := h
  exact ⟨_, _, norm_blk K hx fun g b => (hg g b).tot_pos.ne', scale_lg K hx ha fun g b => (hg g b).tot_pos,
    fun g b => (hg g b).smul (one_div_pos.mpr (hg g b).tot_pos), fun g b => by rw [hN, rescale _ (hg g b)]⟩

include hw

theorem adv_stands {x : FVec Ideal S512x512 .bf16} {a : FVec Ideal S512x512 .f32}
    {N : Fin 16 → Fin 16 → Mat} {e : FVec Ideal S16x512 .bf16} {v : Fin 16 → Fin 16 → Fin 32 → ℝ}
    (h : Stands (x, a) N) (he : Flat e v) (hv : ∀ g b i, 0 < v g b i) :
    Stands (adv W R x e, a) fun g b => N g b * w * diagonal (v g b) := by
  obtain ⟨P, c, hx, ha, hg, hN⟩ := h
  refine ⟨_, c, adv_blk K hx he, ha, fun g b => ((hg g b).mul (good_of_pos hw)).mul (good_diagonal (hv g b)),
    fun g b => ?_⟩
  beta_reduce
  rw [hN, smul_mul, smul_mul]

variable {E : Vec Ideal S16x128x512 .bf16} {e : Fin 16 → ℕ → Fin 32 → ℝ} {L : Fin 16 → ℕ}
  (hE : ∀ (g : Fin 16) (t : Fin 128) (b : Fin 16) (i : Fin 32),
    (E (ix3 g t (at32 b i)) : EReal) = ((e b (128 * g.val + t.val) i : ℝ) : EReal))
  (he : ∀ b t i, 0 < e b t i)
include hE he

theorem flat_row (k : Fin 8) (u : ℕ) (hu : u < 16) (h : S16x16x512.Slices ![0, u, 0] S16x1x512) :
    Flat (row (slab E k) ![0, u, 0] h) fun g b => e b (128 * g.val + (16 * k.val + u)) := by
  intro g b i
  rw [row_apply _ u hu]
  exact hE g _ b i

/-- One step of a slab, past the chunk's first step. -/
theorem row_stands {x : FVec Ideal S512x512 .bf16} {a : FVec Ideal S512x512 .f32} (k : Fin 8)
    (u : ℕ) (hu : u < 16) (h : S16x16x512.Slices ![0, u, 0] S16x1x512) (hn : 16 * k.val + u ≠ 0)
    (hs : Stands (x, a) fun g b => run w (e b) (L b) g.val (16 * k.val + u)) :
    Stands (adv W R x (row (slab E k) ![0, u, 0] h), a)
      fun g b => run w (e b) (L b) g.val (16 * k.val + (u + 1)) := by
  have := adv_stands K hw hs (flat_row K hw hE he k u hu h) fun g b i => he b _ i
  refine cast (congrArg _ ?_) this
  funext g b
  exact (run_take w (e b) (L b) g.val (16 * k.val + u) (by omega)).symm

theorem rest_stands {x : FVec Ideal S512x512 .bf16} {a : FVec Ideal S512x512 .f32} (k : Fin 8)
    (hs : Stands (x, a) fun g b => run w (e b) (L b) g.val (16 * k.val + 1)) :
    Stands (rest W O Q R (slab E k) x a) fun g b => run w (e b) (L b) g.val (16 * k.val + 16) := by
  have h1 : Stands (seven W R (slab E k) x, a) fun g b => run w (e b) (L b) g.val (16 * k.val + 8) := by
    unfold seven
    refine row_stands K hw hE he k 7 (by omega) _ (by omega) ?_
    refine row_stands K hw hE he k 6 (by omega) _ (by omega) ?_
    refine row_stands K hw hE he k 5 (by omega) _ (by omega) ?_
    refine row_stands K hw hE he k 4 (by omega) _ (by omega) ?_
    refine row_stands K hw hE he k 3 (by omega) _ (by omega) ?_
    refine row_stands K hw hE he k 2 (by omega) _ (by omega) ?_
    exact row_stands K hw hE he k 1 (by omega) _ (by omega) hs
  have h2 := rescale_stands K h1
  have h3 : Stands (eight W R (slab E k) (norm O Q (seven W R (slab E k) x)), scale O Q a (seven W R (slab E k) x))
      fun g b => run w (e b) (L b) g.val (16 * k.val + 16) := by
    unfold eight
    refine row_stands K hw hE he k 15 (by omega) _ (by omega) ?_
    refine row_stands K hw hE he k 14 (by omega) _ (by omega) ?_
    refine row_stands K hw hE he k 13 (by omega) _ (by omega) ?_
    refine row_stands K hw hE he k 12 (by omega) _ (by omega) ?_
    refine row_stands K hw hE he k 11 (by omega) _ (by omega) ?_
    refine row_stands K hw hE he k 10 (by omega) _ (by omega) ?_
    refine row_stands K hw hE he k 9 (by omega) _ (by omega) ?_
    exact row_stands K hw hE he k 8 (by omega) _ (by omega) h2
  exact rescale_stands K h3

theorem block_stands {p : FVec Ideal S512x512 .bf16 × FVec Ideal S512x512 .f32} (k : Fin 8) (hk : k.val ≠ 0)
    (hs : Stands p fun g b => run w (e b) (L b) g.val (16 * k.val)) :
    Stands (block W O Q R (slab E k) p) fun g b => run w (e b) (L b) g.val (16 * k.val + 16) := by
  refine rest_stands K hw hE he k ?_
  exact row_stands K hw hE he k 0 (by omega) _ (by omega) hs

end runs

theorem word_toInt (x : ℕ) (h : x ≤ 4096) : (BitVec.ofNat 32 x).toInt = (x : ℤ) := by
  rw [BitVec.toInt_eq_toNat_cond, BitVec.toNat_ofNat]
  omega

theorem left_toInt (n : Vec Ideal S1x512 .i32) (L : Fin 16 → ℕ) (hL : ∀ b, L b ≤ 2048)
    (hn : ∀ b j, n (ix2 0 (at32 b j)) = BitVec.ofNat 32 (L b)) (g b : Fin 16) (i j : Fin 32) :
    (left (F := Ideal) n (ix2 (at32 g i) (at32 b j))).toInt = (L b : ℤ) - 128 * g.val := by
  rw [left_apply, hn, at32_div]
  have h1 := hL b
  have h2 := g.isLt
  have e1 : (BitVec.ofNat 32 (L b)).toInt = (L b : ℤ) := word_toInt _ (by omega)
  have e2 : (BitVec.ofNat 32 g.val * 128#32) = BitVec.ofNat 32 (128 * g.val) := by
    rw [mul_comm, BitVec.ofNat_mul]
  have e3 : (BitVec.ofNat 32 (128 * g.val)).toInt = ((128 * g.val : ℕ) : ℤ) := word_toInt _ (by omega)
  rw [e2, BitVec.toInt_sub, e1, e3, Int.bmod_eq_of_le (by omega) (by omega)]
  push_cast; rfl

section firsts
variable {W O Q : Vec Ideal S512x512 .bf16} {R : Vec Ideal S512x16 .bf16}
  {D : Vec Ideal S512x32 .bf16} {S : Vec Ideal S512x16 .f32} {w : Mat} (K : Consts W O Q R D S w)
  (hw : ∀ i j, 0 < w i j) {E : Vec Ideal S16x128x512 .bf16} {e : Fin 16 → ℕ → Fin 32 → ℝ} {L : Fin 16 → ℕ}
  (hE : ∀ (g : Fin 16) (t : Fin 128) (b : Fin 16) (i : Fin 32),
    (E (ix3 g t (at32 b i)) : EReal) = ((e b (128 * g.val + t.val) i : ℝ) : EReal))
  (he : ∀ b t i, 0 < e b t i) (n : Vec Ideal S1x512 .i32) (hL : ∀ b, L b ≤ 2048)
  (hn : ∀ b j, n (ix2 0 (at32 b j)) = BitVec.ofNat 32 (L b))

theorem eye_blk : Blk (k0_pay134 (F := Ideal)) fun _ _ => 1 := by
  intro g b i j
  beta_reduce
  rw [eye_apply, at32_mod, at32_mod, one_apply]
  simp only [Fin.val_inj]
  split <;> simp

include hL hn in
theorem mask_one (g b : Fin 16) (i j : Fin 32) :
    k0_pay133 k0_pay130 (left (F := Ideal) n) (ix2 (at32 g i) (at32 b j)) = 1#1
      ↔ 0 < g.val ∧ 128 * g.val < L b := by
  rw [mask_apply, at32_div]
  have e1 : (BitVec.ofNat 32 g.val).toInt = ((g.val : ℕ) : ℤ) := word_toInt _ (by omega)
  have h1 : ∀ x : BitVec 32, IntOp.cmpi .sgt x 0#32 = BitVec.ofBool (decide (0 < x.toInt)) := by
    intro x; simp [IntOp.cmpi, BitVec.slt]
  rw [h1, h1, e1, left_toInt n L hL hn]
  have h2 : ∀ p q : Bool, IntOp.andi (BitVec.ofBool p) (BitVec.ofBool q) = 1#1 ↔ p = true ∧ q = true := by decide
  rw [h2, decide_eq_true_iff, decide_eq_true_iff]
  omega

include K hw hE he hL hn

theorem first_stands : Stands (firstBlock W O Q R (slab E 0) (k0_pay133 k0_pay130 (left (F := Ideal) n)))
    fun g b => run w (e b) (L b) g.val 16 := by
  refine rest_stands K hw hE he 0 ?_
  refine ⟨fun g b => run w (e b) (L b) g.val 1, fun _ _ => 0, fun g b i j => ?_, fun g b i j => ?_, fun g b => ?_,
    fun g b => ?_⟩
  · have h0 := adv_blk K eye_blk (flat_row K hw hE he 0 0 (by omega) slices_S16x16x512_o0_0_0_S16x1x512) g b i j
    have h1 := eye_blk g b i j
    have hm := mask_one n hL hn g b i j
    by_cases hc : 0 < g.val ∧ 128 * g.val < L b
    · have : ¬ (0 = 0 ∧ ¬ (0 < g.val ∧ 128 * g.val < L b)) := by tauto
      beta_reduce
      rw [run_take _ _ _ _ _ this]
      refine Eq.trans ?_ h0
      exact if_pos (hm.mpr hc)
    · beta_reduce
      rw [run_skip _ _ _ _ hc]
      refine Eq.trans ?_ h1
      exact if_neg (fun e => hc (hm.mp e))
  · exact Ideal.ofBits_zero_f32
  · beta_reduce
    by_cases hc : 0 < g.val ∧ 128 * g.val < L b
    · rw [run_take _ _ _ _ _ (by tauto)]
      exact (good_one.mul (good_of_pos hw)).mul (good_diagonal (he b _))
    · rw [run_skip _ _ _ _ hc]
      exact good_one
  · simp

theorem after64_stands : Stands (after64 W O Q R n E) fun g b => run w (e b) (L b) g.val 64 := by
  unfold after64
  refine block_stands K hw hE he 3 (by decide) ?_
  refine block_stands K hw hE he 2 (by decide) ?_
  refine block_stands K hw hE he 1 (by decide) ?_
  exact first_stands K hw hE he n hL hn

theorem after128_stands : Stands (after128 W O Q R n E) fun g b => run w (e b) (L b) g.val 128 := by
  unfold after128
  refine block_stands K hw hE he 7 (by decide) ?_
  refine block_stands K hw hE he 6 (by decide) ?_
  refine block_stands K hw hE he 5 (by decide) ?_
  refine block_stands K hw hE he 4 (by decide) ?_
  exact after64_stands K hw hE he n hL hn

/-- The chosen matrices stand, with the chosen scales, for the chunks' transfer matrices. -/
theorem picked_stands : ∃ (P : Fin 16 → Fin 16 → Mat) (c : Fin 16 → Fin 16 → ℝ),
    Blk (pick n (after64 W O Q R n E).1 (after128 W O Q R n E).1) P ∧
    (∀ b j, (pickScale n (after64 W O Q R n E).2 (after128 W O Q R n E).2 (ix2 0 (at32 b j)) : EReal)
      = ((∑ g, c g b : ℝ) : EReal)) ∧
    (∀ g b, Good (P g b)) ∧ ∀ g b, chunk w (e b) (L b) g.val = Real.exp (c g b) • P g b := by
  obtain ⟨P1, c1, hx1, ha1, hg1, hN1⟩ := after64_stands K hw hE he n hL hn
  obtain ⟨P2, c2, hx2, ha2, hg2, hN2⟩ := after128_stands K hw hE he n hL hn
  refine ⟨fun g b => if L b ≤ 128 * g.val then 1 else if L b = 128 * g.val + 64 then P1 g b else P2 g b,
    fun g b => if L b ≤ 128 * g.val then 0 else if L b = 128 * g.val + 64 then c1 g b else c2 g b, ?_, ?_, ?_, ?_⟩
  · intro g b i j
    rw [pick_apply, left_toInt n L hL hn, eye_blk, hx1, hx2]
    beta_reduce
    by_cases h : L b ≤ 128 * g.val
    · rw [if_pos (by omega), if_pos h]
    · rw [if_neg (by omega), if_neg h]
      by_cases h64 : L b = 128 * g.val + 64
      · rw [if_pos (by omega), if_pos h64]
      · rw [if_neg (by omega), if_neg h64]
  · intro b j
    rw [pickScale_apply, sum512, ← coe_sum]
    refine Finset.sum_congr rfl fun g _ => ?_
    rw [Finset.sum_eq_single (0 : Fin 32)]
    · rw [if_pos (by rw [at32_mod]; rfl), left_toInt n L hL hn, ha1, ha2]
      beta_reduce
      by_cases h : L b ≤ 128 * g.val
      · rw [if_pos (by omega), if_pos h, EReal.coe_zero]
      · rw [if_neg (by omega), if_neg h]
        by_cases h64 : L b = 128 * g.val + 64
        · rw [if_pos (by omega), if_pos h64]
        · rw [if_neg (by omega), if_neg h64]
    · intro i _ hi
      rw [if_neg]
      rw [at32_mod]
      exact fun e => hi (Fin.ext e)
    · exact fun h => absurd (Finset.mem_univ _) h
  · intro g b
    beta_reduce
    split
    · exact good_one
    · split
      · exact hg1 g b
      · exact hg2 g b
  · intro g b
    unfold chunk
    beta_reduce
    split
    · simp
    · split
      · exact hN1 g b
      · exact hN2 g b

end firsts

end Cert.Crf.Model
-- ==== Proof.Value.lean ====
module
public import proofs.«01_k».proof.Proof.Blocks
@[expose] public section

/-! The kernel's output as real numbers: the scores less the logarithms of the partition functions. -/

set_option maxRecDepth 16384

noncomputable section

namespace Cert.Crf.Model

open Idealize.ShloMosaic Idealize.SL.Sem
open Cert.KernelIdeal Cert.KernelIdeal.Gen
open Pointwise Cert.Crf.Chain Matrix

/-- The 32 rows of chunk `g`. -/
theorem slice_apply (x : FVec Ideal S512x512 .bf16) (g : Fin 16) (o : ℕ) (ho : o = 32 * g.val)
    (h : S512x512.Slices ![o, 0] S32x512) (i : Fin 32) (b : Fin 512) :
    (extractStridedSlice S32x512 ![o, 0] x h (ix2 i b) : EReal) = x (ix2 (at32 g i) b) := by
  subst ho
  refine congrArg x ?_
  funext d
  match d with
  | ⟨0, _⟩ => exact Fin.ext rfl
  | ⟨1, _⟩ => exact Fin.ext (Nat.zero_add _)

/-- The blocks of a row of sixteen matrices. -/
def Row (f : FVec Ideal S32x512 .bf16) (P : Fin 16 → Mat) : Prop :=
  ∀ b i j, (f (ix2 i (at32 b j)) : EReal) = ((P b i j : ℝ) : EReal)

section joins
variable {W O Q : Vec Ideal S512x512 .bf16} {R : Vec Ideal S512x16 .bf16}
  {D : Vec Ideal S512x32 .bf16} {S : Vec Ideal S512x16 .f32} {w : Mat} (K : Consts W O Q R D S w)
include K

theorem diag_row {v : FVec Ideal S32x512 .bf16} {P : Fin 16 → Mat} (hv : Row v P) (c b : Fin 16)
    (i j : Fin 32) : (diag D O v (ix2 (at32 c i) (at32 b j)) : EReal)
      = if c = b then ((P b i j : ℝ) : EReal) else 0 := by
  rw [diag_apply, K.hO]
  simp only [K.hD, hv _ _ _, ite_mul, one_mul, zero_mul, mul_ite, mul_one, mul_zero]
  rw [Finset.sum_ite_eq, if_pos (Finset.mem_univ _)]

theorem join_row {f p : FVec Ideal S32x512 .bf16} {P N : Fin 16 → Mat} (hf : Row f N) (hp : Row p P) :
    Row (join D O f p) fun b => N b * P b := by
  intro b i j
  rw [join_apply, sum512]
  simp only [hf _ _ _, diag_row K hp, mul_ite, mul_zero]
  rw [sum_pick b fun c k => ((N c i k : ℝ) : EReal) * ((P b k j : ℝ) : EReal)]
  simp only [← EReal.coe_mul]
  rw [coe_sum, mul_apply]

theorem joinSum_row {f : FVec Ideal S32x512 .bf16} {N : Fin 16 → Mat} (hf : Row f N) (b : Fin 16)
    (j : Fin 32) : (joinSum O f (ix2 0 (at32 b j)) : EReal) = ((tot (N b) : ℝ) : EReal) := by
  rw [joinSum_apply]
  simp only [sum512, hf _ _ _, K.hO, mul_ite, mul_zero, mul_one, sum_pick, coe_sum]
  rfl

/-- The running product of some chunks: with its scale and the chunks' own it stands for `N`. -/
def Joined (c : Fin 16 → ℝ) (q : FVec Ideal S32x512 .bf16 × FVec Ideal S1x512 .f32)
    (N : Fin 16 → Mat) : Prop :=
  ∃ (P : Fin 16 → Mat) (s : Fin 16 → ℝ), Row q.1 P ∧
    (∀ b j, (q.2 (ix2 0 (at32 b j)) : EReal) = ((s b : ℝ) : EReal)) ∧
    (∀ b, Good (P b)) ∧ ∀ b, N b = Real.exp (s b + c b) • P b

theorem link_joined {p : FVec Ideal S32x512 .bf16} {q : FVec Ideal S32x512 .bf16 × FVec Ideal S1x512 .f32}
    {P M N : Fin 16 → Mat} {c d : Fin 16 → ℝ} (hp : Row p P) (hg : ∀ b, Good (P b))
    (hM : ∀ b, M b = Real.exp (d b) • P b) (hq : Joined c q N) :
    Joined (fun b => c b + d b) (link D O p q) fun b => N b * M b := by
  obtain ⟨T, s, hT, hs, hG, hN⟩ := hq
  have hj := join_row K hT hp
  have hpos : ∀ b, Good (T b * P b) := fun b => (hG b).mul (hg b)
  refine ⟨fun b => (1 / tot (T b * P b)) • (T b * P b), fun b => s b + Real.log (tot (T b * P b)), ?_, ?_, ?_, ?_⟩
  · intro b i j
    rw [link1_apply, hj, joinSum_row K hj, Ideal.div_coe (hpos b).tot_pos.ne', ← EReal.coe_mul, mul_comm]
    rfl
  · intro b j
    rw [link2_apply, hs, joinSum_row K hj, Ideal.log_coe, if_neg (hpos b).tot_pos.not_ge, EReal.coe_add]
  · exact fun b => (hpos b).smul (one_div_pos.mpr (hpos b).tot_pos)
  · intro b
    beta_reduce
    rw [hN, hM, smul_mul, Matrix.mul_smul, smul_smul, ← Real.exp_add,
      show s b + Real.log (tot (T b * P b)) + (c b + d b) = (s b + c b + d b) + Real.log (tot (T b * P b)) by ring,
      rescale _ (hpos b)]

/-- The scales of the first `G` chunks, added up. -/
def scales (c : Fin 16 → Fin 16 → ℝ) (G : ℕ) (b : Fin 16) : ℝ :=
  ∑ g ∈ Finset.range G, if h : g < 16 then c ⟨g, h⟩ b else 0

omit K in
theorem scales_all (c : Fin 16 → Fin 16 → ℝ) (b : Fin 16) : scales c 16 b = ∑ g, c g b := by
  rw [scales, Finset.sum_range]
  exact Finset.sum_congr rfl fun g _ => dif_pos g.isLt

/-- One link of the chain, the chunk read off the picked matrices. -/
theorem link_chunk {x : FVec Ideal S512x512 .bf16} {P : Fin 16 → Fin 16 → Mat} {c : Fin 16 → Fin 16 → ℝ}
    {e : Fin 16 → ℕ → Fin 32 → ℝ} {L : Fin 16 → ℕ} (hx : Blk x P) (hg : ∀ g b, Good (P g b))
    (hc : ∀ g b, chunk w (e b) (L b) g.val = Real.exp (c g b) • P g b) (G o : ℕ) (hG : G < 16) (ho : o = 32 * G)
    (h : S512x512.Slices ![o, 0] S32x512) {q : FVec Ideal S32x512 .bf16 × FVec Ideal S1x512 .f32}
    (hq : Joined (scales c G) q fun b => prod w (e b) (L b) G) :
    Joined (scales c (G + 1)) (link D O (extractStridedSlice S32x512 ![o, 0] x h) q)
      fun b => prod w (e b) (L b) (G + 1) := by
  have hr : Row (extractStridedSlice S32x512 ![o, 0] x h) (P ⟨G, hG⟩) := by
    intro b i j
    rw [slice_apply x ⟨G, hG⟩ o ho, hx]
  have := link_joined K hr (hg _) (hc ⟨G, hG⟩) hq
  refine cast (congrArg (fun z => Joined z _ _) ?_) this
  funext b
  rw [scales, scales, Finset.sum_range_succ, dif_pos hG]

theorem joined_stands {x : FVec Ideal S512x512 .bf16} {P : Fin 16 → Fin 16 → Mat} {c : Fin 16 → Fin 16 → ℝ}
    {e : Fin 16 → ℕ → Fin 32 → ℝ} {L : Fin 16 → ℕ} (hx : Blk x P) (hg : ∀ g b, Good (P g b))
    (hc : ∀ g b, chunk w (e b) (L b) g.val = Real.exp (c g b) • P g b) :
    Joined (scales c 16) (joined D O x) fun b => prod w (e b) (L b) 16 := by
  unfold joined
  refine link_chunk K hx hg hc 15 480 (by decide) (by decide) _ ?_
  refine link_chunk K hx hg hc 14 448 (by decide) (by decide) _ ?_
  refine link_chunk K hx hg hc 13 416 (by decide) (by decide) _ ?_
  refine link_chunk K hx hg hc 12 384 (by decide) (by decide) _ ?_
  refine link_chunk K hx hg hc 11 352 (by decide) (by decide) _ ?_
  refine link_chunk K hx hg hc 10 320 (by decide) (by decide) _ ?_
  refine link_chunk K hx hg hc 9 288 (by decide) (by decide) _ ?_
  refine link_chunk K hx hg hc 8 256 (by decide) (by decide) _ ?_
  refine link_chunk K hx hg hc 7 224 (by decide) (by decide) _ ?_
  refine link_chunk K hx hg hc 6 192 (by decide) (by decide) _ ?_
  refine link_chunk K hx hg hc 5 160 (by decide) (by decide) _ ?_
  refine link_chunk K hx hg hc 4 128 (by decide) (by decide) _ ?_
  refine link_chunk K hx hg hc 3 96 (by decide) (by decide) _ ?_
  refine link_chunk K hx hg hc 2 64 (by decide) (by decide) _ ?_
  refine link_chunk K hx hg hc 1 32 (by decide) (by decide) _ ?_
  refine ⟨P 0, fun _ => 0, ?_, ?_, hg 0, ?_⟩
  · intro b i j
    beta_reduce
    rw [← hx]
    exact slice_apply x 0 0 rfl slices_S512x512_o0_0_S32x512 i (at32 b j)
  · exact fun _ _ => Ideal.ofBits_zero_f32
  · intro b
    have h0 := hc 0 b
    rw [show scales c 1 b = c 0 b by simp [scales], zero_add, ← h0]
    simp [prod]

theorem last_value (sx ex : Vec Ideal S1x512 .f32) (e0 : Vec Ideal S1x1x512 .bf16) (sc : FVec Ideal S1x16 .f32)
    (a : FVec Ideal S1x512 .f32) (q : FVec Ideal S32x512 .bf16 × FVec Ideal S1x512 .f32)
    {e00 : Fin 16 → Fin 32 → ℝ} {en : Fin 32 → ℝ} {c : Fin 16 → ℝ} {N : Fin 16 → Mat} {s : Fin 32 → ℝ}
    (hs : ∀ b i, (sx (ix2 0 (at32 b i)) : EReal) = ((s i : ℝ) : EReal))
    (hen : ∀ b i, (ex (ix2 0 (at32 b i)) : EReal) = ((en i : ℝ) : EReal))
    (he : ∀ b i, (e0 (ix3 0 0 (at32 b i)) : EReal) = ((e00 b i : ℝ) : EReal))
    (ha : ∀ b i, (a (ix2 0 (at32 b i)) : EReal) = ((c b : ℝ) : EReal))
    (hq : Joined c q N) (b : Fin 16)
    (hpos : 0 < ∑ j, ((fun i => s i * e00 b i) ᵥ* N b) j * en j) :
    (last D O S sx ex e0 sc a q (ix2 0 b) : EReal)
      = sc (ix2 0 b) - ((Real.log (∑ j, ((fun i => s i * e00 b i) ᵥ* N b) j * en j) : ℝ) : EReal) := by
  obtain ⟨P, t, hP, ht, hG, hN⟩ := hq
  have hz : ∀ b, (∑ j, ((fun i => s i * e00 b i) ᵥ* N b) j * en j)
      = Real.exp (t b + c b) * ∑ j, ∑ i, (s i * e00 b i) * (P b i j * en j) := by
    intro b
    rw [hN, Finset.mul_sum]
    refine Finset.sum_congr rfl fun j _ => ?_
    rw [vecMul_smul, Pi.smul_apply, smul_eq_mul, mul_assoc]
    congr 1
    simp only [vecMul, dotProduct, Finset.sum_mul, mul_assoc]
  have hX : 0 < ∑ j, ∑ i, (s i * e00 b i) * (P b i j * en j) := by
    have := hz b ▸ hpos
    exact (mul_pos_iff_of_pos_left (Real.exp_pos _)).mp this
  have hl : Real.log (∑ j, ((fun i => s i * e00 b i) ᵥ* N b) j * en j)
      = Real.log (∑ j, ∑ i, (s i * e00 b i) * (P b i j * en j)) + c b + t b := by
    rw [hz, Real.log_mul (Real.exp_pos _).ne' hX.ne', Real.log_exp]; ring
  rw [last_apply, hl, sum512]
  congr 1
  simp only [K.hS, mul_ite, mul_one, mul_zero, Finset.sum_ite_eq', Finset.mem_univ, if_true, ha, ht]
  have hin : (∑ l : Fin 512, (∑ r : Fin 512, (sx (ix2 0 r) * e0 (ix3 0 0 r)) *
      ((∑ i : Fin 32, D (ix2 r i) * (q.1 (ix2 i l) * ex (ix2 0 l))) * O (ix2 r l))) * O (ix2 l (at32 b 0)) : EReal)
      = ((∑ j, ∑ i, (s i * e00 b i) * (P b i j * en j) : ℝ) : EReal) := by
    rw [sum512]
    simp only [K.hO, mul_ite, mul_one, mul_zero]
    rw [sum_pick b fun g j => ∑ r : Fin 512, (sx (ix2 0 r) * e0 (ix3 0 0 r)) *
      ((∑ i : Fin 32, D (ix2 r i) * (q.1 (ix2 i (at32 g j)) * ex (ix2 0 (at32 g j)))) * O (ix2 r (at32 g j)))]
    rw [← coe_sum]
    refine Finset.sum_congr rfl fun j _ => ?_
    rw [sum512]
    simp only [K.hO, K.hD, hs, he, hen, hP _ _ _, ite_mul, one_mul, zero_mul, mul_ite, mul_one, mul_zero,
      Finset.sum_ite_eq, Finset.mem_univ, if_true]
    rw [sum_pick b fun g i => (((s i : ℝ) : EReal) * ((e00 g i : ℝ) : EReal)) * (((P b i j : ℝ) : EReal) * ((en j : ℝ) : EReal))]
    simp only [← EReal.coe_mul, coe_sum]
  rw [hin, Ideal.log_coe, if_neg hX.not_ge, ← EReal.coe_add, ← EReal.coe_add]
/-- The kernel's output: the score less the logarithm of the partition function. -/
theorem out_value (hw : ∀ i j, 0 < w i j) {E : Vec Ideal S16x128x512 .bf16} {e : Fin 16 → ℕ → Fin 32 → ℝ}
    {L : Fin 16 → ℕ}
    (hE : ∀ (g : Fin 16) (t : Fin 128) (b : Fin 16) (i : Fin 32),
      (E (ix3 g t (at32 b i)) : EReal) = ((e b (128 * g.val + t.val) i : ℝ) : EReal))
    (he : ∀ b t i, 0 < e b t i) (n : Vec Ideal S1x512 .i32) (hL : ∀ b, L b ≤ 2048) (hL0 : ∀ b, 0 < L b)
    (hd : ∀ b, 64 ∣ L b) (hn : ∀ b j, n (ix2 0 (at32 b j)) = BitVec.ofNat 32 (L b))
    (sx ex : Vec Ideal S1x512 .f32) {s en : Fin 32 → ℝ}
    (hs : ∀ b i, (sx (ix2 0 (at32 b i)) : EReal) = ((s i : ℝ) : EReal))
    (hen : ∀ b i, (ex (ix2 0 (at32 b i)) : EReal) = ((en i : ℝ) : EReal))
    (hs0 : ∀ i, 0 < s i) (hen0 : ∀ i, 0 < en i) (sc : FVec Ideal S1x16 .f32) (b : Fin 16) :
    (out W O Q R D S n sx ex E sc (ix2 0 b) : EReal)
      = sc (ix2 0 b) - ((Real.log (∑ j, fwd w (e b) (L b) s 2047 j * en j) : ℝ) : EReal) := by
  obtain ⟨P, c, hx, ha, hg, hc⟩ := picked_stands K hw hE he n hL hn
  have hj := joined_stands K hx hg hc
  have hf : (fun i => s i * e b 0 i) ᵥ* prod w (e b) (L b) 16 = fwd w (e b) (L b) s 2047 :=
    fwd_prod w (e b) (L b) s (hd b) (hL0 b) 16
  have := last_value K sx ex (fun j => E (ix3 ⟨0, by decide⟩ ⟨0, by decide⟩ (j 2))) sc
    (pickScale n (after64 W O Q R n E).2 (after128 W O Q R n E).2)
    (joined D O (pick n (after64 W O Q R n E).1 (after128 W O Q R n E).1))
    (e00 := fun b i => e b 0 i) hs hen (fun b i => hE 0 0 b i)
    (fun b i => (ha b i).trans (congrArg _ (scales_all c b).symm)) hj b
    (by
      rw [hf]
      exact Finset.sum_pos (fun j _ => mul_pos (fwd_pos _ _ _ _ hw (he b) hs0 _ _) (hen0 j)) Finset.univ_nonempty)
  rw [hf] at this
  exact this

end joins

end Cert.Crf.Model
-- ==== Proof.Data.lean ====
module
public import proofs.«01_k».proof.Proof.Packed
public import proofs.«01_k».proof.Proof.Chain
@[expose] public section

/-! The inputs as real numbers, and the log-probabilities that kernel and reference both compute. -/

noncomputable section

namespace Cert.Crf

open Idealize.ShloMosaic Chain

/-- The inputs: emissions and tags of every token (nothing past the last), transitions, start and end
scores, offsets. -/
structure Data where
  em : ℕ → Fin 32 → ℝ
  tg : ℕ → Fin 32
  tr : Fin 32 → Fin 32 → ℝ
  st : Fin 32 → ℝ
  en : Fin 32 → ℝ
  cu : Fin 17 → ℕ

/-- The six arrays hold the inputs. -/
structure Holds (d : Data) (x0 : (⟨3, ![16384, 1, 32]⟩ : Shape).Idx → EReal)
    (x1 : (⟨2, ![16384, 1]⟩ : Shape).Idx → BitVec 32)
    (x2 : (⟨1, ![17]⟩ : Shape).Idx → BitVec 32) (x3 : (⟨3, ![1, 32, 32]⟩ : Shape).Idx → EReal)
    (x4 x5 : (⟨2, ![1, 32]⟩ : Shape).Idx → EReal) : Prop where
  em : ∀ (p : Fin 16384) i, x0 (ix3 p 0 i) = ((d.em p.val i : ℝ) : EReal)
  em0 : ∀ p i, 16384 ≤ p → d.em p i = 0
  tg : ∀ p : Fin 16384, x1 (ix2 p 0) = BitVec.ofNat 32 (d.tg p.val).val
  tg0 : ∀ p, 16384 ≤ p → d.tg p = 0
  tr : ∀ i j, x3 (ix3 0 i j) = ((d.tr i j : ℝ) : EReal)
  st : ∀ i, x4 (ix2 0 i) = ((d.st i : ℝ) : EReal)
  en : ∀ i, x5 (ix2 0 i) = ((d.en i : ℝ) : EReal)
  cu : ∀ k, x2 (ix1 k) = BitVec.ofNat 32 (d.cu k)
  packed : Packed d.cu

/-- Arrays that meet the precondition hold some inputs. -/
theorem Inputs.holds {x0 : (⟨3, ![16384, 1, 32]⟩ : Shape).Idx → EReal}
    {x1 : (⟨2, ![16384, 1]⟩ : Shape).Idx → BitVec 32}
    {x2 : (⟨1, ![17]⟩ : Shape).Idx → BitVec 32} {x3 : (⟨3, ![1, 32, 32]⟩ : Shape).Idx → EReal}
    {x4 x5 : (⟨2, ![1, 32]⟩ : Shape).Idx → EReal} (h : Inputs x0 x1 x2 x3 x4 x5) :
    ∃ d, Holds d x0 x1 x2 x3 x4 x5 := by
  choose em hem using h.em
  choose tr htr using h.tr
  choose st hst using h.st
  choose en hen using h.en
  refine ⟨⟨fun p i => if hp : p < 16384 then em (ix3 ⟨p, hp⟩ 0 i) else 0,
    fun p => if hp : p < 16384 then ⟨(x1 (ix2 ⟨p, hp⟩ 0)).toNat, h.tag _⟩ else 0,
    fun i j => tr (ix3 0 i j), fun i => st (ix2 0 i), fun i => en (ix2 0 i), cuN x2⟩,
    fun p i => ?_, fun p i hp => ?_, fun p => ?_, fun p hp => ?_, fun i j => htr _, fun i => hst _,
    fun i => hen _, fun k => ?_, h.packed⟩
  · simp only [dif_pos p.isLt]; exact hem _
  · exact dif_neg (by omega)
  · simp only [dif_pos p.isLt]
    exact (BitVec.ofNat_toNat _ _).symm ▸ (BitVec.setWidth_eq _).symm
  · exact dif_neg (by omega)
  · exact ((BitVec.ofNat_toNat _ _).trans (BitVec.setWidth_eq _)).symm

namespace Data
variable (d : Data)

/-- The length of sequence `b`. -/
def len (b : Fin 16) : ℕ := d.cu b.succ - d.cu b.castSucc

/-- The transition weights. -/
def w : Mat := fun i j => Real.exp (d.tr i j)

/-- The emission weights of sequence `b`. -/
def e (b : Fin 16) (t : ℕ) (i : Fin 32) : ℝ := Real.exp (d.em (d.cu b.castSucc + t) i)

/-- The start weights. -/
def s (i : Fin 32) : ℝ := Real.exp (d.st i)

/-- The end weights. -/
def f (i : Fin 32) : ℝ := Real.exp (d.en i)

/-- The partition function of sequence `b`. -/
def part (b : Fin 16) : ℝ := ∑ j, fwd d.w (d.e b) (d.len b) d.s 2047 j * d.f j

/-- What token `p` adds to its sequence's score: its emission, and its transition from the token before (its
start score, if it is the first). -/
def tok (b : Fin 16) (t : ℕ) : ℝ :=
  d.em (d.cu b.castSucc + t) (d.tg (d.cu b.castSucc + t)) +
    (if t = 0 then d.st (d.tg (d.cu b.castSucc + t))
      else d.tr (d.tg (d.cu b.castSucc + t - 1)) (d.tg (d.cu b.castSucc + t)))

/-- The score of the given tags of sequence `b`. -/
def score (b : Fin 16) : ℝ :=
  ∑ t ∈ Finset.range (d.len b), d.tok b t + d.en (d.tg (d.cu b.succ - 1))

/-- The log-probability of sequence `b`. -/
def logProb (b : Fin 16) : ℝ := d.score b - Real.log (d.part b)

variable {d}

theorem w_pos (i j : Fin 32) : 0 < d.w i j := Real.exp_pos _
theorem e_pos (b : Fin 16) (t : ℕ) (i : Fin 32) : 0 < d.e b t i := Real.exp_pos _
theorem s_pos (i : Fin 32) : 0 < d.s i := Real.exp_pos _
theorem f_pos (i : Fin 32) : 0 < d.f i := Real.exp_pos _

theorem part_pos (b : Fin 16) : 0 < d.part b :=
  Finset.sum_pos (fun j _ => mul_pos (fwd_pos _ _ _ _ w_pos (e_pos b) s_pos _ _) (f_pos j)) Finset.univ_nonempty

end Data

theorem Packed.le_all {cu : Fin 17 → ℕ} (h : Packed cu) (j : Fin 17) : cu j ≤ 16384 := by
  refine Fin.lastCases ?_ (fun b => ?_) j
  · exact h.last.le
  · have := h.le_cu b; omega

theorem Packed.mono {cu : Fin 17 → ℕ} (h : Packed cu) : StrictMono cu :=
  Fin.strictMono_iff_lt_succ.2 fun b => by have := h.lo b; omega

theorem Packed.len_le {d : Data} (h : Packed d.cu) (b : Fin 16) : d.len b ≤ 2048 := by
  have := h.hi b; unfold Data.len; omega

theorem Packed.le_len {d : Data} (h : Packed d.cu) (b : Fin 16) : 64 ≤ d.len b := by
  have := h.lo b; unfold Data.len; omega

end Cert.Crf
-- ==== Proof.Operands.lean ====
module
public import proofs.«01_k».proof.Proof.Value
public import proofs.«01_k».proof.Proof.Data
public import Idealize.ShloMosaic.Lib.StableHlo.ReadAt
@[expose] public section

/-! The entries of the kernel's operands as the host prepares them. -/

set_option maxRecDepth 16384

noncomputable section

namespace Cert.Crf.Model

open Idealize.ShloMosaic Idealize.SL.Sem
open Cert.KernelIdeal Cert.KernelIdeal.Gen
open Pointwise Cert.Crf.Chain

/-- The memory holds the inputs. -/
abbrev HoldsM (d : Data) (m : (ℓ : Loc nD τ sig) → Buf (Elt Ideal) ℓ) (c : Dev nD) : Prop :=
  Holds d (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

theorem bit_val (x y : BitVec 32) :
    (FloatOps.uitofp (F := Ideal) FTy.f32 (IntOp.cmpi CmpIPredicate.eq x y) : EReal) = if x = y then 1 else 0 := by
  change (((IntOp.cmpi CmpIPredicate.eq x y).toNat : ℝ) : EReal) = _
  by_cases h : x = y
  · simp [IntOp.cmpi, h]
  · simp [IntOp.cmpi, h]

theorem word_eq_iff {x y : ℕ} (hx : x < 4096) (hy : y < 4096) :
    BitVec.ofNat 32 x = BitVec.ofNat 32 y ↔ x = y := by
  refine ⟨fun h => ?_, fun h => h ▸ rfl⟩
  have := congrArg BitVec.toNat h
  simp only [BitVec.toNat_ofNat] at this
  omega

theorem eye_val {x y : ℕ} (hx : x < 4096) (hy : y < 4096) :
    (FloatOps.uitofp (F := Ideal) FTy.f32 (IntOp.cmpi CmpIPredicate.eq (IntOp.addi (BitVec.ofNat 32 x) 0#32)
      (BitVec.ofNat 32 y)) : EReal) = if x = y then 1 else 0 := by
  rw [bit_val]
  have : IntOp.addi (BitVec.ofNat 32 x) 0#32 = BitVec.ofNat 32 x := BitVec.add_zero _
  rw [this]
  simp only [word_eq_iff hx hy]

theorem tag_real (i : Fin 32) : (((BitVec.ofNat 32 i.val).toInt : ℝ) : EReal) = (((i.val : ℤ) : ℝ) : EReal) := by
  rw [word_toInt _ (by omega)]

variable {d : Data} {m : (ℓ : Loc nD τ sig) → Buf (Elt Ideal) ℓ} {c : Dev nD} (H : HoldsM d m c)
include H

theorem ent_0 (a : Fin 18432) (b : Fin 32) :
    @Eq EReal ((V m c main_call0_v1 : Vec Ideal S18432x32 .f32) (ix2 a b))
      ((d.em a.val b : ℝ) : EReal) := by
  unfold V V0 hostOps0; simp only [List.flatten_cons, List.flatten_nil, List.append_nil]; after_reads_at
  by_cases h : a.val < 16384
  · rw [dif_pos h]; exact H.em ⟨a.val, h⟩ b
  · rw [dif_neg h, int_val, H.em0 _ _ (by omega)]; simp

theorem ent_1 (a : Fin 4608) (b : Fin 128) :
    @Eq EReal ((V m c main_call0_v2 : Vec Ideal S4608x128 .f32) (ix2 a b))
      ((d.em (4 * a.val + b.val / 32) ⟨b.val % 32, Nat.mod_lt _ (by decide)⟩ : ℝ) : EReal) := by
  rw [Nat.mul_comm 4 a.val]
  unfold V V0 hostOps0; simp only [List.flatten_cons, List.flatten_nil, List.append_nil]; after_reads_at
  by_cases h : a.val * 4 + b.val / 32 < 16384
  · rw [dif_pos ⟨h, Nat.mod_lt _ (by decide)⟩]; exact H.em ⟨a.val * 4 + b.val / 32, h⟩ _
  · rw [dif_neg (fun e => h e.1), int_val, H.em0 _ _ (by omega)]; simp

theorem ent_2 (a : Fin 4608) (b : Fin 128) :
    @Eq EReal ((V m c main_call0_v11 : Vec Ideal S4608x128 .bf16) (ix2 a b))
      ((((d.tg (4 * a.val + b.val / 32)).val : ℤ) : ℝ) : EReal) := by
  rw [Nat.mul_comm 4 a.val]
  unfold V V0 hostOps0; simp only [List.flatten_cons, List.flatten_nil, List.append_nil]; after_reads_at
  rw [int_val]
  by_cases h : a.val * 4 + b.val / 32 < 16384
  · rw [dif_pos h]
    have := H.tg ⟨a.val * 4 + b.val / 32, h⟩
    refine (congrArg (fun x : BitVec 32 => ((x.toInt : ℝ) : EReal)) this).trans ?_
    exact tag_real _
  · rw [dif_neg h, H.tg0 _ (by omega)]; simp; rfl

theorem ent_3 (a : Fin 4608) (b : Fin 128) (ha : 4 * a.val + b.val / 32 < 16384) (h1 : 0 < 4 * a.val + b.val / 32) :
    @Eq EReal ((V m c main_call0_v15 : Vec Ideal S4608x128 .bf16) (ix2 a b))
      ((((d.tg (4 * a.val + b.val / 32 - 1)).val : ℤ) : ℝ) : EReal) := by
  rw [Nat.mul_comm 4 a.val]
  unfold V V0 hostOps0; simp only [List.flatten_cons, List.flatten_nil, List.append_nil]; after_reads_at
  after_reads_at
  rw [int_val]
  by_cases h : a.val * 4 + b.val / 32 < 16384
  · have h1' : ¬ a.val * 4 + b.val / 32 < 1 := by omega
    rw [dif_pos h, dif_neg h1']
    have := H.tg ⟨a.val * 4 + b.val / 32 - 1, by omega⟩
    refine (congrArg (fun x : BitVec 32 => ((x.toInt : ℝ) : EReal)) this).trans ?_
    exact tag_real _
  · exfalso; omega

theorem ent_4 (a : Fin 128) (b : Fin 128) :
    @Eq EReal ((V m c main_call0_v24 : Vec Ideal S128x128 .bf16) (ix2 a b))
      (if a.val / 32 = b.val / 32 then ((d.tr ⟨a.val % 32, Nat.mod_lt _ (by decide)⟩ ⟨b.val % 32, Nat.mod_lt _ (by decide)⟩ : ℝ) : EReal) else 0) := by
  unfold V V0 hostOps0; simp only [List.flatten_cons, List.flatten_nil, List.append_nil]; after_reads_at
  rw [eye_val (by omega) (by omega), show m (c, Proc.tc.devRef main_arg3) _ = _ from H.tr _ _]
  split <;> simp

theorem ent_5 (b : Fin 128) :
    @Eq EReal ((V m c main_call0_v29 : Vec Ideal S1x128 .f32) (ix2 0 b))
      ((d.st ⟨b.val % 32, Nat.mod_lt _ (by decide)⟩ : ℝ) : EReal) := by
  unfold V V0 hostOps0; simp only [List.flatten_cons, List.flatten_nil, List.append_nil]; after_reads_at
  exact H.st _

theorem ent_6 (b : Fin 128) :
    @Eq EReal ((V m c main_call0_v34 : Vec Ideal S1x128 .f32) (ix2 0 b))
      ((d.en ⟨b.val % 32, Nat.mod_lt _ (by decide)⟩ : ℝ) : EReal) := by
  unfold V V0 hostOps0; simp only [List.flatten_cons, List.flatten_nil, List.append_nil]; after_reads_at
  exact H.en _

theorem ent_7 (a : Fin 512) (b : Fin 512) :
    @Eq EReal ((V m c main_call0_v43 : Vec Ideal S512x512 .bf16) (ix2 a b))
      (if a.val / 32 = b.val / 32 then ((d.w ⟨a.val % 32, Nat.mod_lt _ (by decide)⟩ ⟨b.val % 32, Nat.mod_lt _ (by decide)⟩ : ℝ) : EReal) else 0) := by
  unfold V V0 hostOps0; simp only [List.flatten_cons, List.flatten_nil, List.append_nil]; after_reads_at
  rw [eye_val (by omega) (by omega), show m (c, Proc.tc.devRef main_arg3) _ = _ from H.tr _ _, Ideal.exp_coe]
  split
  · rw [one_mul]; rfl
  · rw [zero_mul]

omit H in
theorem ent_8 (a : Fin 512) (b : Fin 512) :
    @Eq EReal ((V m c main_call0_v46 : Vec Ideal S512x512 .bf16) (ix2 a b))
      (if a.val / 32 = b.val / 32 then 1 else 0) := by
  unfold V V0 hostOps0; simp only [List.flatten_cons, List.flatten_nil, List.append_nil]; after_reads_at
  exact eye_val (by omega) (by omega)

omit H in
theorem ent_9 (a : Fin 512) (b : Fin 512) :
    @Eq EReal ((V m c main_call0_v55 : Vec Ideal S512x512 .bf16) (ix2 a b))
      (if a.val / 32 = b.val / 32 then 1 else 0) := by
  unfold V V0 hostOps0; simp only [List.flatten_cons, List.flatten_nil, List.append_nil]; after_reads_at
  exact eye_val (by omega) (by omega)

omit H in
theorem ent_10 (a : Fin 512) (b : Fin 16) :
    @Eq EReal ((V m c main_call0_v64 : Vec Ideal S512x16 .bf16) (ix2 a b))
      (if a.val / 32 = b.val then 1 else 0) := by
  unfold V V0 hostOps0; simp only [List.flatten_cons, List.flatten_nil, List.append_nil]; after_reads_at
  exact eye_val (by omega) (by omega)

omit H in
theorem ent_11 (a : Fin 512) (b : Fin 32) :
    @Eq EReal ((V m c main_call0_v73 : Vec Ideal S512x32 .bf16) (ix2 a b))
      (if a.val % 32 = b.val then 1 else 0) := by
  unfold V V0 hostOps0; simp only [List.flatten_cons, List.flatten_nil, List.append_nil]; after_reads_at
  exact eye_val (by omega) (by omega)

omit H in
theorem ent_12 (a : Fin 512) (b : Fin 16) :
    @Eq EReal ((V m c main_call0_v79 : Vec Ideal S512x16 .f32) (ix2 a b))
      (if a.val = 32 * b.val then 1 else 0) := by
  unfold V V0 hostOps0; simp only [List.flatten_cons, List.flatten_nil, List.append_nil]; after_reads_at
  rw [bit_val, show IntOp.muli (32#32) (BitVec.ofNat 32 b.val) = BitVec.ofNat 32 (32 * b.val) from (BitVec.ofNat_mul ..).symm]
  simp only [word_eq_iff (show a.val < 4096 by omega) (show 32 * b.val < 4096 by omega)]

theorem ent_13 (b : Fin 512) :
    @Eq (BitVec 32) ((V m c main_call0_v85 : Vec Ideal S1x512 .i32) (ix2 0 b))
      (BitVec.ofNat 32 (d.len ⟨b.val / 32, by omega⟩)) := by
  unfold V V0 hostOps0; simp only [List.flatten_cons, List.flatten_nil, List.append_nil]; after_reads_at
  have h1 := H.cu (⟨b.val / 32, by omega⟩ : Fin 16).succ
  have h0 := H.cu (⟨b.val / 32, by omega⟩ : Fin 16).castSucc
  have hlo := H.packed.lo ⟨b.val / 32, by omega⟩
  rw [show m (c, Proc.tc.devRef main_arg2) (ix1 ⟨1 + b.val / 32, by omega⟩) = _ from
    (congrArg (fun k => m (c, Proc.tc.devRef main_arg2) (ix1 k)) (Fin.ext (Nat.add_comm 1 _))).trans h1,
    show m (c, Proc.tc.devRef main_arg2) (ix1 ⟨b.val / 32, by omega⟩) = _ from h0]
  unfold Data.len
  exact (BitVec.ofNat_sub_ofNat_of_le _ _ (by
    have := H.packed.le_cu ⟨b.val / 32, by omega⟩; omega) (by omega))

theorem ent_14 (b : Fin 512) :
    @Eq EReal ((V m c main_call0_v91 : Vec Ideal S1x512 .f32) (ix2 0 b))
      ((d.s ⟨b.val % 32, Nat.mod_lt _ (by decide)⟩ : ℝ) : EReal) := by
  unfold V V0 hostOps0; simp only [List.flatten_cons, List.flatten_nil, List.append_nil]; after_reads_at
  rw [show m (c, Proc.tc.devRef main_arg4) _ = _ from H.st _, Ideal.exp_coe]; rfl

theorem ent_15 (b : Fin 512) :
    @Eq EReal ((V m c main_call0_v97 : Vec Ideal S1x512 .f32) (ix2 0 b))
      ((d.f ⟨b.val % 32, Nat.mod_lt _ (by decide)⟩ : ℝ) : EReal) := by
  unfold V V0 hostOps0; simp only [List.flatten_cons, List.flatten_nil, List.append_nil]; after_reads_at
  rw [show m (c, Proc.tc.devRef main_arg5) _ = _ from H.en _, Ideal.exp_coe]; rfl

theorem consts : Consts (V m c main_call0_v43 : Vec Ideal S512x512 .bf16) (V m c main_call0_v46 : Vec Ideal S512x512 .bf16)
    (V m c main_call0_v55 : Vec Ideal S512x512 .bf16) (V m c main_call0_v64 : Vec Ideal S512x16 .bf16)
    (V m c main_call0_v73 : Vec Ideal S512x32 .bf16) (V m c main_call0_v79 : Vec Ideal S512x16 .f32) d.w where
  hW b i k j := by
    rw [ent_7 H]
    simp only [at32_div, at32_mod, Fin.val_inj]
  hO b i k j := by rw [ent_8 (c := c)]; simp only [at32_div, Fin.val_inj]
  hQ b i k j := by rw [ent_9 (c := c)]; simp only [at32_div, Fin.val_inj]
  hR b i k := by rw [ent_10 (c := c)]; simp only [at32_div, Fin.val_inj]
  hD b i k := by rw [ent_11 (c := c)]; simp only [at32_mod, Fin.val_inj]
  hS b i k := by
    rw [ent_12 (c := c)]
    have e : (at32 b i).val = 32 * b.val + i.val := rfl
    by_cases hi : i = 0
    · subst hi
      by_cases hb : b = k
      · subst hb; simp [e]
      · have : ¬ b.val = k.val := fun h => hb (Fin.ext h)
        rw [if_neg (by rw [e]; simp; omega), if_pos rfl, if_neg hb]
    · have : i.val ≠ 0 := fun h => hi (Fin.ext h)
      rw [if_neg (by rw [e]; omega), if_neg hi]

theorem lens (b : Fin 16) (j : Fin 32) :
    (V m c main_call0_v85 : Vec Ideal S1x512 .i32) (ix2 0 (at32 b j)) = BitVec.ofNat 32 (d.len b) := by
  refine (ent_13 H _).trans ?_
  exact congrArg (fun k => BitVec.ofNat 32 (d.len k)) (Fin.ext (at32_div b j))

theorem starts (b : Fin 16) (i : Fin 32) :
    @Eq EReal ((V m c main_call0_v91 : Vec Ideal S1x512 .f32) (ix2 0 (at32 b i))) ((d.s i : ℝ) : EReal) := by
  refine (ent_14 H _).trans ?_
  exact congrArg (fun k => ((d.s k : ℝ) : EReal)) (Fin.ext (at32_mod b i))

theorem ends (b : Fin 16) (i : Fin 32) :
    @Eq EReal ((V m c main_call0_v97 : Vec Ideal S1x512 .f32) (ix2 0 (at32 b i))) ((d.f i : ℝ) : EReal) := by
  refine (ent_15 H _).trans ?_
  exact congrArg (fun k => ((d.f k : ℝ) : EReal)) (Fin.ext (at32_mod b i))

end Cert.Crf.Model
-- ==== Proof.Score.lean ====
module
public import proofs.«01_k».proof.Proof.Operands
@[expose] public section

/-! The kernel's score of one sequence, at an index. -/

set_option maxRecDepth 16384

noncomputable section

namespace Cert.Crf.Model

open Idealize.ShloMosaic Idealize.SL.Sem
open Cert.KernelIdeal Cert.KernelIdeal.Gen
open Pointwise

/-- A natural number as an extended real. -/
def natVal (n : ℕ) : EReal := (((n : ℤ) : ℝ) : EReal)

theorem natVal_inj {a b : ℕ} : natVal a = natVal b ↔ a = b := by
  unfold natVal
  rw [EReal.coe_eq_coe_iff]
  exact_mod_cast Iff.rfl

theorem natVal_lt {a b : ℕ} : natVal a < natVal b ↔ a < b := by
  unfold natVal
  rw [EReal.coe_lt_coe_iff]
  exact_mod_cast Iff.rfl

theorem natVal_pred {a : ℕ} (h : 0 < a) : natVal a - 1 = natVal (a - 1) := by
  unfold natVal
  rw [← EReal.coe_one, ← EReal.coe_sub, Nat.cast_sub h]
  push_cast
  rfl

theorem natVal_zero : natVal 0 = 0 := by
  unfold natVal
  simp

theorem natVal_word {n : ℕ} (h : n ≤ 2048) : @Eq EReal (FloatOps.sitofp (F := Ideal) .f32 (BitVec.ofNat 32 n)) (natVal n) := by
  rw [int_val]
  unfold natVal
  rw [BitVec.toInt_eq_toNat_cond, BitVec.toNat_ofNat, Nat.mod_eq_of_lt (by omega), if_pos (by omega)]

theorem lane_at (r : Fin 512) (l : Fin 128) : @Eq EReal (k0_pay32 (F := Ideal) (ix2 r l)) (natVal (l.val % 32)) := by
  unfold k0_pay32
  pointwise
  rw [int_val]
  refine congrArg (fun x : ℤ => ((x : ℝ) : EReal)) ?_
  revert l
  decide +kernel

theorem row_at (r : Fin 512) : k0_pay33 (ix2 r 0) = BitVec.ofNat 32 (4 * r.val) := by
  unfold k0_pay33
  pointwise
  revert r
  decide +kernel

theorem quot_at (r : Fin 512) (l : Fin 128) :
    Scalar.select (k0_pay35 (ix2 r l)) (k0_pay36 (ix2 r l)) (k0_pay34 (ix2 r l)) = BitVec.ofNat 32 (l.val / 32) := by
  unfold k0_pay36 k0_pay35 k0_pay34
  pointwise
  revert l
  decide +kernel

theorem pos_at (r : Fin 512) (l : Fin 128) :
    @Eq EReal (k0_pay37 (F := Ideal) k0_pay33 k0_pay34 k0_pay35 k0_pay36 (ix2 r l)) (natVal (4 * r.val + l.val / 32)) := by
  unfold k0_pay37
  pointwise
  rw [quot_at, row_at]
  refine Eq.trans ?_ (natVal_word (n := 4 * r.val + l.val / 32) (by omega))
  refine congrArg (fun x : BitVec 32 => (FloatOps.sitofp (F := Ideal) .f32 x : EReal)) ?_
  exact (BitVec.ofNat_add _ _).symm

theorem first_pos (r : Fin 512) (l : Fin 128) : k0_pay38 (F := Ideal) k0_pay33 k0_pay34 k0_pay35 k0_pay36 (ix2 r l)
    = if 4 * r.val + l.val / 32 = 0 then 1#1 else 0#1 := by
  unfold k0_pay38
  have := pos_at r l
  generalize k0_pay37 (F := Ideal) k0_pay33 k0_pay34 k0_pay35 k0_pay36 = ps at this ⊢
  pointwise
  rw [this, ← natVal_zero]
  by_cases h : 4 * r.val + l.val / 32 = 0
  · rw [if_pos h, decide_eq_true (natVal_inj.2 h)]; rfl
  · rw [if_neg h, decide_eq_false (fun e => h (natVal_inj.1 e))]; rfl

theorem add_at (b : Fin 16) (k : ℕ) (s t : FVec Ideal S1x16 .f32) :
    @Eq EReal (addScore (BitVec.ofNat 32 k) s t (ix2 0 b))
      ((s (ix2 0 b) : EReal) + Scalar.select (IntOp.cmpi CmpIPredicate.eq (BitVec.ofNat 32 b.val) (BitVec.ofNat 32 k))
        (t (ix2 0 b) : EReal) 0) := by
  unfold addScore
  pointwise

/-- The score as a sum over the lanes. -/
theorem score_sum (ln : FVec Ideal S512x128 .bf16) (ps : FVec Ideal S512x128 .f32) (z : IVec S512x128 1) (len : Ideal .f32)
    (em : Vec Ideal S512x128 .f32) (tg sr : Vec Ideal S512x128 .bf16)
    (T : Vec Ideal S128x128 .bf16) (st en : Vec Ideal S1x128 .f32) (b : Fin 16) :
    @Eq EReal (k0_pay43 ln ps z len em tg sr T st en (ix2 0 b))
      (∑ x : Fin 512, ∑ y : Fin 128,
        Scalar.select
          (IntOp.andi (BitVec.ofBool (decide ((tg (ix2 x y) : EReal) = ln (ix2 x y))))
            (BitVec.ofBool (decide ((ps (ix2 x y) : EReal) < len))))
          ((em (ix2 x y) : EReal) +
              Scalar.select (z (ix2 x y)) (st (ix2 0 y) : EReal)
                (∑ u : Fin 128,
                  (FloatOps.sitofp (F := Ideal) FTy.f32
                      (BitVec.setWidth 32 (BitVec.ofBool (decide ((sr (ix2 x u) : EReal) = ln (ix2 x u))))) : EReal) *
                    (T (ix2 u y) : EReal)) +
            if (ps (ix2 x y) : EReal) = (len : EReal) - 1 then (en (ix2 0 y) : EReal) else 0)
          0) := by
  unfold k0_pay43
  pointwise

theorem select_bool {α : Type} (c : Prop) [Decidable c] (x y : α) :
    Scalar.select (BitVec.ofBool (decide c)) x y = if c then x else y := by
  by_cases h : c
  · rw [if_pos h, decide_eq_true h]; rfl
  · rw [if_neg h, decide_eq_false h]; rfl

theorem select_both {α : Type} (c e : Prop) [Decidable c] [Decidable e] (x y : α) :
    Scalar.select (IntOp.andi (BitVec.ofBool (decide c)) (BitVec.ofBool (decide e))) x y = if e ∧ c then x else y := by
  by_cases h : c <;> by_cases h' : e
  · rw [if_pos ⟨h', h⟩, decide_eq_true h, decide_eq_true h']; rfl
  · rw [if_neg (fun k => h' k.1), decide_eq_true h, decide_eq_false h']; rfl
  · rw [if_neg (fun k => h k.2), decide_eq_false h, decide_eq_true h']; rfl
  · rw [if_neg (fun k => h k.2), decide_eq_false h, decide_eq_false h']; rfl

theorem bit_real (c : Prop) [Decidable c] :
    @Eq EReal (FloatOps.sitofp (F := Ideal) FTy.f32 (BitVec.setWidth 32 (BitVec.ofBool (decide c)))) (if c then 1 else 0) := by
  rw [int_val]
  by_cases h : c
  · rw [if_pos h, decide_eq_true h]
    simp
  · rw [if_neg h, decide_eq_false h]
    simp

/-- Rows and lanes are positions and tags. -/
def lanes : Fin 512 × Fin 128 ≃ Fin 2048 × Fin 32 where
  toFun p := (⟨4 * p.1.val + p.2.val / 32, by omega⟩, ⟨p.2.val % 32, by omega⟩)
  invFun q := (⟨q.1.val / 4, by omega⟩, ⟨32 * (q.1.val % 4) + q.2.val, by omega⟩)
  left_inv p := by
    refine Prod.ext (Fin.ext ?_) (Fin.ext ?_)
    · show (4 * p.1.val + p.2.val / 32) / 4 = p.1.val
      omega
    · show 32 * ((4 * p.1.val + p.2.val / 32) % 4) + p.2.val % 32 = p.2.val
      omega
  right_inv q := by
    refine Prod.ext (Fin.ext ?_) (Fin.ext ?_)
    · show 4 * (q.1.val / 4) + (32 * (q.1.val % 4) + q.2.val) / 32 = q.1.val
      omega
    · show (32 * (q.1.val % 4) + q.2.val) % 32 = q.2.val
      omega

theorem sum_lanes (G : ℕ → Fin 32 → ℝ) :
    ∑ x : Fin 512, ∑ y : Fin 128, G (4 * x.val + y.val / 32) ⟨y.val % 32, by omega⟩
      = ∑ t ∈ Finset.range 2048, ∑ i, G t i := by
  rw [← Fintype.sum_prod_type' (f := fun (x : Fin 512) (y : Fin 128) => G (4 * x.val + y.val / 32) ⟨y.val % 32, by omega⟩),
    ← Fin.sum_univ_eq_sum_range (fun t => ∑ i, G t i),
    ← Fintype.sum_prod_type' (f := fun (t : Fin 2048) (i : Fin 32) => G t.val i)]
  exact Fintype.sum_equiv lanes _ _ fun _ => rfl

/-- A sum in which only the tags count, and only the positions of the sequence. -/
theorem sum_tags {L : ℕ} (hL : L ≤ 2048) (hL0 : 0 < L) (tg : ℕ → Fin 32) (A : ℕ → Fin 32 → ℝ) (E : Fin 32 → ℝ) :
    ∑ t ∈ Finset.range 2048, ∑ i, (if t < L ∧ tg t = i then A t i + (if t = L - 1 then E i else 0) else 0)
      = (∑ t ∈ Finset.range L, A t (tg t)) + E (tg (L - 1)) := by
  have h1 : ∀ t, ∑ i, (if t < L ∧ tg t = i then A t i + (if t = L - 1 then E i else 0) else 0)
      = if t < L then A t (tg t) + (if t = L - 1 then E (tg t) else 0) else 0 := by
    intro t
    by_cases h : t < L
    · simp [h]
    · simp [h]
  simp only [h1]
  rw [← Finset.sum_subset (Finset.range_subset_range.2 hL)
    (fun t _ ht => if_neg (fun h => ht (Finset.mem_range.2 h)))]
  rw [Finset.sum_congr rfl (fun t ht => if_pos (Finset.mem_range.1 ht)), Finset.sum_add_distrib,
    Finset.sum_ite_eq' (Finset.range L) (L - 1) (fun t => E (tg t)), if_pos (Finset.mem_range.2 (by omega))]

variable {len : Ideal .f32} {em : Vec Ideal S512x128 .f32} {tg sr : Vec Ideal S512x128 .bf16}
  {T : Vec Ideal S128x128 .bf16} {st en : Vec Ideal S1x128 .f32} {L : ℕ} {emf : ℕ → Fin 32 → ℝ} {tgf : ℕ → Fin 32}
  {trf : Fin 32 → Fin 32 → ℝ} {stf enf : Fin 32 → ℝ}

/-- The row of the transition matrix the tag before picks. -/
theorem picked (x : Fin 512) (y : Fin 128) (s : Fin 32)
    (hs : ∀ u : Fin 128, u.val / 32 = y.val / 32 → @Eq EReal (sr (ix2 x u)) (natVal s.val))
    (hT : ∀ a b : Fin 128, @Eq EReal (T (ix2 a b)) (if a.val / 32 = b.val / 32
      then ((trf ⟨a.val % 32, by omega⟩ ⟨b.val % 32, by omega⟩ : ℝ) : EReal) else 0)) :
    (∑ u : Fin 128, (FloatOps.sitofp (F := Ideal) FTy.f32
      (BitVec.setWidth 32 (BitVec.ofBool (decide ((sr (ix2 x u) : EReal) = (k0_pay32 (F := Ideal) (ix2 x u)))))) : EReal) *
        (T (ix2 u y) : EReal)) = ((trf s ⟨y.val % 32, by omega⟩ : ℝ) : EReal) := by
  rw [Finset.sum_eq_single (⟨32 * (y.val / 32) + s.val, by omega⟩ : Fin 128)]
  · rw [bit_real, lane_at, hs _ (by show (32 * (y.val / 32) + s.val) / 32 = _; omega), if_pos, one_mul, hT, if_pos]
    · refine congrArg (fun i => ((trf i _ : ℝ) : EReal)) (Fin.ext ?_)
      show (32 * (y.val / 32) + s.val) % 32 = s.val
      omega
    · show (32 * (y.val / 32) + s.val) / 32 = _; omega
    · rw [natVal_inj]; show s.val = (32 * (y.val / 32) + s.val) % 32; omega
  · intro u _ hu
    by_cases h : u.val / 32 = y.val / 32
    · rw [bit_real, lane_at, hs u h, if_neg, zero_mul]
      rw [natVal_inj]
      intro e
      refine hu (Fin.ext ?_)
      show u.val = 32 * (y.val / 32) + s.val
      omega
    · rw [hT, if_neg h, mul_zero]
  · intro h
    exact absurd (Finset.mem_univ _) h

theorem score_value (hlen : @Eq EReal len (natVal L)) (hL : L ≤ 2048) (hL0 : 0 < L)
    (hem : ∀ (x : Fin 512) (y : Fin 128), 4 * x.val + y.val / 32 < L →
      @Eq EReal (em (ix2 x y)) ((emf (4 * x.val + y.val / 32) ⟨y.val % 32, by omega⟩ : ℝ) : EReal))
    (htg : ∀ (x : Fin 512) (y : Fin 128), 4 * x.val + y.val / 32 < L →
      @Eq EReal (tg (ix2 x y)) (natVal (tgf (4 * x.val + y.val / 32)).val))
    (hsr : ∀ (x : Fin 512) (y : Fin 128), 4 * x.val + y.val / 32 < L → 0 < 4 * x.val + y.val / 32 →
      @Eq EReal (sr (ix2 x y)) (natVal (tgf (4 * x.val + y.val / 32 - 1)).val))
    (hT : ∀ a b : Fin 128, @Eq EReal (T (ix2 a b)) (if a.val / 32 = b.val / 32
      then ((trf ⟨a.val % 32, by omega⟩ ⟨b.val % 32, by omega⟩ : ℝ) : EReal) else 0))
    (hst : ∀ y : Fin 128, @Eq EReal (st (ix2 0 y)) ((stf ⟨y.val % 32, by omega⟩ : ℝ) : EReal))
    (hen : ∀ y : Fin 128, @Eq EReal (en (ix2 0 y)) ((enf ⟨y.val % 32, by omega⟩ : ℝ) : EReal)) (b : Fin 16) :
    @Eq EReal (score len em tg sr T st en (ix2 0 b))
      (((∑ t ∈ Finset.range L, (emf t (tgf t) + (if t = 0 then stf (tgf t) else trf (tgf (t - 1)) (tgf t))))
        + enf (tgf (L - 1)) : ℝ) : EReal) := by
  rw [← sum_tags hL hL0 tgf (fun t i => emf t i + (if t = 0 then stf i else trf (tgf (t - 1)) i)) enf, ← sum_lanes]
  unfold score
  rw [score_sum, ← coe_sum]
  refine Finset.sum_congr rfl fun x _ => ?_
  rw [← coe_sum]
  refine Finset.sum_congr rfl fun y _ => ?_
  rw [select_both, lane_at, pos_at, first_pos, hlen, natVal_pred hL0]
  by_cases h : 4 * x.val + y.val / 32 < L
  swap
  · rw [if_neg (fun k => h (natVal_lt.1 k.1)), if_neg (fun k => h k.1), EReal.coe_zero]
  rw [htg x y h]
  by_cases h' : tgf (4 * x.val + y.val / 32) = ⟨y.val % 32, by omega⟩
  swap
  · rw [if_neg (fun k => h' (Fin.ext (natVal_inj.1 k.2))), if_neg (fun k => h' k.2), EReal.coe_zero]
  have hc : natVal (4 * x.val + y.val / 32) < natVal L ∧
      natVal (tgf (4 * x.val + y.val / 32)).val = natVal (y.val % 32) :=
    ⟨natVal_lt.2 h, congrArg (fun i : Fin 32 => natVal i.val) h'⟩
  have hc' : 4 * x.val + y.val / 32 < L ∧ tgf (4 * x.val + y.val / 32) = ⟨y.val % 32, by omega⟩ := ⟨h, h'⟩
  rw [if_pos hc, if_pos hc', hem x y h, EReal.coe_add, EReal.coe_add]
  refine congrArg₂ (· + ·) (congrArg₂ (· + ·) rfl ?_) ?_
  · by_cases h0 : 4 * x.val + y.val / 32 = 0
    · rw [if_pos h0, if_pos h0]
      exact hst y
    · rw [if_neg h0, if_neg h0]
      refine (picked x y (tgf (4 * x.val + y.val / 32 - 1)) (fun u hu => ?_) hT)
      have := hsr x u (by omega) (by omega)
      rw [hu] at this
      exact this
  · by_cases h1 : 4 * x.val + y.val / 32 = L - 1
    · rw [if_pos (natVal_inj.2 h1), if_pos h1, hen y]
    · rw [if_neg (fun k => h1 (natVal_inj.1 k)), if_neg h1, EReal.coe_zero]

end Cert.Crf.Model
-- ==== Proof.Extract.lean ====
module
public import proofs.«01_k».proof.Proof.Model
@[expose] public section

/-! The kernel's run, word by word, is the model's: nothing is proved of any number here. -/

set_option maxRecDepth 16384

noncomputable section

namespace Cert.Crf.Model

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]

section run

variable (c : Dev nD) (i : grid0.Coords) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole)
  (x0 : Vec F S18432x32 .f32) (x1 : Vec F S4608x128 .f32) (x2 : Vec F S4608x128 .bf16) (x3 : Vec F S4608x128 .bf16) (x4 : Vec F S128x128 .bf16) (x5 : Vec F S1x128 .f32) (x6 : Vec F S1x128 .f32) (x7 : Vec F S512x512 .bf16) (x8 : Vec F S512x512 .bf16) (x9 : Vec F S512x512 .bf16) (x10 : Vec F S512x16 .bf16) (x11 : Vec F S512x32 .bf16) (x12 : Vec F S512x16 .f32) (x13 : Vec F S1x512 .i32) (x14 : Vec F S1x512 .f32) (x15 : Vec F S1x512 .f32) (xt0 : TbBuf0 (F := F) c tbM0_0) (k0_hw1 : k0_chk1 (tbM0_0.view.readAt (Elt F) (Rect.unit (s := S17) ![0] S1.size inb_S17_S1_0).toLoadRect xt0 (Shape.Idx.first (numel1_S1.symm ▸ Nat.one_pos)))) (k0_hw2 : k0_chk2 (tbM0_0.view.readAt (Elt F) (Rect.unit (s := S17) ![1] S1.size inb_S17_S1_1).toLoadRect xt0 (Shape.Idx.first (numel1_S1.symm ▸ Nat.one_pos)))) (k0_hw3 : k0_chk3 (tbM0_0.view.readAt (Elt F) (Rect.unit (s := S17) ![2] S1.size inb_S17_S1_2).toLoadRect xt0 (Shape.Idx.first (numel1_S1.symm ▸ Nat.one_pos)))) (k0_hw4 : k0_chk4 (tbM0_0.view.readAt (Elt F) (Rect.unit (s := S17) ![3] S1.size inb_S17_S1_3).toLoadRect xt0 (Shape.Idx.first (numel1_S1.symm ▸ Nat.one_pos)))) (k0_hw5 : k0_chk5 (tbM0_0.view.readAt (Elt F) (Rect.unit (s := S17) ![4] S1.size inb_S17_S1_4).toLoadRect xt0 (Shape.Idx.first (numel1_S1.symm ▸ Nat.one_pos)))) (k0_hw6 : k0_chk6 (tbM0_0.view.readAt (Elt F) (Rect.unit (s := S17) ![5] S1.size inb_S17_S1_5).toLoadRect xt0 (Shape.Idx.first (numel1_S1.symm ▸ Nat.one_pos)))) (k0_hw7 : k0_chk7 (tbM0_0.view.readAt (Elt F) (Rect.unit (s := S17) ![6] S1.size inb_S17_S1_6).toLoadRect xt0 (Shape.Idx.first (numel1_S1.symm ▸ Nat.one_pos)))) (k0_hw8 : k0_chk8 (tbM0_0.view.readAt (Elt F) (Rect.unit (s := S17) ![7] S1.size inb_S17_S1_7).toLoadRect xt0 (Shape.Idx.first (numel1_S1.symm ▸ Nat.one_pos)))) (k0_hw9 : k0_chk9 (tbM0_0.view.readAt (Elt F) (Rect.unit (s := S17) ![8] S1.size inb_S17_S1_8).toLoadRect xt0 (Shape.Idx.first (numel1_S1.symm ▸ Nat.one_pos)))) (k0_hw10 : k0_chk10 (tbM0_0.view.readAt (Elt F) (Rect.unit (s := S17) ![9] S1.size inb_S17_S1_9).toLoadRect xt0 (Shape.Idx.first (numel1_S1.symm ▸ Nat.one_pos)))) (k0_hw11 : k0_chk11 (tbM0_0.view.readAt (Elt F) (Rect.unit (s := S17) ![10] S1.size inb_S17_S1_10).toLoadRect xt0 (Shape.Idx.first (numel1_S1.symm ▸ Nat.one_pos)))) (k0_hw12 : k0_chk12 (tbM0_0.view.readAt (Elt F) (Rect.unit (s := S17) ![11] S1.size inb_S17_S1_11).toLoadRect xt0 (Shape.Idx.first (numel1_S1.symm ▸ Nat.one_pos)))) (k0_hw13 : k0_chk13 (tbM0_0.view.readAt (Elt F) (Rect.unit (s := S17) ![12] S1.size inb_S17_S1_12).toLoadRect xt0 (Shape.Idx.first (numel1_S1.symm ▸ Nat.one_pos)))) (k0_hw14 : k0_chk14 (tbM0_0.view.readAt (Elt F) (Rect.unit (s := S17) ![13] S1.size inb_S17_S1_13).toLoadRect xt0 (Shape.Idx.first (numel1_S1.symm ▸ Nat.one_pos)))) (k0_hw15 : k0_chk15 (tbM0_0.view.readAt (Elt F) (Rect.unit (s := S17) ![14] S1.size inb_S17_S1_14).toLoadRect xt0 (Shape.Idx.first (numel1_S1.symm ▸ Nat.one_pos)))) (k0_hw16 : k0_chk16 (tbM0_0.view.readAt (Elt F) (Rect.unit (s := S17) ![15] S1.size inb_S17_S1_15).toLoadRect xt0 (Shape.Idx.first (numel1_S1.symm ▸ Nat.one_pos))))

set_option maxHeartbeats 2000000 in
/-- The first slab. -/
theorem first_eq :
    ((kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16), (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16))
      = firstBlock (arg9.view.readAt (Elt F) (Rect.unit ![0, 0] S512x512.size inb_S512x512_S512x512_0_0).toLoadRect (harg9.unread x7)) (arg10.view.readAt (Elt F) (Rect.unit ![0, 0] S512x512.size inb_S512x512_S512x512_0_0).toLoadRect (harg10.unread x8)) (arg11.view.readAt (Elt F) (Rect.unit ![0, 0] S512x512.size inb_S512x512_S512x512_0_0).toLoadRect (harg11.unread x9)) (arg12.view.readAt (Elt F) (Rect.unit ![0, 0] S512x16.size inb_S512x16_S512x16_0_0).toLoadRect (harg12.unread x10)) (kernelRun0_A.sl.v1443 c arg2 harg2 arg19 x0 xt0 k0_hw1 k0_hw2 k0_hw3 k0_hw4 k0_hw5 k0_hw6 k0_hw7 k0_hw8 k0_hw9 k0_hw10 k0_hw11 k0_hw12 k0_hw13 k0_hw14 k0_hw15 k0_hw16)
        (k0_pay133 k0_pay130 (left (F := F) (arg15.view.readAt (Elt F) (Rect.unit ![0, 0] S1x512.size inb_S1x512_S1x512_0_0).toLoadRect (harg15.unread x13)))) := rfl

set_option maxHeartbeats 2000000 in
/-- The chunks joined. -/
theorem joined_eq :
    (kernelRun0_A.sl.r_134 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x11 x13 xt0 k0_hw1 k0_hw2 k0_hw3 k0_hw4 k0_hw5 k0_hw6 k0_hw7 k0_hw8 k0_hw9 k0_hw10 k0_hw11 k0_hw12 k0_hw13 k0_hw14 k0_hw15 k0_hw16)
      = (joined (arg13.view.readAt (Elt F) (Rect.unit ![0, 0] S512x32.size inb_S512x32_S512x32_0_0).toLoadRect (harg13.unread x11)) (arg10.view.readAt (Elt F) (Rect.unit ![0, 0] S512x512.size inb_S512x512_S512x512_0_0).toLoadRect (harg10.unread x8)) (kernelRun0_A.sl.r_111 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)).2 := rfl

set_option maxHeartbeats 2000000 in
/-- The store. -/
theorem store_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 xt0 k0_hw1 k0_hw2 k0_hw3 k0_hw4 k0_hw5 k0_hw6 k0_hw7 k0_hw8 k0_hw9 k0_hw10 k0_hw11 k0_hw12 k0_hw13 k0_hw14 k0_hw15 k0_hw16).1
      = [⟨Rect.unit ![0, 0] S1x16.size inb_S1x16_S1x16_0_0,
          last (arg13.view.readAt (Elt F) (Rect.unit ![0, 0] S512x32.size inb_S512x32_S512x32_0_0).toLoadRect (harg13.unread x11)) (arg10.view.readAt (Elt F) (Rect.unit ![0, 0] S512x512.size inb_S512x512_S512x512_0_0).toLoadRect (harg10.unread x8)) (arg14.view.readAt (Elt F) (Rect.unit ![0, 0] S512x16.size inb_S512x16_S512x16_0_0).toLoadRect (harg14.unread x12)) (arg16.view.readAt (Elt F) (Rect.unit ![0, 0] S1x512.size inb_S1x512_S1x512_0_0).toLoadRect (harg16.unread x14)) (arg17.view.readAt (Elt F) (Rect.unit ![0, 0] S1x512.size inb_S1x512_S1x512_0_0).toLoadRect (harg17.unread x15)) (kernelRun0_A.sl.v2003 c arg2 harg2 arg19 x0 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_93 c arg3 harg3 arg4 harg4 arg5 harg5 arg6 harg6 arg7 harg7 arg8 harg8 x1 x2 x3 x4 x5 x6 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_113 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)
            (joined (arg13.view.readAt (Elt F) (Rect.unit ![0, 0] S512x32.size inb_S512x32_S512x32_0_0).toLoadRect (harg13.unread x11)) (arg10.view.readAt (Elt F) (Rect.unit ![0, 0] S512x512.size inb_S512x512_S512x512_0_0).toLoadRect (harg10.unread x8)) (kernelRun0_A.sl.r_111 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16))⟩] := rfl

set_option maxHeartbeats 2000000 in
/-- The scores. -/
theorem scores_eq :
    (kernelRun0_A.sl.r_93 c arg3 harg3 arg4 harg4 arg5 harg5 arg6 harg6 arg7 harg7 arg8 harg8 x1 x2 x3 x4 x5 x6 xt0 k0_hw1 k0_hw2 k0_hw3 k0_hw4 k0_hw5 k0_hw6 k0_hw7 k0_hw8 k0_hw9 k0_hw10 k0_hw11 k0_hw12 k0_hw13 k0_hw14 k0_hw15 k0_hw16)
      = (addScore 15#32 (addScore 14#32 (addScore 13#32 (addScore 12#32 (addScore 11#32 (addScore 10#32 (addScore 9#32 (addScore 8#32 (addScore 7#32 (addScore 6#32 (addScore 5#32 (addScore 4#32 (addScore 3#32 (addScore 2#32 (addScore 1#32 (addScore 0#32 (broadcast S1x16 (Scalar.ofBits .f32 0x00000000#32))
        (score (Scalar.sitofp .f32 (Scalar.subi (tbM0_0.view.readAt (Elt F) (Rect.unit (s := S17) ![1] S1.size inb_S17_S1_1).toLoadRect xt0 (Shape.Idx.first (numel1_S1.symm ▸ Nat.one_pos))) (tbM0_0.view.readAt (Elt F) (Rect.unit (s := S17) ![0] S1.size inb_S17_S1_0).toLoadRect xt0 (Shape.Idx.first (numel1_S1.symm ▸ Nat.one_pos)))))
          (arg3.view.readAt (Elt F) (Rect.unit (s := S4608x128) (k0_off2 (tbM0_0.view.readAt (Elt F) (Rect.unit (s := S17) ![0] S1.size inb_S17_S1_0).toLoadRect xt0 (Shape.Idx.first (numel1_S1.symm ▸ Nat.one_pos)))) S512x128.size (k0_off2_inb (tbM0_0.view.readAt (Elt F) (Rect.unit (s := S17) ![0] S1.size inb_S17_S1_0).toLoadRect xt0 (Shape.Idx.first (numel1_S1.symm ▸ Nat.one_pos))) k0_hw1)).toLoadRect (harg3.unread x1)) (arg4.view.readAt (Elt F) (Rect.unit (s := S4608x128) (k0_off2 (tbM0_0.view.readAt (Elt F) (Rect.unit (s := S17) ![0] S1.size inb_S17_S1_0).toLoadRect xt0 (Shape.Idx.first (numel1_S1.symm ▸ Nat.one_pos)))) S512x128.size (k0_off2_inb (tbM0_0.view.readAt (Elt F) (Rect.unit (s := S17) ![0] S1.size inb_S17_S1_0).toLoadRect xt0 (Shape.Idx.first (numel1_S1.symm ▸ Nat.one_pos))) k0_hw1)).toLoadRect (harg4.unread x2)) (arg5.view.readAt (Elt F) (Rect.unit (s := S4608x128) (k0_off2 (tbM0_0.view.readAt (Elt F) (Rect.unit (s := S17) ![0] S1.size inb_S17_S1_0).toLoadRect xt0 (Shape.Idx.first (numel1_S1.symm ▸ Nat.one_pos)))) S512x128.size (k0_off2_inb (tbM0_0.view.readAt (Elt F) (Rect.unit (s := S17) ![0] S1.size inb_S17_S1_0).toLoadRect xt0 (Shape.Idx.first (numel1_S1.symm ▸ Nat.one_pos))) k0_hw1)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![2] S1.size inb_S17_S1_2).toLoadRect xt0 (Shape.Idx.first (numel1_S1.symm ▸ Nat.one_pos))) (tbM0_0.view.readAt (Elt F) (Rect.unit (s := S17) ![1] S1.size inb_S17_S1_1).toLoadRect xt0 (Shape.Idx.first (numel1_S1.symm ▸ Nat.one_pos)))))
          (arg3.view.readAt (Elt F) (Rect.unit (s := S4608x128) (k0_off4 (tbM0_0.view.readAt (Elt F) (Rect.unit (s := S17) ![1] S1.size inb_S17_S1_1).toLoadRect xt0 (Shape.Idx.first (numel1_S1.symm ▸ Nat.one_pos)))) S512x128.size (k0_off4_inb (tbM0_0.view.readAt (Elt F) (Rect.unit (s := S17) ![1] S1.size inb_S17_S1_1).toLoadRect xt0 (Shape.Idx.first (numel1_S1.symm ▸ Nat.one_pos))) k0_hw2)).toLoadRect (harg3.unread x1)) (arg4.view.readAt (Elt F) (Rect.unit (s := S4608x128) (k0_off4 (tbM0_0.view.readAt (Elt F) (Rect.unit (s := S17) ![1] S1.size inb_S17_S1_1).toLoadRect xt0 (Shape.Idx.first (numel1_S1.symm ▸ Nat.one_pos)))) S512x128.size (k0_off4_inb (tbM0_0.view.readAt (Elt F) (Rect.unit (s := S17) ![1] S1.size inb_S17_S1_1).toLoadRect xt0 (Shape.Idx.first (numel1_S1.symm ▸ Nat.one_pos))) k0_hw2)).toLoadRect (harg4.unread x2)) (arg5.view.readAt (Elt F) (Rect.unit (s := S4608x128) (k0_off4 (tbM0_0.view.readAt (Elt F) (Rect.unit (s := S17) ![1] S1.size inb_S17_S1_1).toLoadRect xt0 (Shape.Idx.first (numel1_S1.symm ▸ Nat.one_pos)))) S512x128.size (k0_off4_inb (tbM0_0.view.readAt (Elt F) (Rect.unit (s := S17) ![1] S1.size inb_S17_S1_1).toLoadRect xt0 (Shape.Idx.first (numel1_S1.symm ▸ Nat.one_pos))) k0_hw2)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![3] S1.size inb_S17_S1_3).toLoadRect xt0 (Shape.Idx.first (numel1_S1.symm ▸ Nat.one_pos))) (tbM0_0.view.readAt (Elt F) (Rect.unit (s := S17) ![2] S1.size inb_S17_S1_2).toLoadRect xt0 (Shape.Idx.first (numel1_S1.symm ▸ Nat.one_pos)))))
          (arg3.view.readAt (Elt F) (Rect.unit (s := S4608x128) (k0_off6 (tbM0_0.view.readAt (Elt F) (Rect.unit (s := S17) ![2] S1.size inb_S17_S1_2).toLoadRect xt0 (Shape.Idx.first (numel1_S1.symm ▸ Nat.one_pos)))) S512x128.size (k0_off6_inb (tbM0_0.view.readAt (Elt F) (Rect.unit (s := S17) ![2] S1.size inb_S17_S1_2).toLoadRect xt0 (Shape.Idx.first (numel1_S1.symm ▸ Nat.one_pos))) k0_hw3)).toLoadRect (harg3.unread x1)) (arg4.view.readAt (Elt F) (Rect.unit (s := S4608x128) (k0_off6 (tbM0_0.view.readAt (Elt F) (Rect.unit (s := S17) ![2] S1.size inb_S17_S1_2).toLoadRect xt0 (Shape.Idx.first (numel1_S1.symm ▸ Nat.one_pos)))) S512x128.size (k0_off6_inb (tbM0_0.view.readAt (Elt F) (Rect.unit (s := S17) ![2] S1.size inb_S17_S1_2).toLoadRect xt0 (Shape.Idx.first (numel1_S1.symm ▸ Nat.one_pos))) k0_hw3)).toLoadRect (harg4.unread x2)) (arg5.view.readAt (Elt F) (Rect.unit (s := S4608x128) (k0_off6 (tbM0_0.view.readAt (Elt F) (Rect.unit (s := S17) ![2] S1.size inb_S17_S1_2).toLoadRect xt0 (Shape.Idx.first (numel1_S1.symm ▸ Nat.one_pos)))) S512x128.size (k0_off6_inb (tbM0_0.view.readAt (Elt F) (Rect.unit (s := S17) ![2] S1.size inb_S17_S1_2).toLoadRect xt0 (Shape.Idx.first (numel1_S1.symm ▸ Nat.one_pos))) k0_hw3)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![4] S1.size inb_S17_S1_4).toLoadRect xt0 (Shape.Idx.first (numel1_S1.symm ▸ Nat.one_pos))) (tbM0_0.view.readAt (Elt F) (Rect.unit (s := S17) ![3] S1.size inb_S17_S1_3).toLoadRect xt0 (Shape.Idx.first (numel1_S1.symm ▸ Nat.one_pos)))))
          (arg3.view.readAt (Elt F) (Rect.unit (s := S4608x128) (k0_off8 (tbM0_0.view.readAt (Elt F) (Rect.unit (s := S17) ![3] S1.size inb_S17_S1_3).toLoadRect xt0 (Shape.Idx.first (numel1_S1.symm ▸ Nat.one_pos)))) S512x128.size (k0_off8_inb (tbM0_0.view.readAt (Elt F) (Rect.unit (s := S17) ![3] S1.size inb_S17_S1_3).toLoadRect xt0 (Shape.Idx.first (numel1_S1.symm ▸ Nat.one_pos))) k0_hw4)).toLoadRect (harg3.unread x1)) (arg4.view.readAt (Elt F) (Rect.unit (s := S4608x128) (k0_off8 (tbM0_0.view.readAt (Elt F) (Rect.unit (s := S17) ![3] S1.size inb_S17_S1_3).toLoadRect xt0 (Shape.Idx.first (numel1_S1.symm ▸ Nat.one_pos)))) S512x128.size (k0_off8_inb (tbM0_0.view.readAt (Elt F) (Rect.unit (s := S17) ![3] S1.size inb_S17_S1_3).toLoadRect xt0 (Shape.Idx.first (numel1_S1.symm ▸ Nat.one_pos))) k0_hw4)).toLoadRect (harg4.unread x2)) (arg5.view.readAt (Elt F) (Rect.unit (s := S4608x128) (k0_off8 (tbM0_0.view.readAt (Elt F) (Rect.unit (s := S17) ![3] S1.size inb_S17_S1_3).toLoadRect xt0 (Shape.Idx.first (numel1_S1.symm ▸ Nat.one_pos)))) S512x128.size (k0_off8_inb (tbM0_0.view.readAt (Elt F) (Rect.unit (s := S17) ![3] S1.size inb_S17_S1_3).toLoadRect xt0 (Shape.Idx.first (numel1_S1.symm ▸ Nat.one_pos))) k0_hw4)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![5] S1.size inb_S17_S1_5).toLoadRect xt0 (Shape.Idx.first (numel1_S1.symm ▸ Nat.one_pos))) (tbM0_0.view.readAt (Elt F) (Rect.unit (s := S17) ![4] S1.size inb_S17_S1_4).toLoadRect xt0 (Shape.Idx.first (numel1_S1.symm ▸ Nat.one_pos)))))
          (arg3.view.readAt (Elt F) (Rect.unit (s := S4608x128) (k0_off10 (tbM0_0.view.readAt (Elt F) (Rect.unit (s := S17) ![4] S1.size inb_S17_S1_4).toLoadRect xt0 (Shape.Idx.first (numel1_S1.symm ▸ Nat.one_pos)))) S512x128.size (k0_off10_inb (tbM0_0.view.readAt (Elt F) (Rect.unit (s := S17) ![4] S1.size inb_S17_S1_4).toLoadRect xt0 (Shape.Idx.first (numel1_S1.symm ▸ Nat.one_pos))) k0_hw5)).toLoadRect (harg3.unread x1)) (arg4.view.readAt (Elt F) (Rect.unit (s := S4608x128) (k0_off10 (tbM0_0.view.readAt (Elt F) (Rect.unit (s := S17) ![4] S1.size inb_S17_S1_4).toLoadRect xt0 (Shape.Idx.first (numel1_S1.symm ▸ Nat.one_pos)))) S512x128.size (k0_off10_inb (tbM0_0.view.readAt (Elt F) (Rect.unit (s := S17) ![4] S1.size inb_S17_S1_4).toLoadRect xt0 (Shape.Idx.first (numel1_S1.symm ▸ Nat.one_pos))) k0_hw5)).toLoadRect (harg4.unread x2)) (arg5.view.readAt (Elt F) (Rect.unit (s := S4608x128) (k0_off10 (tbM0_0.view.readAt (Elt F) (Rect.unit (s := S17) ![4] S1.size inb_S17_S1_4).toLoadRect xt0 (Shape.Idx.first (numel1_S1.symm ▸ Nat.one_pos)))) S512x128.size (k0_off10_inb (tbM0_0.view.readAt (Elt F) (Rect.unit (s := S17) ![4] S1.size inb_S17_S1_4).toLoadRect xt0 (Shape.Idx.first (numel1_S1.symm ▸ Nat.one_pos))) k0_hw5)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![6] S1.size inb_S17_S1_6).toLoadRect xt0 (Shape.Idx.first (numel1_S1.symm ▸ Nat.one_pos))) (tbM0_0.view.readAt (Elt F) (Rect.unit (s := S17) ![5] S1.size inb_S17_S1_5).toLoadRect xt0 (Shape.Idx.first (numel1_S1.symm ▸ Nat.one_pos)))))
          (arg3.view.readAt (Elt F) (Rect.unit (s := S4608x128) (k0_off12 (tbM0_0.view.readAt (Elt F) (Rect.unit (s := S17) ![5] S1.size inb_S17_S1_5).toLoadRect xt0 (Shape.Idx.first (numel1_S1.symm ▸ Nat.one_pos)))) S512x128.size (k0_off12_inb (tbM0_0.view.readAt (Elt F) (Rect.unit (s := S17) ![5] S1.size inb_S17_S1_5).toLoadRect xt0 (Shape.Idx.first (numel1_S1.symm ▸ Nat.one_pos))) k0_hw6)).toLoadRect (harg3.unread x1)) (arg4.view.readAt (Elt F) (Rect.unit (s := S4608x128) (k0_off12 (tbM0_0.view.readAt (Elt F) (Rect.unit (s := S17) ![5] S1.size inb_S17_S1_5).toLoadRect xt0 (Shape.Idx.first (numel1_S1.symm ▸ Nat.one_pos)))) S512x128.size (k0_off12_inb (tbM0_0.view.readAt (Elt F) (Rect.unit (s := S17) ![5] S1.size inb_S17_S1_5).toLoadRect xt0 (Shape.Idx.first (numel1_S1.symm ▸ Nat.one_pos))) k0_hw6)).toLoadRect (harg4.unread x2)) (arg5.view.readAt (Elt F) (Rect.unit (s := S4608x128) (k0_off12 (tbM0_0.view.readAt (Elt F) (Rect.unit (s := S17) ![5] S1.size inb_S17_S1_5).toLoadRect xt0 (Shape.Idx.first (numel1_S1.symm ▸ Nat.one_pos)))) S512x128.size (k0_off12_inb (tbM0_0.view.readAt (Elt F) (Rect.unit (s := S17) ![5] S1.size inb_S17_S1_5).toLoadRect xt0 (Shape.Idx.first (numel1_S1.symm ▸ Nat.one_pos))) k0_hw6)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![7] S1.size inb_S17_S1_7).toLoadRect xt0 (Shape.Idx.first (numel1_S1.symm ▸ Nat.one_pos))) (tbM0_0.view.readAt (Elt F) (Rect.unit (s := S17) ![6] S1.size inb_S17_S1_6).toLoadRect xt0 (Shape.Idx.first (numel1_S1.symm ▸ Nat.one_pos)))))
          (arg3.view.readAt (Elt F) (Rect.unit (s := S4608x128) (k0_off14 (tbM0_0.view.readAt (Elt F) (Rect.unit (s := S17) ![6] S1.size inb_S17_S1_6).toLoadRect xt0 (Shape.Idx.first (numel1_S1.symm ▸ Nat.one_pos)))) S512x128.size (k0_off14_inb (tbM0_0.view.readAt (Elt F) (Rect.unit (s := S17) ![6] S1.size inb_S17_S1_6).toLoadRect xt0 (Shape.Idx.first (numel1_S1.symm ▸ Nat.one_pos))) k0_hw7)).toLoadRect (harg3.unread x1)) (arg4.view.readAt (Elt F) (Rect.unit (s := S4608x128) (k0_off14 (tbM0_0.view.readAt (Elt F) (Rect.unit (s := S17) ![6] S1.size inb_S17_S1_6).toLoadRect xt0 (Shape.Idx.first (numel1_S1.symm ▸ Nat.one_pos)))) S512x128.size (k0_off14_inb (tbM0_0.view.readAt (Elt F) (Rect.unit (s := S17) ![6] S1.size inb_S17_S1_6).toLoadRect xt0 (Shape.Idx.first (numel1_S1.symm ▸ Nat.one_pos))) k0_hw7)).toLoadRect (harg4.unread x2)) (arg5.view.readAt (Elt F) (Rect.unit (s := S4608x128) (k0_off14 (tbM0_0.view.readAt (Elt F) (Rect.unit (s := S17) ![6] S1.size inb_S17_S1_6).toLoadRect xt0 (Shape.Idx.first (numel1_S1.symm ▸ Nat.one_pos)))) S512x128.size (k0_off14_inb (tbM0_0.view.readAt (Elt F) (Rect.unit (s := S17) ![6] S1.size inb_S17_S1_6).toLoadRect xt0 (Shape.Idx.first (numel1_S1.symm ▸ Nat.one_pos))) k0_hw7)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![8] S1.size inb_S17_S1_8).toLoadRect xt0 (Shape.Idx.first (numel1_S1.symm ▸ Nat.one_pos))) (tbM0_0.view.readAt (Elt F) (Rect.unit (s := S17) ![7] S1.size inb_S17_S1_7).toLoadRect xt0 (Shape.Idx.first (numel1_S1.symm ▸ Nat.one_pos)))))
          (arg3.view.readAt (Elt F) (Rect.unit (s := S4608x128) (k0_off16 (tbM0_0.view.readAt (Elt F) (Rect.unit (s := S17) ![7] S1.size inb_S17_S1_7).toLoadRect xt0 (Shape.Idx.first (numel1_S1.symm ▸ Nat.one_pos)))) S512x128.size (k0_off16_inb (tbM0_0.view.readAt (Elt F) (Rect.unit (s := S17) ![7] S1.size inb_S17_S1_7).toLoadRect xt0 (Shape.Idx.first (numel1_S1.symm ▸ Nat.one_pos))) k0_hw8)).toLoadRect (harg3.unread x1)) (arg4.view.readAt (Elt F) (Rect.unit (s := S4608x128) (k0_off16 (tbM0_0.view.readAt (Elt F) (Rect.unit (s := S17) ![7] S1.size inb_S17_S1_7).toLoadRect xt0 (Shape.Idx.first (numel1_S1.symm ▸ Nat.one_pos)))) S512x128.size (k0_off16_inb (tbM0_0.view.readAt (Elt F) (Rect.unit (s := S17) ![7] S1.size inb_S17_S1_7).toLoadRect xt0 (Shape.Idx.first (numel1_S1.symm ▸ Nat.one_pos))) k0_hw8)).toLoadRect (harg4.unread x2)) (arg5.view.readAt (Elt F) (Rect.unit (s := S4608x128) (k0_off16 (tbM0_0.view.readAt (Elt F) (Rect.unit (s := S17) ![7] S1.size inb_S17_S1_7).toLoadRect xt0 (Shape.Idx.first (numel1_S1.symm ▸ Nat.one_pos)))) S512x128.size (k0_off16_inb (tbM0_0.view.readAt (Elt F) (Rect.unit (s := S17) ![7] S1.size inb_S17_S1_7).toLoadRect xt0 (Shape.Idx.first (numel1_S1.symm ▸ Nat.one_pos))) k0_hw8)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![9] S1.size inb_S17_S1_9).toLoadRect xt0 (Shape.Idx.first (numel1_S1.symm ▸ Nat.one_pos))) (tbM0_0.view.readAt (Elt F) (Rect.unit (s := S17) ![8] S1.size inb_S17_S1_8).toLoadRect xt0 (Shape.Idx.first (numel1_S1.symm ▸ Nat.one_pos)))))
          (arg3.view.readAt (Elt F) (Rect.unit (s := S4608x128) (k0_off18 (tbM0_0.view.readAt (Elt F) (Rect.unit (s := S17) ![8] S1.size inb_S17_S1_8).toLoadRect xt0 (Shape.Idx.first (numel1_S1.symm ▸ Nat.one_pos)))) S512x128.size (k0_off18_inb (tbM0_0.view.readAt (Elt F) (Rect.unit (s := S17) ![8] S1.size inb_S17_S1_8).toLoadRect xt0 (Shape.Idx.first (numel1_S1.symm ▸ Nat.one_pos))) k0_hw9)).toLoadRect (harg3.unread x1)) (arg4.view.readAt (Elt F) (Rect.unit (s := S4608x128) (k0_off18 (tbM0_0.view.readAt (Elt F) (Rect.unit (s := S17) ![8] S1.size inb_S17_S1_8).toLoadRect xt0 (Shape.Idx.first (numel1_S1.symm ▸ Nat.one_pos)))) S512x128.size (k0_off18_inb (tbM0_0.view.readAt (Elt F) (Rect.unit (s := S17) ![8] S1.size inb_S17_S1_8).toLoadRect xt0 (Shape.Idx.first (numel1_S1.symm ▸ Nat.one_pos))) k0_hw9)).toLoadRect (harg4.unread x2)) (arg5.view.readAt (Elt F) (Rect.unit (s := S4608x128) (k0_off18 (tbM0_0.view.readAt (Elt F) (Rect.unit (s := S17) ![8] S1.size inb_S17_S1_8).toLoadRect xt0 (Shape.Idx.first (numel1_S1.symm ▸ Nat.one_pos)))) S512x128.size (k0_off18_inb (tbM0_0.view.readAt (Elt F) (Rect.unit (s := S17) ![8] S1.size inb_S17_S1_8).toLoadRect xt0 (Shape.Idx.first (numel1_S1.symm ▸ Nat.one_pos))) k0_hw9)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![10] S1.size inb_S17_S1_10).toLoadRect xt0 (Shape.Idx.first (numel1_S1.symm ▸ Nat.one_pos))) (tbM0_0.view.readAt (Elt F) (Rect.unit (s := S17) ![9] S1.size inb_S17_S1_9).toLoadRect xt0 (Shape.Idx.first (numel1_S1.symm ▸ Nat.one_pos)))))
          (arg3.view.readAt (Elt F) (Rect.unit (s := S4608x128) (k0_off20 (tbM0_0.view.readAt (Elt F) (Rect.unit (s := S17) ![9] S1.size inb_S17_S1_9).toLoadRect xt0 (Shape.Idx.first (numel1_S1.symm ▸ Nat.one_pos)))) S512x128.size (k0_off20_inb (tbM0_0.view.readAt (Elt F) (Rect.unit (s := S17) ![9] S1.size inb_S17_S1_9).toLoadRect xt0 (Shape.Idx.first (numel1_S1.symm ▸ Nat.one_pos))) k0_hw10)).toLoadRect (harg3.unread x1)) (arg4.view.readAt (Elt F) (Rect.unit (s := S4608x128) (k0_off20 (tbM0_0.view.readAt (Elt F) (Rect.unit (s := S17) ![9] S1.size inb_S17_S1_9).toLoadRect xt0 (Shape.Idx.first (numel1_S1.symm ▸ Nat.one_pos)))) S512x128.size (k0_off20_inb (tbM0_0.view.readAt (Elt F) (Rect.unit (s := S17) ![9] S1.size inb_S17_S1_9).toLoadRect xt0 (Shape.Idx.first (numel1_S1.symm ▸ Nat.one_pos))) k0_hw10)).toLoadRect (harg4.unread x2)) (arg5.view.readAt (Elt F) (Rect.unit (s := S4608x128) (k0_off20 (tbM0_0.view.readAt (Elt F) (Rect.unit (s := S17) ![9] S1.size inb_S17_S1_9).toLoadRect xt0 (Shape.Idx.first (numel1_S1.symm ▸ Nat.one_pos)))) S512x128.size (k0_off20_inb (tbM0_0.view.readAt (Elt F) (Rect.unit (s := S17) ![9] S1.size inb_S17_S1_9).toLoadRect xt0 (Shape.Idx.first (numel1_S1.symm ▸ Nat.one_pos))) k0_hw10)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![11] S1.size inb_S17_S1_11).toLoadRect xt0 (Shape.Idx.first (numel1_S1.symm ▸ Nat.one_pos))) (tbM0_0.view.readAt (Elt F) (Rect.unit (s := S17) ![10] S1.size inb_S17_S1_10).toLoadRect xt0 (Shape.Idx.first (numel1_S1.symm ▸ Nat.one_pos)))))
          (arg3.view.readAt (Elt F) (Rect.unit (s := S4608x128) (k0_off22 (tbM0_0.view.readAt (Elt F) (Rect.unit (s := S17) ![10] S1.size inb_S17_S1_10).toLoadRect xt0 (Shape.Idx.first (numel1_S1.symm ▸ Nat.one_pos)))) S512x128.size (k0_off22_inb (tbM0_0.view.readAt (Elt F) (Rect.unit (s := S17) ![10] S1.size inb_S17_S1_10).toLoadRect xt0 (Shape.Idx.first (numel1_S1.symm ▸ Nat.one_pos))) k0_hw11)).toLoadRect (harg3.unread x1)) (arg4.view.readAt (Elt F) (Rect.unit (s := S4608x128) (k0_off22 (tbM0_0.view.readAt (Elt F) (Rect.unit (s := S17) ![10] S1.size inb_S17_S1_10).toLoadRect xt0 (Shape.Idx.first (numel1_S1.symm ▸ Nat.one_pos)))) S512x128.size (k0_off22_inb (tbM0_0.view.readAt (Elt F) (Rect.unit (s := S17) ![10] S1.size inb_S17_S1_10).toLoadRect xt0 (Shape.Idx.first (numel1_S1.symm ▸ Nat.one_pos))) k0_hw11)).toLoadRect (harg4.unread x2)) (arg5.view.readAt (Elt F) (Rect.unit (s := S4608x128) (k0_off22 (tbM0_0.view.readAt (Elt F) (Rect.unit (s := S17) ![10] S1.size inb_S17_S1_10).toLoadRect xt0 (Shape.Idx.first (numel1_S1.symm ▸ Nat.one_pos)))) S512x128.size (k0_off22_inb (tbM0_0.view.readAt (Elt F) (Rect.unit (s := S17) ![10] S1.size inb_S17_S1_10).toLoadRect xt0 (Shape.Idx.first (numel1_S1.symm ▸ Nat.one_pos))) k0_hw11)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![12] S1.size inb_S17_S1_12).toLoadRect xt0 (Shape.Idx.first (numel1_S1.symm ▸ Nat.one_pos))) (tbM0_0.view.readAt (Elt F) (Rect.unit (s := S17) ![11] S1.size inb_S17_S1_11).toLoadRect xt0 (Shape.Idx.first (numel1_S1.symm ▸ Nat.one_pos)))))
          (arg3.view.readAt (Elt F) (Rect.unit (s := S4608x128) (k0_off24 (tbM0_0.view.readAt (Elt F) (Rect.unit (s := S17) ![11] S1.size inb_S17_S1_11).toLoadRect xt0 (Shape.Idx.first (numel1_S1.symm ▸ Nat.one_pos)))) S512x128.size (k0_off24_inb (tbM0_0.view.readAt (Elt F) (Rect.unit (s := S17) ![11] S1.size inb_S17_S1_11).toLoadRect xt0 (Shape.Idx.first (numel1_S1.symm ▸ Nat.one_pos))) k0_hw12)).toLoadRect (harg3.unread x1)) (arg4.view.readAt (Elt F) (Rect.unit (s := S4608x128) (k0_off24 (tbM0_0.view.readAt (Elt F) (Rect.unit (s := S17) ![11] S1.size inb_S17_S1_11).toLoadRect xt0 (Shape.Idx.first (numel1_S1.symm ▸ Nat.one_pos)))) S512x128.size (k0_off24_inb (tbM0_0.view.readAt (Elt F) (Rect.unit (s := S17) ![11] S1.size inb_S17_S1_11).toLoadRect xt0 (Shape.Idx.first (numel1_S1.symm ▸ Nat.one_pos))) k0_hw12)).toLoadRect (harg4.unread x2)) (arg5.view.readAt (Elt F) (Rect.unit (s := S4608x128) (k0_off24 (tbM0_0.view.readAt (Elt F) (Rect.unit (s := S17) ![11] S1.size inb_S17_S1_11).toLoadRect xt0 (Shape.Idx.first (numel1_S1.symm ▸ Nat.one_pos)))) S512x128.size (k0_off24_inb (tbM0_0.view.readAt (Elt F) (Rect.unit (s := S17) ![11] S1.size inb_S17_S1_11).toLoadRect xt0 (Shape.Idx.first (numel1_S1.symm ▸ Nat.one_pos))) k0_hw12)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![13] S1.size inb_S17_S1_13).toLoadRect xt0 (Shape.Idx.first (numel1_S1.symm ▸ Nat.one_pos))) (tbM0_0.view.readAt (Elt F) (Rect.unit (s := S17) ![12] S1.size inb_S17_S1_12).toLoadRect xt0 (Shape.Idx.first (numel1_S1.symm ▸ Nat.one_pos)))))
          (arg3.view.readAt (Elt F) (Rect.unit (s := S4608x128) (k0_off26 (tbM0_0.view.readAt (Elt F) (Rect.unit (s := S17) ![12] S1.size inb_S17_S1_12).toLoadRect xt0 (Shape.Idx.first (numel1_S1.symm ▸ Nat.one_pos)))) S512x128.size (k0_off26_inb (tbM0_0.view.readAt (Elt F) (Rect.unit (s := S17) ![12] S1.size inb_S17_S1_12).toLoadRect xt0 (Shape.Idx.first (numel1_S1.symm ▸ Nat.one_pos))) k0_hw13)).toLoadRect (harg3.unread x1)) (arg4.view.readAt (Elt F) (Rect.unit (s := S4608x128) (k0_off26 (tbM0_0.view.readAt (Elt F) (Rect.unit (s := S17) ![12] S1.size inb_S17_S1_12).toLoadRect xt0 (Shape.Idx.first (numel1_S1.symm ▸ Nat.one_pos)))) S512x128.size (k0_off26_inb (tbM0_0.view.readAt (Elt F) (Rect.unit (s := S17) ![12] S1.size inb_S17_S1_12).toLoadRect xt0 (Shape.Idx.first (numel1_S1.symm ▸ Nat.one_pos))) k0_hw13)).toLoadRect (harg4.unread x2)) (arg5.view.readAt (Elt F) (Rect.unit (s := S4608x128) (k0_off26 (tbM0_0.view.readAt (Elt F) (Rect.unit (s := S17) ![12] S1.size inb_S17_S1_12).toLoadRect xt0 (Shape.Idx.first (numel1_S1.symm ▸ Nat.one_pos)))) S512x128.size (k0_off26_inb (tbM0_0.view.readAt (Elt F) (Rect.unit (s := S17) ![12] S1.size inb_S17_S1_12).toLoadRect xt0 (Shape.Idx.first (numel1_S1.symm ▸ Nat.one_pos))) k0_hw13)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![14] S1.size inb_S17_S1_14).toLoadRect xt0 (Shape.Idx.first (numel1_S1.symm ▸ Nat.one_pos))) (tbM0_0.view.readAt (Elt F) (Rect.unit (s := S17) ![13] S1.size inb_S17_S1_13).toLoadRect xt0 (Shape.Idx.first (numel1_S1.symm ▸ Nat.one_pos)))))
          (arg3.view.readAt (Elt F) (Rect.unit (s := S4608x128) (k0_off28 (tbM0_0.view.readAt (Elt F) (Rect.unit (s := S17) ![13] S1.size inb_S17_S1_13).toLoadRect xt0 (Shape.Idx.first (numel1_S1.symm ▸ Nat.one_pos)))) S512x128.size (k0_off28_inb (tbM0_0.view.readAt (Elt F) (Rect.unit (s := S17) ![13] S1.size inb_S17_S1_13).toLoadRect xt0 (Shape.Idx.first (numel1_S1.symm ▸ Nat.one_pos))) k0_hw14)).toLoadRect (harg3.unread x1)) (arg4.view.readAt (Elt F) (Rect.unit (s := S4608x128) (k0_off28 (tbM0_0.view.readAt (Elt F) (Rect.unit (s := S17) ![13] S1.size inb_S17_S1_13).toLoadRect xt0 (Shape.Idx.first (numel1_S1.symm ▸ Nat.one_pos)))) S512x128.size (k0_off28_inb (tbM0_0.view.readAt (Elt F) (Rect.unit (s := S17) ![13] S1.size inb_S17_S1_13).toLoadRect xt0 (Shape.Idx.first (numel1_S1.symm ▸ Nat.one_pos))) k0_hw14)).toLoadRect (harg4.unread x2)) (arg5.view.readAt (Elt F) (Rect.unit (s := S4608x128) (k0_off28 (tbM0_0.view.readAt (Elt F) (Rect.unit (s := S17) ![13] S1.size inb_S17_S1_13).toLoadRect xt0 (Shape.Idx.first (numel1_S1.symm ▸ Nat.one_pos)))) S512x128.size (k0_off28_inb (tbM0_0.view.readAt (Elt F) (Rect.unit (s := S17) ![13] S1.size inb_S17_S1_13).toLoadRect xt0 (Shape.Idx.first (numel1_S1.symm ▸ Nat.one_pos))) k0_hw14)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![15] S1.size inb_S17_S1_15).toLoadRect xt0 (Shape.Idx.first (numel1_S1.symm ▸ Nat.one_pos))) (tbM0_0.view.readAt (Elt F) (Rect.unit (s := S17) ![14] S1.size inb_S17_S1_14).toLoadRect xt0 (Shape.Idx.first (numel1_S1.symm ▸ Nat.one_pos)))))
          (arg3.view.readAt (Elt F) (Rect.unit (s := S4608x128) (k0_off30 (tbM0_0.view.readAt (Elt F) (Rect.unit (s := S17) ![14] S1.size inb_S17_S1_14).toLoadRect xt0 (Shape.Idx.first (numel1_S1.symm ▸ Nat.one_pos)))) S512x128.size (k0_off30_inb (tbM0_0.view.readAt (Elt F) (Rect.unit (s := S17) ![14] S1.size inb_S17_S1_14).toLoadRect xt0 (Shape.Idx.first (numel1_S1.symm ▸ Nat.one_pos))) k0_hw15)).toLoadRect (harg3.unread x1)) (arg4.view.readAt (Elt F) (Rect.unit (s := S4608x128) (k0_off30 (tbM0_0.view.readAt (Elt F) (Rect.unit (s := S17) ![14] S1.size inb_S17_S1_14).toLoadRect xt0 (Shape.Idx.first (numel1_S1.symm ▸ Nat.one_pos)))) S512x128.size (k0_off30_inb (tbM0_0.view.readAt (Elt F) (Rect.unit (s := S17) ![14] S1.size inb_S17_S1_14).toLoadRect xt0 (Shape.Idx.first (numel1_S1.symm ▸ Nat.one_pos))) k0_hw15)).toLoadRect (harg4.unread x2)) (arg5.view.readAt (Elt F) (Rect.unit (s := S4608x128) (k0_off30 (tbM0_0.view.readAt (Elt F) (Rect.unit (s := S17) ![14] S1.size inb_S17_S1_14).toLoadRect xt0 (Shape.Idx.first (numel1_S1.symm ▸ Nat.one_pos)))) S512x128.size (k0_off30_inb (tbM0_0.view.readAt (Elt F) (Rect.unit (s := S17) ![14] S1.size inb_S17_S1_14).toLoadRect xt0 (Shape.Idx.first (numel1_S1.symm ▸ Nat.one_pos))) k0_hw15)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6))))
        (score (Scalar.sitofp .f32 (Scalar.subi (tbM0_0.view.readAt (Elt F) (Rect.unit (s := S17) ![16] S1.size inb_S17_S1_16).toLoadRect xt0 (Shape.Idx.first (numel1_S1.symm ▸ Nat.one_pos))) (tbM0_0.view.readAt (Elt F) (Rect.unit (s := S17) ![15] S1.size inb_S17_S1_15).toLoadRect xt0 (Shape.Idx.first (numel1_S1.symm ▸ Nat.one_pos)))))
          (arg3.view.readAt (Elt F) (Rect.unit (s := S4608x128) (k0_off32 (tbM0_0.view.readAt (Elt F) (Rect.unit (s := S17) ![15] S1.size inb_S17_S1_15).toLoadRect xt0 (Shape.Idx.first (numel1_S1.symm ▸ Nat.one_pos)))) S512x128.size (k0_off32_inb (tbM0_0.view.readAt (Elt F) (Rect.unit (s := S17) ![15] S1.size inb_S17_S1_15).toLoadRect xt0 (Shape.Idx.first (numel1_S1.symm ▸ Nat.one_pos))) k0_hw16)).toLoadRect (harg3.unread x1)) (arg4.view.readAt (Elt F) (Rect.unit (s := S4608x128) (k0_off32 (tbM0_0.view.readAt (Elt F) (Rect.unit (s := S17) ![15] S1.size inb_S17_S1_15).toLoadRect xt0 (Shape.Idx.first (numel1_S1.symm ▸ Nat.one_pos)))) S512x128.size (k0_off32_inb (tbM0_0.view.readAt (Elt F) (Rect.unit (s := S17) ![15] S1.size inb_S17_S1_15).toLoadRect xt0 (Shape.Idx.first (numel1_S1.symm ▸ Nat.one_pos))) k0_hw16)).toLoadRect (harg4.unread x2)) (arg5.view.readAt (Elt F) (Rect.unit (s := S4608x128) (k0_off32 (tbM0_0.view.readAt (Elt F) (Rect.unit (s := S17) ![15] S1.size inb_S17_S1_15).toLoadRect xt0 (Shape.Idx.first (numel1_S1.symm ▸ Nat.one_pos)))) S512x128.size (k0_off32_inb (tbM0_0.view.readAt (Elt F) (Rect.unit (s := S17) ![15] S1.size inb_S17_S1_15).toLoadRect xt0 (Shape.Idx.first (numel1_S1.symm ▸ Nat.one_pos))) k0_hw16)).toLoadRect (harg5.unread x3)) (arg6.view.readAt (Elt F) (Rect.unit ![0, 0] S128x128.size inb_S128x128_S128x128_0_0).toLoadRect (harg6.unread x4)) (arg7.view.readAt (Elt F) (Rect.unit ![0, 0] S1x128.size inb_S1x128_S1x128_0_0).toLoadRect (harg7.unread x5)) (arg8.view.readAt (Elt F) (Rect.unit ![0, 0] S1x128.size inb_S1x128_S1x128_0_0).toLoadRect (harg8.unread x6)))) := rfl

end run

end Cert.Crf.Model
-- ==== Proof.Trips.lean ====
module
public import proofs.«01_k».proof.Proof.Extract
@[expose] public section

/-! The two loops of the run are blocks of sixteen steps. -/

set_option maxRecDepth 16384

noncomputable section

namespace Cert.Crf.Model

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]

section loop1

variable (𝒱 : Variants) (c : Dev nD) (bd : Option 𝒱.V) (i : grid0.Coords) (arg1 : Memref sig .tc .smem S17 .i32) (harg1 : arg1.IsWhole) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole) (v1397 : FVec F S512x512 .bf16) (v1441 : FVec F S512x512 .bf16) (v1626 : FVec F S512x512 .bf16) (v1628 : FVec F S512x512 .f32) (c1_i32_565 : BitVec 32) (c3_i32_566 : BitVec 32) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg19 : BufTy.Contents (Elt F) arg19.view.ty) (init : FVec F S512x512 .bf16 × FVec F S512x512 .f32)

/-- One trip of loop 1. -/
theorem trip1_eq (k : Fin k0_t1_loop.trips) (p : FVec F S512x512 .bf16 × FVec F S512x512 .f32) :
    (trip_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 k).1 p
      = block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off33 k) S16x16x512.size (k0_off33_inb k)).toLoadRect X_arg19) p := by
  unfold trip_k0_t1; rfl

/-- One trip of loop 1 on the state. -/
theorem step1_eq (k : Fin k0_t1_loop.trips) :
    st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init (k.val + 1)
      = block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off33 k) S16x16x512.size (k0_off33_inb k)).toLoadRect X_arg19) (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init k.val) :=
  (st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init k).trans (trip1_eq _ _ _ _ _ _ _ _ _ _ _ _ _ _ _ _ _ _ _ _ _ _ _ _ _ _ _ _ _ _ _ _ _ _ _ _ _ _ _ _ _ _ _ _ _ _ _ _ _ _ _ _ _ k _)

/-- Loop 1, whole. -/
theorem loop1_eq :
    st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init 3
      = (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off33 (⟨2, by decide⟩ : Fin k0_t1_loop.trips)) S16x16x512.size (k0_off33_inb (⟨2, by decide⟩ : Fin k0_t1_loop.trips))).toLoadRect X_arg19)
          (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off33 (⟨1, by decide⟩ : Fin k0_t1_loop.trips)) S16x16x512.size (k0_off33_inb (⟨1, by decide⟩ : Fin k0_t1_loop.trips))).toLoadRect X_arg19)
          (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off33 (⟨0, by decide⟩ : Fin k0_t1_loop.trips)) S16x16x512.size (k0_off33_inb (⟨0, by decide⟩ : Fin k0_t1_loop.trips))).toLoadRect X_arg19)
          init))) := by
  exact ((step1_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨2, by decide⟩).trans (congrArg (block _ _ _ _ _)
    ((step1_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨1, by decide⟩).trans (congrArg (block _ _ _ _ _)
    (step1_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨0, by decide⟩)))))

end loop1

section loop2

variable (𝒱 : Variants) (c : Dev nD) (bd : Option 𝒱.V) (i : grid0.Coords) (arg1 : Memref sig .tc .smem S17 .i32) (harg1 : arg1.IsWhole) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole) (v1397 : FVec F S512x512 .bf16) (v1441 : FVec F S512x512 .bf16) (v1626 : FVec F S512x512 .bf16) (v1628 : FVec F S512x512 .f32) (c1_i32_565 : BitVec 32) (c3_i32_566 : BitVec 32) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg19 : BufTy.Contents (Elt F) arg19.view.ty) (init : FVec F S512x512 .bf16 × FVec F S512x512 .f32)

/-- One trip of loop 2. -/
theorem trip2_eq (k : Fin k0_t2_loop.trips) (p : FVec F S512x512 .bf16 × FVec F S512x512 .f32) :
    (trip_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 k).1 p
      = block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off34 k) S16x16x512.size (k0_off34_inb k)).toLoadRect X_arg19) p := by
  unfold trip_k0_t2; rfl

/-- One trip of loop 2 on the state. -/
theorem step2_eq (k : Fin k0_t2_loop.trips) :
    st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init (k.val + 1)
      = block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off34 k) S16x16x512.size (k0_off34_inb k)).toLoadRect X_arg19) (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init k.val) :=
  (st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init k).trans (trip2_eq _ _ _ _ _ _ _ _ _ _ _ _ _ _ _ _ _ _ _ _ _ _ _ _ _ _ _ _ _ _ _ _ _ _ _ _ _ _ _ _ _ _ _ _ _ _ _ _ _ _ _ _ _ k _)

/-- Loop 2, whole. -/
theorem loop2_eq :
    st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init 4
      = (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off34 (⟨3, by decide⟩ : Fin k0_t2_loop.trips)) S16x16x512.size (k0_off34_inb (⟨3, by decide⟩ : Fin k0_t2_loop.trips))).toLoadRect X_arg19)
          (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off34 (⟨2, by decide⟩ : Fin k0_t2_loop.trips)) S16x16x512.size (k0_off34_inb (⟨2, by decide⟩ : Fin k0_t2_loop.trips))).toLoadRect X_arg19)
          (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off34 (⟨1, by decide⟩ : Fin k0_t2_loop.trips)) S16x16x512.size (k0_off34_inb (⟨1, by decide⟩ : Fin k0_t2_loop.trips))).toLoadRect X_arg19)
          (block (arg9.view.readAt (Elt F) (Rect.unit ![0, 0] S512x512.size inb_S512x512_S512x512_0_0).toLoadRect X_arg9) (arg10.view.readAt (Elt F) (Rect.unit ![0, 0] S512x512.size inb_S512x512_S512x512_0_0).toLoadRect X_arg10) (arg11.view.readAt (Elt F) (Rect.unit ![0, 0] S512x512.size inb_S512x512_S512x512_0_0).toLoadRect X_arg11) (arg12.view.readAt (Elt F) (Rect.unit ![0, 0] S512x16.size inb_S512x16_S512x16_0_0).toLoadRect X_arg12)
          (arg19.view.readAt (Elt F) (Rect.unit (s := S16x128x512) (k0_off34 (⟨0, by decide⟩ : Fin k0_t2_loop.trips)) S16x16x512.size (k0_off34_inb (⟨0, by decide⟩ : Fin k0_t2_loop.trips))).toLoadRect X_arg19)
          init)))) := by
  exact ((step2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨3, by decide⟩).trans (congrArg (block _ _ _ _ _)
    ((step2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨2, by decide⟩).trans (congrArg (block _ _ _ _ _)
    ((step2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨1, by decide⟩).trans (congrArg (block _ _ _ _ _)
    (step2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1_i32_565 c3_i32_566 X_arg9 X_arg10 X_arg11 X_arg12 X_arg19 init ⟨0, by decide⟩)))))))

end loop2

end Cert.Crf.Model
-- ==== Proof.Whole.lean ====
module
public import proofs.«01_k».proof.Proof.Trips
@[expose] public section

/-! What the run leaves in its output buffer is the model's `out`. -/

set_option maxRecDepth 16384

noncomputable section

namespace Cert.Crf.Model

open Idealize.ShloMosaic Idealize.ShloMosaic.TcCoe Idealize.ShloMosaic.Tactic
open Idealize.SL Idealize.SL.RA Idealize.SL.BI Idealize.SL.Sem
open Cert.KernelIdeal Cert.KernelIdeal.Gen
open Pointwise

variable {F : FTy → Type} [FloatOps F]

/-- A load of a whole buffer reads its contents. -/
theorem whole_load {S : Shape} {e : EltTy} (m : Memref sig .tc .vmem S e) (h : m.IsWhole)
    {off : Fin S.rank → ℕ} (inb : ∀ a, off a + S.size a ≤ S.size a) (x : Vec F S e)
    (h0 : ∀ a, off a = 0) :
    m.view.readAt (Elt F) (Rect.unit off S.size inb).toLoadRect (h.unread x) = x := by
  rw [View.readAt_eq_ld, h.read_unread]; exact View.ld_unit_lit inb x h0

/-- A slab read back off the weights that were stored. -/
theorem slab_load (m : Memref sig .tc .vmem S16x128x512 .bf16)
    (L : List (View.Piece (Elt F) S16x128x512 .bf16)) {off : Fin 3 → ℕ}
    (inb : ∀ a, off a + S16x16x512.size a ≤ S16x128x512.size a) (k : Fin 8)
    (h : off = ![0, 16 * k.val, 0]) :
    m.view.readAt (Elt F) (Rect.unit (s := S16x128x512) off S16x16x512.size inb).toLoadRect
        (m.view.writes (Elt F) m.view.junk L) = slab (View.canon L) k := by
  subst h
  rw [View.readAt_writes_junk_eq_canon]
  funext j
  refine congrArg (View.canon L) (funext fun a => Fin.ext ?_)
  fin_cases a <;> simp [Rect.unit, Rect.toLoadRect, LoadRect.idx, ix3]

section run

variable (c : Dev nD) (i : grid0.Coords) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole)
  (x0 : Vec F S18432x32 .f32) (x1 : Vec F S4608x128 .f32) (x2 : Vec F S4608x128 .bf16) (x3 : Vec F S4608x128 .bf16) (x4 : Vec F S128x128 .bf16) (x5 : Vec F S1x128 .f32) (x6 : Vec F S1x128 .f32) (x7 : Vec F S512x512 .bf16) (x8 : Vec F S512x512 .bf16) (x9 : Vec F S512x512 .bf16) (x10 : Vec F S512x16 .bf16) (x11 : Vec F S512x32 .bf16) (x12 : Vec F S512x16 .f32) (x13 : Vec F S1x512 .i32) (x14 : Vec F S1x512 .f32) (x15 : Vec F S1x512 .f32) (xt0 : TbBuf0 (F := F) c tbM0_0) (k0_hw1 : k0_chk1 (tbM0_0.view.readAt (Elt F) (Rect.unit (s := S17) ![0] S1.size inb_S17_S1_0).toLoadRect xt0 (Shape.Idx.first (numel1_S1.symm ▸ Nat.one_pos)))) (k0_hw2 : k0_chk2 (tbM0_0.view.readAt (Elt F) (Rect.unit (s := S17) ![1] S1.size inb_S17_S1_1).toLoadRect xt0 (Shape.Idx.first (numel1_S1.symm ▸ Nat.one_pos)))) (k0_hw3 : k0_chk3 (tbM0_0.view.readAt (Elt F) (Rect.unit (s := S17) ![2] S1.size inb_S17_S1_2).toLoadRect xt0 (Shape.Idx.first (numel1_S1.symm ▸ Nat.one_pos)))) (k0_hw4 : k0_chk4 (tbM0_0.view.readAt (Elt F) (Rect.unit (s := S17) ![3] S1.size inb_S17_S1_3).toLoadRect xt0 (Shape.Idx.first (numel1_S1.symm ▸ Nat.one_pos)))) (k0_hw5 : k0_chk5 (tbM0_0.view.readAt (Elt F) (Rect.unit (s := S17) ![4] S1.size inb_S17_S1_4).toLoadRect xt0 (Shape.Idx.first (numel1_S1.symm ▸ Nat.one_pos)))) (k0_hw6 : k0_chk6 (tbM0_0.view.readAt (Elt F) (Rect.unit (s := S17) ![5] S1.size inb_S17_S1_5).toLoadRect xt0 (Shape.Idx.first (numel1_S1.symm ▸ Nat.one_pos)))) (k0_hw7 : k0_chk7 (tbM0_0.view.readAt (Elt F) (Rect.unit (s := S17) ![6] S1.size inb_S17_S1_6).toLoadRect xt0 (Shape.Idx.first (numel1_S1.symm ▸ Nat.one_pos)))) (k0_hw8 : k0_chk8 (tbM0_0.view.readAt (Elt F) (Rect.unit (s := S17) ![7] S1.size inb_S17_S1_7).toLoadRect xt0 (Shape.Idx.first (numel1_S1.symm ▸ Nat.one_pos)))) (k0_hw9 : k0_chk9 (tbM0_0.view.readAt (Elt F) (Rect.unit (s := S17) ![8] S1.size inb_S17_S1_8).toLoadRect xt0 (Shape.Idx.first (numel1_S1.symm ▸ Nat.one_pos)))) (k0_hw10 : k0_chk10 (tbM0_0.view.readAt (Elt F) (Rect.unit (s := S17) ![9] S1.size inb_S17_S1_9).toLoadRect xt0 (Shape.Idx.first (numel1_S1.symm ▸ Nat.one_pos)))) (k0_hw11 : k0_chk11 (tbM0_0.view.readAt (Elt F) (Rect.unit (s := S17) ![10] S1.size inb_S17_S1_10).toLoadRect xt0 (Shape.Idx.first (numel1_S1.symm ▸ Nat.one_pos)))) (k0_hw12 : k0_chk12 (tbM0_0.view.readAt (Elt F) (Rect.unit (s := S17) ![11] S1.size inb_S17_S1_11).toLoadRect xt0 (Shape.Idx.first (numel1_S1.symm ▸ Nat.one_pos)))) (k0_hw13 : k0_chk13 (tbM0_0.view.readAt (Elt F) (Rect.unit (s := S17) ![12] S1.size inb_S17_S1_12).toLoadRect xt0 (Shape.Idx.first (numel1_S1.symm ▸ Nat.one_pos)))) (k0_hw14 : k0_chk14 (tbM0_0.view.readAt (Elt F) (Rect.unit (s := S17) ![13] S1.size inb_S17_S1_13).toLoadRect xt0 (Shape.Idx.first (numel1_S1.symm ▸ Nat.one_pos)))) (k0_hw15 : k0_chk15 (tbM0_0.view.readAt (Elt F) (Rect.unit (s := S17) ![14] S1.size inb_S17_S1_14).toLoadRect xt0 (Shape.Idx.first (numel1_S1.symm ▸ Nat.one_pos)))) (k0_hw16 : k0_chk16 (tbM0_0.view.readAt (Elt F) (Rect.unit (s := S17) ![15] S1.size inb_S17_S1_15).toLoadRect xt0 (Shape.Idx.first (numel1_S1.symm ▸ Nat.one_pos))))

set_option maxHeartbeats 2000000 in
/-- The state after the first loop. -/
theorem state64 (v1397 v1441 v1626 : FVec F S512x512 .bf16) (v1628 : FVec F S512x512 .f32) (c1 c3 : BitVec 32) :
    (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1 c3 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) ((kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16), (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)) 3)
      = (after64 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))) := by
  rw [loop1_eq, first_eq]
  rw [whole_load arg9 harg9 _ x7 (by decide), whole_load arg10 harg10 _ x8 (by decide),
    whole_load arg11 harg11 _ x9 (by decide), whole_load arg12 harg12 _ x10 (by decide),
    whole_load arg15 harg15 _ x13 (by decide),
    slab_load _ _ _ 3 (by decide), slab_load _ _ _ 2 (by decide), slab_load _ _ _ 1 (by decide),
    show (kernelRun0_A.sl.v1443 c arg2 harg2 arg19 x0 xt0 k0_hw1 k0_hw2 k0_hw3 k0_hw4 k0_hw5 k0_hw6 k0_hw7 k0_hw8 k0_hw9 k0_hw10 k0_hw11 k0_hw12 k0_hw13 k0_hw14 k0_hw15 k0_hw16) = slab (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) 0 from
      slab_load arg19 (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16) inb_S16x128x512_S16x16x512_0_0_0 0 (by decide)]
  rfl

set_option maxHeartbeats 2000000 in
/-- The state after the second loop. -/
theorem state128 (v1397 v1441 v1626 : FVec F S512x512 .bf16) (v1628 : FVec F S512x512 .f32) (c1 c3 : BitVec 32) :
    (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1397 v1441 v1626 v1628 c1 c3 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) (after64 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))) 4)
      = (after128 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))) := by
  rw [loop2_eq]
  rw [whole_load arg9 harg9 _ x7 (by decide), whole_load arg10 harg10 _ x8 (by decide),
    whole_load arg11 harg11 _ x9 (by decide), whole_load arg12 harg12 _ x10 (by decide),
    slab_load _ _ _ 7 (by decide), slab_load _ _ _ 6 (by decide), slab_load _ _ _ 5 (by decide),
    slab_load _ _ _ 4 (by decide)]
  rfl

set_option maxHeartbeats 2000000 in
/-- The matrices that count. -/
theorem picked_eq :
    (kernelRun0_A.sl.r_111 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) = pick x13 (after64 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))).1 (after128 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))).1 := by
  have h : (kernelRun0_A.sl.r_111 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) = pick (arg15.view.readAt (Elt F) (Rect.unit ![0, 0] S1x512.size inb_S1x512_S1x512_0_0).toLoadRect (harg15.unread x13)) (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay132 (F := F) (left (F := F) (arg15.view.readAt (Elt F) (Rect.unit ![0, 0] S1x512.size inb_S1x512_S1x512_0_0).toLoadRect (harg15.unread x13)))) k0_pay134 (kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) 1#32 3#32 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) ((kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16), (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)) 3).1
      (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay132 (F := F) (left (F := F) (arg15.view.readAt (Elt F) (Rect.unit ![0, 0] S1x512.size inb_S1x512_S1x512_0_0).toLoadRect (harg15.unread x13)))) k0_pay134 (kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) 1#32 3#32 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay132 (F := F) (left (F := F) (arg15.view.readAt (Elt F) (Rect.unit ![0, 0] S1x512.size inb_S1x512_S1x512_0_0).toLoadRect (harg15.unread x13)))) k0_pay134 (kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) 1#32 3#32 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) ((kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16), (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)) 3) 4).1 := rfl
  rw [h, state64, state128, whole_load arg15 harg15 _ x13 (by decide)]

set_option maxHeartbeats 2000000 in
/-- The scales that count. -/
theorem pickedScale_eq :
    (kernelRun0_A.sl.r_113 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) = pickScale x13 (after64 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))).2 (after128 x7 x8 x9 x10 x13 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16))).2 := by
  have h : (kernelRun0_A.sl.r_113 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) = pickScale (arg15.view.readAt (Elt F) (Rect.unit ![0, 0] S1x512.size inb_S1x512_S1x512_0_0).toLoadRect (harg15.unread x13)) (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay132 (F := F) (left (F := F) (arg15.view.readAt (Elt F) (Rect.unit ![0, 0] S1x512.size inb_S1x512_S1x512_0_0).toLoadRect (harg15.unread x13)))) k0_pay134 (kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) 1#32 3#32 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) ((kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16), (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)) 3).2
      (st_k0_t2 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay132 (F := F) (left (F := F) (arg15.view.readAt (Elt F) (Rect.unit ![0, 0] S1x512.size inb_S1x512_S1x512_0_0).toLoadRect (harg15.unread x13)))) k0_pay134 (kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) 1#32 3#32 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) (st_k0_t1 (F := F) Variants.none c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (k0_pay132 (F := F) (left (F := F) (arg15.view.readAt (Elt F) (Rect.unit ![0, 0] S1x512.size inb_S1x512_S1x512_0_0).toLoadRect (harg15.unread x13)))) k0_pay134 (kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16) 1#32 3#32 (harg9.unread x7) (harg10.unread x8) (harg11.unread x9) (harg12.unread x10) (arg19.view.writes (Elt F) arg19.view.junk (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) ((kernelRun0_A.sl.r_109 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16), (kernelRun0_A.sl.r_110 c arg2 harg2 arg9 harg9 arg10 harg10 arg11 harg11 arg12 harg12 arg15 harg15 arg19 x0 x7 x8 x9 x10 x13 xt0 k0_hw1 k0_hw2 k0_hw3 k0_hw4 k0_hw5 k0_hw6 k0_hw7 k0_hw8 k0_hw9 k0_hw10 k0_hw11 k0_hw12 k0_hw13 k0_hw14 k0_hw15 k0_hw16)) 3) 4).2 := rfl
  rw [h, state64, state128, whole_load arg15 harg15 _ x13 (by decide)]

set_option maxHeartbeats 2000000 in
/-- What the run leaves in its output buffer. -/
theorem out_eq :
    VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 xt0 k0_hw1 k0_hw2 k0_hw3 k0_hw4 k0_hw5 k0_hw6 k0_hw7 k0_hw8 k0_hw9 k0_hw10 k0_hw11 k0_hw12 k0_hw13 k0_hw14 k0_hw15 k0_hw16).1)
      = out x7 x8 x9 x10 x11 x12 x13 x14 x15 (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)) (kernelRun0_A.sl.r_93 c arg3 harg3 arg4 harg4 arg5 harg5 arg6 harg6 arg7 harg7 arg8 harg8 x1 x2 x3 x4 x5 x6 xt0 k0_hw1 k0_hw2 k0_hw3 k0_hw4 k0_hw5 k0_hw6 k0_hw7 k0_hw8 k0_hw9 k0_hw10 k0_hw11 k0_hw12 k0_hw13 k0_hw14 k0_hw15 k0_hw16) := by
  rw [store_eq, View.read_writes_junk_eq_canon, View.canon_cons_unit_lit _ _ _ (by decide),
    picked_eq, pickedScale_eq]
  rw [whole_load arg10 harg10 _ x8 (by decide), whole_load arg13 harg13 _ x11 (by decide),
    whole_load arg14 harg14 _ x12 (by decide), whole_load arg16 harg16 _ x14 (by decide),
    whole_load arg17 harg17 _ x15 (by decide)]
  rw [out]
  congr 1
  exact (View.readCov_eq_canon' _ _ _).trans (funext fun j => congrArg _ (funext fun a => Fin.ext (by
    fin_cases a <;> simp [Rect.unit, Rect.toLoadRect, LoadRect.idx, ix3])))

end run

end Cert.Crf.Model
-- ==== Proof.Rows.lean ====
module
public import proofs.«01_k».proof.Proof.Score
public import proofs.«01_k».proof.Proof.Whole
@[expose] public section

/-! The rows a sequence's loads read, and what the kernel makes of them. -/

set_option maxRecDepth 16384

noncomputable section

namespace Cert.Crf.Model

open Idealize.ShloMosaic Idealize.ShloMosaic.TcCoe Idealize.SL.Sem
open Cert.KernelIdeal Cert.KernelIdeal.Gen
open Pointwise Chain

variable {F : FTy → Type} [FloatOps F]

/-- A load of some rows of a whole buffer, at an index. -/
theorem load_rows {A B R : ℕ} {e : EltTy} (a : Memref sig .tc .vmem ⟨2, ![A, B]⟩ e) (h : a.IsWhole)
    {off : Fin 2 → ℕ} (inb : ∀ k, off k + (⟨2, ![R, B]⟩ : Shape).size k ≤ (⟨2, ![A, B]⟩ : Shape).size k)
    (x : Vec F ⟨2, ![A, B]⟩ e) {r : ℕ} (hoff : off = ![r, 0]) (i : Fin R) (j : Fin B) (hr : r + i.val < A) :
    a.view.readAt (Elt F) (Rect.unit (s := ⟨2, ![A, B]⟩) off (⟨2, ![R, B]⟩ : Shape).size inb).toLoadRect (h.unread x) (ix2 i j)
      = x (ix2 ⟨r + i.val, hr⟩ j) := by
  subst hoff
  rw [View.readAt_eq_ld, h.read_unread]
  refine View.ld_unit_apply_of _ _ _ _ _ _ fun k => ?_
  match k with
  | ⟨0, _⟩ => rfl
  | ⟨1, _⟩ => exact (Nat.zero_add _).symm

/-- The rows of the packed operands a sequence starts at. -/
theorem off_packed : ∀ k : Fin 257, k0_off2 (BitVec.ofNat 32 (64 * k.val)) = ![16 * k.val, 0] := by
  decide +kernel

/-- The row of the emissions a sequence starts at. -/
theorem off_plain : ∀ k : Fin 257, k0_off1 (BitVec.ofNat 32 (64 * k.val)) = ![64 * k.val, 0] := by
  decide +kernel

/-- A sequence's weights, off its emissions. -/
def wts (x : Vec F S2048x32 .f32) : FVec F S16x128x32 .bf16 := k0_pay41 x

theorem wts_at (x : Vec Ideal S2048x32 .f32) (g : Fin 16) (t : Fin 128) (i : Fin 32) :
    @Eq EReal (wts (F := Ideal) x (ix3 g t i)) (Ideal.exp (x (ix2 ⟨128 * g.val + t.val, by omega⟩ i))) := by
  unfold wts k0_pay41
  pointwise
  exact congrArg (fun r => Ideal.exp (x (ix2 r i))) (Fin.ext (by show g.val * 128 + t.val = 128 * g.val + t.val; omega))

/-- The packed operands, read as the numbers they hold. -/
structure Rows (d : Data) (x1 : Vec Ideal S4608x128 .f32) (x2 x3 : Vec Ideal S4608x128 .bf16)
    (x4 : Vec Ideal S128x128 .bf16) (x5 x6 : Vec Ideal S1x128 .f32) : Prop where
  em (a : Fin 4608) (b : Fin 128) :
    @Eq EReal (x1 (ix2 a b)) ((d.em (4 * a.val + b.val / 32) ⟨b.val % 32, Nat.mod_lt _ (by decide)⟩ : ℝ) : EReal)
  tg (a : Fin 4608) (b : Fin 128) (h : 4 * a.val + b.val / 32 < 16384) :
    @Eq EReal (x2 (ix2 a b)) (natVal (d.tg (4 * a.val + b.val / 32)).val)
  sr (a : Fin 4608) (b : Fin 128) (h : 4 * a.val + b.val / 32 < 16384) (h0 : 0 < 4 * a.val + b.val / 32) :
    @Eq EReal (x3 (ix2 a b)) (natVal (d.tg (4 * a.val + b.val / 32 - 1)).val)
  tr (a b : Fin 128) : @Eq EReal (x4 (ix2 a b)) (if a.val / 32 = b.val / 32
      then ((d.tr ⟨a.val % 32, Nat.mod_lt _ (by decide)⟩ ⟨b.val % 32, Nat.mod_lt _ (by decide)⟩ : ℝ) : EReal) else 0)
  st (b : Fin 128) : @Eq EReal (x5 (ix2 0 b)) ((d.st ⟨b.val % 32, Nat.mod_lt _ (by decide)⟩ : ℝ) : EReal)
  en (b : Fin 128) : @Eq EReal (x6 (ix2 0 b)) ((d.en ⟨b.val % 32, Nat.mod_lt _ (by decide)⟩ : ℝ) : EReal)

/-- One sequence's score, off the rows its loads read. -/
theorem score_row {d : Data} (hp : Packed d.cu) {x1 : Vec Ideal S4608x128 .f32} {x2 x3 : Vec Ideal S4608x128 .bf16}
    {x4 : Vec Ideal S128x128 .bf16} {x5 x6 : Vec Ideal S1x128 .f32} (X : Rows d x1 x2 x3 x4 x5 x6)
    (a3 : Memref sig .tc .vmem S4608x128 .f32) (h3 : a3.IsWhole) (a4 : Memref sig .tc .vmem S4608x128 .bf16) (h4 : a4.IsWhole)
    (a5 : Memref sig .tc .vmem S4608x128 .bf16) (h5 : a5.IsWhole) (a6 : Memref sig .tc .vmem S128x128 .bf16) (h6 : a6.IsWhole)
    (a7 : Memref sig .tc .vmem S1x128 .f32) (h7 : a7.IsWhole) (a8 : Memref sig .tc .vmem S1x128 .f32) (h8 : a8.IsWhole)
    (b : Fin 16) {w0 w1 : BitVec 32} (e0 : w0 = BitVec.ofNat 32 (d.cu b.castSucc)) (e1 : w1 = BitVec.ofNat 32 (d.cu b.succ))
    {off : Fin 2 → ℕ} (inb : ∀ k, off k + S512x128.size k ≤ S4608x128.size k) (hoff : off = k0_off2 w0) (l : Fin 16) :
    @Eq EReal (score (F := Ideal) (Scalar.sitofp .f32 (Scalar.subi w1 w0))
      (a3.view.readAt (Elt Ideal) (Rect.unit (s := S4608x128) off S512x128.size inb).toLoadRect (h3.unread x1))
      (a4.view.readAt (Elt Ideal) (Rect.unit (s := S4608x128) off S512x128.size inb).toLoadRect (h4.unread x2))
      (a5.view.readAt (Elt Ideal) (Rect.unit (s := S4608x128) off S512x128.size inb).toLoadRect (h5.unread x3))
      (a6.view.readAt (Elt Ideal) (Rect.unit ![0, 0] S128x128.size inb_S128x128_S128x128_0_0).toLoadRect (h6.unread x4))
      (a7.view.readAt (Elt Ideal) (Rect.unit ![0, 0] S1x128.size inb_S1x128_S1x128_0_0).toLoadRect (h7.unread x5))
      (a8.view.readAt (Elt Ideal) (Rect.unit ![0, 0] S1x128.size inb_S1x128_S1x128_0_0).toLoadRect (h8.unread x6)) (ix2 0 l))
      ((d.score b : ℝ) : EReal) := by
  rw [whole_load a6 h6 _ x4 (by decide), whole_load a7 h7 _ x5 (by decide), whole_load a8 h8 _ x6 (by decide)]
  have hle := hp.le_all b.succ
  have hlo := hp.lo b
  have hlen : d.len b ≤ 2048 := hp.len_le b
  have hlen0 : 64 ≤ d.len b := hp.le_len b
  have hdef : d.len b = d.cu b.succ - d.cu b.castSucc := rfl
  obtain ⟨k, hk⟩ := hp.dvd_cu b.castSucc
  have hr : off = ![16 * k, 0] := by
    rw [hoff, e0, hk]; exact off_packed ⟨k, by omega⟩
  have hL : (Scalar.subi w1 w0) = BitVec.ofNat 32 (d.len b) := by
    rw [e0, e1]; exact BitVec.ofNat_sub_ofNat_of_le _ _ (by omega) (by omega)
  rw [hL]
  have := score_value (len := (Scalar.sitofp .f32 (BitVec.ofNat 32 (d.len b)) : Ideal .f32)) (L := d.len b)
    (em := a3.view.readAt (Elt Ideal) (Rect.unit (s := S4608x128) off S512x128.size inb).toLoadRect (h3.unread x1))
    (tg := a4.view.readAt (Elt Ideal) (Rect.unit (s := S4608x128) off S512x128.size inb).toLoadRect (h4.unread x2))
    (sr := a5.view.readAt (Elt Ideal) (Rect.unit (s := S4608x128) off S512x128.size inb).toLoadRect (h5.unread x3))
    (emf := fun t => d.em (d.cu b.castSucc + t)) (tgf := fun t => d.tg (d.cu b.castSucc + t))
    (natVal_word hlen) hlen (by omega)
    (fun x y h => by
      rw [load_rows a3 h3 inb x1 hr x y (by omega), X.em]
      have e : 4 * (16 * k + x.val) + y.val / 32 = d.cu b.castSucc + (4 * x.val + y.val / 32) := by omega
      rw [e])
    (fun x y h => by
      have e : 4 * (16 * k + x.val) + y.val / 32 = d.cu b.castSucc + (4 * x.val + y.val / 32) := by omega
      rw [load_rows a4 h4 inb x2 hr x y (by omega), X.tg _ _ (by show 4 * (16 * k + x.val) + y.val / 32 < 16384; omega)]
      show natVal (d.tg (4 * (16 * k + x.val) + y.val / 32)).val = _
      rw [e])
    (fun x y h h0 => by
      have e : 4 * (16 * k + x.val) + y.val / 32 - 1 = d.cu b.castSucc + (4 * x.val + y.val / 32 - 1) := by omega
      rw [load_rows a5 h5 inb x3 hr x y (by omega), X.sr _ _ (by show 4 * (16 * k + x.val) + y.val / 32 < 16384; omega)
        (by show 0 < 4 * (16 * k + x.val) + y.val / 32; omega)]
      show natVal (d.tg (4 * (16 * k + x.val) + y.val / 32 - 1)).val = _
      rw [e])
    X.tr X.st X.en l
  refine this.trans (congrArg (fun r : ℝ => (r : EReal)) ?_)
  unfold Data.score Data.tok
  refine congrArg₂ (· + ·) (Finset.sum_congr rfl fun t _ => ?_) ?_
  · by_cases h : t = 0
    · rw [if_pos h, if_pos h]
    · rw [if_neg h, if_neg h, Nat.add_sub_assoc (by omega)]
  · rw [show d.cu b.castSucc + (d.len b - 1) = d.cu b.succ - 1 by omega]

/-- The scores with one more put in its lane. -/
theorem filled {d : Data} {s t : FVec Ideal S1x16 .f32} (k : Fin 16)
    (hs : ∀ l : Fin 16, @Eq EReal (s (ix2 0 l)) (if l.val < k.val then ((d.score l : ℝ) : EReal) else 0))
    (ht : ∀ l : Fin 16, @Eq EReal (t (ix2 0 l)) ((d.score k : ℝ) : EReal)) (l : Fin 16) :
    @Eq EReal (addScore (BitVec.ofNat 32 k.val) s t (ix2 0 l)) (if l.val < k.val + 1 then ((d.score l : ℝ) : EReal) else 0) := by
  rw [add_at, hs, ht]
  by_cases h : l = k
  · subst h
    rw [if_neg (lt_irrefl _), if_pos (Nat.lt_succ_self _), zero_add]
    simp [IntOp.cmpi, Scalar.select]
  · have hne : l.val ≠ k.val := fun e => h (Fin.ext e)
    have hw : ¬ BitVec.ofNat 32 l.val = BitVec.ofNat 32 k.val := by rw [word_eq_iff (by omega) (by omega)]; exact hne
    have hc : IntOp.cmpi CmpIPredicate.eq (BitVec.ofNat 32 l.val) (BitVec.ofNat 32 k.val) = 0#1 :=
      congrArg BitVec.ofBool (beq_eq_false_iff_ne.2 hw)
    rw [hc]
    refine (add_zero _).trans ?_
    by_cases h1 : l.val < k.val
    · rw [if_pos h1, if_pos (by omega)]
    · rw [if_neg h1, if_neg (by omega)]

/-- One sequence's weights, off the rows its load reads. -/
theorem weight_row {d : Data} (hp : Packed d.cu) {x0 : Vec Ideal S18432x32 .f32}
    (X : ∀ (a : Fin 18432) (i : Fin 32), @Eq EReal (x0 (ix2 a i)) ((d.em a.val i : ℝ) : EReal))
    (a2 : Memref sig .tc .vmem S18432x32 .f32) (h2 : a2.IsWhole) (b : Fin 16) {w0 : BitVec 32}
    (e0 : w0 = BitVec.ofNat 32 (d.cu b.castSucc)) {off : Fin 2 → ℕ}
    (inb : ∀ k, off k + S2048x32.size k ≤ S18432x32.size k) (hoff : off = k0_off1 w0) (g : Fin 16) (t : Fin 128) (i : Fin 32) :
    @Eq EReal (wts (F := Ideal)
      (a2.view.readAt (Elt Ideal) (Rect.unit (s := S18432x32) off S2048x32.size inb).toLoadRect (h2.unread x0)) (ix3 g t i))
      ((d.e b (128 * g.val + t.val) i : ℝ) : EReal) := by
  have hle := hp.le_cu b
  obtain ⟨k, hk⟩ := hp.dvd_cu b.castSucc
  have hr : off = ![64 * k, 0] := by
    rw [hoff, e0, hk]; exact off_plain ⟨k, by omega⟩
  rw [wts_at, load_rows a2 h2 inb x0 hr _ i (by show 64 * k + (128 * g.val + t.val) < 18432; omega), X]
  rw [Ideal.exp_coe]
  show ((Real.exp (d.em (64 * k + (128 * g.val + t.val)) i) : ℝ) : EReal) = ((Real.exp (d.em (d.cu b.castSucc + (128 * g.val + t.val)) i) : ℝ) : EReal)
  rw [hk]

/-- The weights with one more sequence's stored. -/
theorem stored {L : List (View.Piece (Elt Ideal) S16x128x512 .bf16)} {e : Fin 16 → ℕ → Fin 32 → ℝ} (k : Fin 16)
    {off : Fin 3 → ℕ} (hoff : off = ![0, 0, 32 * k.val])
    (inb : ∀ a, off a + S16x128x32.size a ≤ S16x128x512.size a) (w : FVec Ideal S16x128x32 .bf16)
    (hL : ∀ (b : Fin 16), b.val < k.val → ∀ (g : Fin 16) (t : Fin 128) (i : Fin 32),
      @Eq EReal (View.canon L (ix3 g t (at32 b i))) ((e b (128 * g.val + t.val) i : ℝ) : EReal))
    (hw : ∀ (g : Fin 16) (t : Fin 128) (i : Fin 32), @Eq EReal (w (ix3 g t i)) ((e k (128 * g.val + t.val) i : ℝ) : EReal))
    (b : Fin 16) (hb : b.val < k.val + 1) (g : Fin 16) (t : Fin 128) (i : Fin 32) :
    @Eq EReal (View.canon ((⟨Rect.unit (s := S16x128x512) off S16x128x32.size inb, w⟩ : View.Piece (Elt Ideal) S16x128x512 .bf16) :: L)
      (ix3 g t (at32 b i))) ((e b (128 * g.val + t.val) i : ℝ) : EReal) := by
  subst hoff
  by_cases h : b = k
  · subst h
    have e1 : ix3 g t (at32 b i) = (Rect.unit (s := S16x128x512) ![0, 0, 32 * b.val] S16x128x32.size inb).emb (ix3 g t i) := by
      funext a
      apply Fin.ext
      match a with
      | ⟨0, _⟩ => show g.val = 0 + 1 * g.val; omega
      | ⟨1, _⟩ => show t.val = 0 + 1 * t.val; omega
      | ⟨2, _⟩ => show 32 * b.val + i.val = 32 * b.val + 1 * i.val; omega
    rw [e1]
    exact (View.canon_cons_emb _ _ _ _).trans (hw g t i)
  · have hne : b.val ≠ k.val := fun e => h (Fin.ext e)
    rw [View.canon_cons_of_not_mem]
    · exact hL b (by omega) g t i
    · exact Rect.not_mem_set_of_axis (Rect.unit (s := S16x128x512) ![0, 0, 32 * k.val] S16x128x32.size inb) _ 2
        (32 * k.val) 32 rfl rfl rfl
        (by show 32 * b.val + i.val < 32 * k.val ∨ 32 * k.val + 32 ≤ 32 * b.val + i.val; omega)

end Cert.Crf.Model
-- ==== Proof.Filled.lean ====
module
public import proofs.«01_k».proof.Proof.Rows
public import proofs.«01_k».proof.Proof.Extract
@[expose] public section

/-! The weights and the scores of all sixteen sequences, as the kernel leaves them. -/

set_option maxRecDepth 16384

noncomputable section

namespace Cert.Crf.Model

open Idealize.ShloMosaic Idealize.ShloMosaic.TcCoe Idealize.ShloMosaic.Tactic
open Idealize.SL Idealize.SL.RA Idealize.SL.BI Idealize.SL.Sem
open Cert.KernelIdeal Cert.KernelIdeal.Gen
open Pointwise Chain

section pieces

variable {F : FTy → Type} [FloatOps F]

variable (c : Dev nD) (i : grid0.Coords) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole)
  (x0 : Vec F S18432x32 .f32) (x1 : Vec F S4608x128 .f32) (x2 : Vec F S4608x128 .bf16) (x3 : Vec F S4608x128 .bf16) (x4 : Vec F S128x128 .bf16) (x5 : Vec F S1x128 .f32) (x6 : Vec F S1x128 .f32) (x7 : Vec F S512x512 .bf16) (x8 : Vec F S512x512 .bf16) (x9 : Vec F S512x512 .bf16) (x10 : Vec F S512x16 .bf16) (x11 : Vec F S512x32 .bf16) (x12 : Vec F S512x16 .f32) (x13 : Vec F S1x512 .i32) (x14 : Vec F S1x512 .f32) (x15 : Vec F S1x512 .f32) (xt0 : TbBuf0 (F := F) c tbM0_0) (k0_hw1 : k0_chk1 (tbM0_0.view.readAt (Elt F) (Rect.unit (s := S17) ![0] S1.size inb_S17_S1_0).toLoadRect xt0 (Shape.Idx.first (numel1_S1.symm ▸ Nat.one_pos)))) (k0_hw2 : k0_chk2 (tbM0_0.view.readAt (Elt F) (Rect.unit (s := S17) ![1] S1.size inb_S17_S1_1).toLoadRect xt0 (Shape.Idx.first (numel1_S1.symm ▸ Nat.one_pos)))) (k0_hw3 : k0_chk3 (tbM0_0.view.readAt (Elt F) (Rect.unit (s := S17) ![2] S1.size inb_S17_S1_2).toLoadRect xt0 (Shape.Idx.first (numel1_S1.symm ▸ Nat.one_pos)))) (k0_hw4 : k0_chk4 (tbM0_0.view.readAt (Elt F) (Rect.unit (s := S17) ![3] S1.size inb_S17_S1_3).toLoadRect xt0 (Shape.Idx.first (numel1_S1.symm ▸ Nat.one_pos)))) (k0_hw5 : k0_chk5 (tbM0_0.view.readAt (Elt F) (Rect.unit (s := S17) ![4] S1.size inb_S17_S1_4).toLoadRect xt0 (Shape.Idx.first (numel1_S1.symm ▸ Nat.one_pos)))) (k0_hw6 : k0_chk6 (tbM0_0.view.readAt (Elt F) (Rect.unit (s := S17) ![5] S1.size inb_S17_S1_5).toLoadRect xt0 (Shape.Idx.first (numel1_S1.symm ▸ Nat.one_pos)))) (k0_hw7 : k0_chk7 (tbM0_0.view.readAt (Elt F) (Rect.unit (s := S17) ![6] S1.size inb_S17_S1_6).toLoadRect xt0 (Shape.Idx.first (numel1_S1.symm ▸ Nat.one_pos)))) (k0_hw8 : k0_chk8 (tbM0_0.view.readAt (Elt F) (Rect.unit (s := S17) ![7] S1.size inb_S17_S1_7).toLoadRect xt0 (Shape.Idx.first (numel1_S1.symm ▸ Nat.one_pos)))) (k0_hw9 : k0_chk9 (tbM0_0.view.readAt (Elt F) (Rect.unit (s := S17) ![8] S1.size inb_S17_S1_8).toLoadRect xt0 (Shape.Idx.first (numel1_S1.symm ▸ Nat.one_pos)))) (k0_hw10 : k0_chk10 (tbM0_0.view.readAt (Elt F) (Rect.unit (s := S17) ![9] S1.size inb_S17_S1_9).toLoadRect xt0 (Shape.Idx.first (numel1_S1.symm ▸ Nat.one_pos)))) (k0_hw11 : k0_chk11 (tbM0_0.view.readAt (Elt F) (Rect.unit (s := S17) ![10] S1.size inb_S17_S1_10).toLoadRect xt0 (Shape.Idx.first (numel1_S1.symm ▸ Nat.one_pos)))) (k0_hw12 : k0_chk12 (tbM0_0.view.readAt (Elt F) (Rect.unit (s := S17) ![11] S1.size inb_S17_S1_11).toLoadRect xt0 (Shape.Idx.first (numel1_S1.symm ▸ Nat.one_pos)))) (k0_hw13 : k0_chk13 (tbM0_0.view.readAt (Elt F) (Rect.unit (s := S17) ![12] S1.size inb_S17_S1_12).toLoadRect xt0 (Shape.Idx.first (numel1_S1.symm ▸ Nat.one_pos)))) (k0_hw14 : k0_chk14 (tbM0_0.view.readAt (Elt F) (Rect.unit (s := S17) ![13] S1.size inb_S17_S1_13).toLoadRect xt0 (Shape.Idx.first (numel1_S1.symm ▸ Nat.one_pos)))) (k0_hw15 : k0_chk15 (tbM0_0.view.readAt (Elt F) (Rect.unit (s := S17) ![14] S1.size inb_S17_S1_14).toLoadRect xt0 (Shape.Idx.first (numel1_S1.symm ▸ Nat.one_pos)))) (k0_hw16 : k0_chk16 (tbM0_0.view.readAt (Elt F) (Rect.unit (s := S17) ![15] S1.size inb_S17_S1_15).toLoadRect xt0 (Shape.Idx.first (numel1_S1.symm ▸ Nat.one_pos))))

set_option maxHeartbeats 2000000 in
/-- The stores the weights are made of, last first. -/
theorem weights_eq :
    (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16)
      = [⟨Rect.unit (s := S16x128x512) ![0, 0, 480] S16x128x32.size inb_S16x128x512_S16x128x32_0_0_480, wts (arg2.view.readAt (Elt F) (Rect.unit (s := S18432x32) (k0_off31 (tbM0_0.view.readAt (Elt F) (Rect.unit (s := S17) ![15] S1.size inb_S17_S1_15).toLoadRect xt0 (Shape.Idx.first (numel1_S1.symm ▸ Nat.one_pos)))) S2048x32.size (k0_off31_inb (tbM0_0.view.readAt (Elt F) (Rect.unit (s := S17) ![15] S1.size inb_S17_S1_15).toLoadRect xt0 (Shape.Idx.first (numel1_S1.symm ▸ Nat.one_pos))) k0_hw16)).toLoadRect (harg2.unread x0))⟩,
        ⟨Rect.unit (s := S16x128x512) ![0, 0, 448] S16x128x32.size inb_S16x128x512_S16x128x32_0_0_448, wts (arg2.view.readAt (Elt F) (Rect.unit (s := S18432x32) (k0_off29 (tbM0_0.view.readAt (Elt F) (Rect.unit (s := S17) ![14] S1.size inb_S17_S1_14).toLoadRect xt0 (Shape.Idx.first (numel1_S1.symm ▸ Nat.one_pos)))) S2048x32.size (k0_off29_inb (tbM0_0.view.readAt (Elt F) (Rect.unit (s := S17) ![14] S1.size inb_S17_S1_14).toLoadRect xt0 (Shape.Idx.first (numel1_S1.symm ▸ Nat.one_pos))) k0_hw15)).toLoadRect (harg2.unread x0))⟩,
        ⟨Rect.unit (s := S16x128x512) ![0, 0, 416] S16x128x32.size inb_S16x128x512_S16x128x32_0_0_416, wts (arg2.view.readAt (Elt F) (Rect.unit (s := S18432x32) (k0_off27 (tbM0_0.view.readAt (Elt F) (Rect.unit (s := S17) ![13] S1.size inb_S17_S1_13).toLoadRect xt0 (Shape.Idx.first (numel1_S1.symm ▸ Nat.one_pos)))) S2048x32.size (k0_off27_inb (tbM0_0.view.readAt (Elt F) (Rect.unit (s := S17) ![13] S1.size inb_S17_S1_13).toLoadRect xt0 (Shape.Idx.first (numel1_S1.symm ▸ Nat.one_pos))) k0_hw14)).toLoadRect (harg2.unread x0))⟩,
        ⟨Rect.unit (s := S16x128x512) ![0, 0, 384] S16x128x32.size inb_S16x128x512_S16x128x32_0_0_384, wts (arg2.view.readAt (Elt F) (Rect.unit (s := S18432x32) (k0_off25 (tbM0_0.view.readAt (Elt F) (Rect.unit (s := S17) ![12] S1.size inb_S17_S1_12).toLoadRect xt0 (Shape.Idx.first (numel1_S1.symm ▸ Nat.one_pos)))) S2048x32.size (k0_off25_inb (tbM0_0.view.readAt (Elt F) (Rect.unit (s := S17) ![12] S1.size inb_S17_S1_12).toLoadRect xt0 (Shape.Idx.first (numel1_S1.symm ▸ Nat.one_pos))) k0_hw13)).toLoadRect (harg2.unread x0))⟩,
        ⟨Rect.unit (s := S16x128x512) ![0, 0, 352] S16x128x32.size inb_S16x128x512_S16x128x32_0_0_352, wts (arg2.view.readAt (Elt F) (Rect.unit (s := S18432x32) (k0_off23 (tbM0_0.view.readAt (Elt F) (Rect.unit (s := S17) ![11] S1.size inb_S17_S1_11).toLoadRect xt0 (Shape.Idx.first (numel1_S1.symm ▸ Nat.one_pos)))) S2048x32.size (k0_off23_inb (tbM0_0.view.readAt (Elt F) (Rect.unit (s := S17) ![11] S1.size inb_S17_S1_11).toLoadRect xt0 (Shape.Idx.first (numel1_S1.symm ▸ Nat.one_pos))) k0_hw12)).toLoadRect (harg2.unread x0))⟩,
        ⟨Rect.unit (s := S16x128x512) ![0, 0, 320] S16x128x32.size inb_S16x128x512_S16x128x32_0_0_320, wts (arg2.view.readAt (Elt F) (Rect.unit (s := S18432x32) (k0_off21 (tbM0_0.view.readAt (Elt F) (Rect.unit (s := S17) ![10] S1.size inb_S17_S1_10).toLoadRect xt0 (Shape.Idx.first (numel1_S1.symm ▸ Nat.one_pos)))) S2048x32.size (k0_off21_inb (tbM0_0.view.readAt (Elt F) (Rect.unit (s := S17) ![10] S1.size inb_S17_S1_10).toLoadRect xt0 (Shape.Idx.first (numel1_S1.symm ▸ Nat.one_pos))) k0_hw11)).toLoadRect (harg2.unread x0))⟩,
        ⟨Rect.unit (s := S16x128x512) ![0, 0, 288] S16x128x32.size inb_S16x128x512_S16x128x32_0_0_288, wts (arg2.view.readAt (Elt F) (Rect.unit (s := S18432x32) (k0_off19 (tbM0_0.view.readAt (Elt F) (Rect.unit (s := S17) ![9] S1.size inb_S17_S1_9).toLoadRect xt0 (Shape.Idx.first (numel1_S1.symm ▸ Nat.one_pos)))) S2048x32.size (k0_off19_inb (tbM0_0.view.readAt (Elt F) (Rect.unit (s := S17) ![9] S1.size inb_S17_S1_9).toLoadRect xt0 (Shape.Idx.first (numel1_S1.symm ▸ Nat.one_pos))) k0_hw10)).toLoadRect (harg2.unread x0))⟩,
        ⟨Rect.unit (s := S16x128x512) ![0, 0, 256] S16x128x32.size inb_S16x128x512_S16x128x32_0_0_256, wts (arg2.view.readAt (Elt F) (Rect.unit (s := S18432x32) (k0_off17 (tbM0_0.view.readAt (Elt F) (Rect.unit (s := S17) ![8] S1.size inb_S17_S1_8).toLoadRect xt0 (Shape.Idx.first (numel1_S1.symm ▸ Nat.one_pos)))) S2048x32.size (k0_off17_inb (tbM0_0.view.readAt (Elt F) (Rect.unit (s := S17) ![8] S1.size inb_S17_S1_8).toLoadRect xt0 (Shape.Idx.first (numel1_S1.symm ▸ Nat.one_pos))) k0_hw9)).toLoadRect (harg2.unread x0))⟩,
        ⟨Rect.unit (s := S16x128x512) ![0, 0, 224] S16x128x32.size inb_S16x128x512_S16x128x32_0_0_224, wts (arg2.view.readAt (Elt F) (Rect.unit (s := S18432x32) (k0_off15 (tbM0_0.view.readAt (Elt F) (Rect.unit (s := S17) ![7] S1.size inb_S17_S1_7).toLoadRect xt0 (Shape.Idx.first (numel1_S1.symm ▸ Nat.one_pos)))) S2048x32.size (k0_off15_inb (tbM0_0.view.readAt (Elt F) (Rect.unit (s := S17) ![7] S1.size inb_S17_S1_7).toLoadRect xt0 (Shape.Idx.first (numel1_S1.symm ▸ Nat.one_pos))) k0_hw8)).toLoadRect (harg2.unread x0))⟩,
        ⟨Rect.unit (s := S16x128x512) ![0, 0, 192] S16x128x32.size inb_S16x128x512_S16x128x32_0_0_192, wts (arg2.view.readAt (Elt F) (Rect.unit (s := S18432x32) (k0_off13 (tbM0_0.view.readAt (Elt F) (Rect.unit (s := S17) ![6] S1.size inb_S17_S1_6).toLoadRect xt0 (Shape.Idx.first (numel1_S1.symm ▸ Nat.one_pos)))) S2048x32.size (k0_off13_inb (tbM0_0.view.readAt (Elt F) (Rect.unit (s := S17) ![6] S1.size inb_S17_S1_6).toLoadRect xt0 (Shape.Idx.first (numel1_S1.symm ▸ Nat.one_pos))) k0_hw7)).toLoadRect (harg2.unread x0))⟩,
        ⟨Rect.unit (s := S16x128x512) ![0, 0, 160] S16x128x32.size inb_S16x128x512_S16x128x32_0_0_160, wts (arg2.view.readAt (Elt F) (Rect.unit (s := S18432x32) (k0_off11 (tbM0_0.view.readAt (Elt F) (Rect.unit (s := S17) ![5] S1.size inb_S17_S1_5).toLoadRect xt0 (Shape.Idx.first (numel1_S1.symm ▸ Nat.one_pos)))) S2048x32.size (k0_off11_inb (tbM0_0.view.readAt (Elt F) (Rect.unit (s := S17) ![5] S1.size inb_S17_S1_5).toLoadRect xt0 (Shape.Idx.first (numel1_S1.symm ▸ Nat.one_pos))) k0_hw6)).toLoadRect (harg2.unread x0))⟩,
        ⟨Rect.unit (s := S16x128x512) ![0, 0, 128] S16x128x32.size inb_S16x128x512_S16x128x32_0_0_128, wts (arg2.view.readAt (Elt F) (Rect.unit (s := S18432x32) (k0_off9 (tbM0_0.view.readAt (Elt F) (Rect.unit (s := S17) ![4] S1.size inb_S17_S1_4).toLoadRect xt0 (Shape.Idx.first (numel1_S1.symm ▸ Nat.one_pos)))) S2048x32.size (k0_off9_inb (tbM0_0.view.readAt (Elt F) (Rect.unit (s := S17) ![4] S1.size inb_S17_S1_4).toLoadRect xt0 (Shape.Idx.first (numel1_S1.symm ▸ Nat.one_pos))) k0_hw5)).toLoadRect (harg2.unread x0))⟩,
        ⟨Rect.unit (s := S16x128x512) ![0, 0, 96] S16x128x32.size inb_S16x128x512_S16x128x32_0_0_96, wts (arg2.view.readAt (Elt F) (Rect.unit (s := S18432x32) (k0_off7 (tbM0_0.view.readAt (Elt F) (Rect.unit (s := S17) ![3] S1.size inb_S17_S1_3).toLoadRect xt0 (Shape.Idx.first (numel1_S1.symm ▸ Nat.one_pos)))) S2048x32.size (k0_off7_inb (tbM0_0.view.readAt (Elt F) (Rect.unit (s := S17) ![3] S1.size inb_S17_S1_3).toLoadRect xt0 (Shape.Idx.first (numel1_S1.symm ▸ Nat.one_pos))) k0_hw4)).toLoadRect (harg2.unread x0))⟩,
        ⟨Rect.unit (s := S16x128x512) ![0, 0, 64] S16x128x32.size inb_S16x128x512_S16x128x32_0_0_64, wts (arg2.view.readAt (Elt F) (Rect.unit (s := S18432x32) (k0_off5 (tbM0_0.view.readAt (Elt F) (Rect.unit (s := S17) ![2] S1.size inb_S17_S1_2).toLoadRect xt0 (Shape.Idx.first (numel1_S1.symm ▸ Nat.one_pos)))) S2048x32.size (k0_off5_inb (tbM0_0.view.readAt (Elt F) (Rect.unit (s := S17) ![2] S1.size inb_S17_S1_2).toLoadRect xt0 (Shape.Idx.first (numel1_S1.symm ▸ Nat.one_pos))) k0_hw3)).toLoadRect (harg2.unread x0))⟩,
        ⟨Rect.unit (s := S16x128x512) ![0, 0, 32] S16x128x32.size inb_S16x128x512_S16x128x32_0_0_32, wts (arg2.view.readAt (Elt F) (Rect.unit (s := S18432x32) (k0_off3 (tbM0_0.view.readAt (Elt F) (Rect.unit (s := S17) ![1] S1.size inb_S17_S1_1).toLoadRect xt0 (Shape.Idx.first (numel1_S1.symm ▸ Nat.one_pos)))) S2048x32.size (k0_off3_inb (tbM0_0.view.readAt (Elt F) (Rect.unit (s := S17) ![1] S1.size inb_S17_S1_1).toLoadRect xt0 (Shape.Idx.first (numel1_S1.symm ▸ Nat.one_pos))) k0_hw2)).toLoadRect (harg2.unread x0))⟩,
        ⟨Rect.unit (s := S16x128x512) ![0, 0, 0] S16x128x32.size inb_S16x128x512_S16x128x32_0_0_0, wts (arg2.view.readAt (Elt F) (Rect.unit (s := S18432x32) (k0_off1 (tbM0_0.view.readAt (Elt F) (Rect.unit (s := S17) ![0] S1.size inb_S17_S1_0).toLoadRect xt0 (Shape.Idx.first (numel1_S1.symm ▸ Nat.one_pos)))) S2048x32.size (k0_off1_inb (tbM0_0.view.readAt (Elt F) (Rect.unit (s := S17) ![0] S1.size inb_S17_S1_0).toLoadRect xt0 (Shape.Idx.first (numel1_S1.symm ▸ Nat.one_pos))) k0_hw1)).toLoadRect (harg2.unread x0))⟩] := rfl

end pieces

theorem zero_lanes {d : Data} (l : Fin 16) :
    @Eq EReal (broadcast (α := Ideal .f32) S1x16 (Scalar.ofBits .f32 0x00000000#32) (ix2 0 l))
      (if l.val < (0 : Fin 16).val then ((d.score l : ℝ) : EReal) else 0) := by
  refine Eq.trans ?_ (if_neg (Nat.not_lt_zero _)).symm
  pointwise

section run

variable (c : Dev nD) (i : grid0.Coords) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole)
  (x0 : Vec Ideal S18432x32 .f32) (x1 : Vec Ideal S4608x128 .f32) (x2 : Vec Ideal S4608x128 .bf16) (x3 : Vec Ideal S4608x128 .bf16) (x4 : Vec Ideal S128x128 .bf16) (x5 : Vec Ideal S1x128 .f32) (x6 : Vec Ideal S1x128 .f32) (x7 : Vec Ideal S512x512 .bf16) (x8 : Vec Ideal S512x512 .bf16) (x9 : Vec Ideal S512x512 .bf16) (x10 : Vec Ideal S512x16 .bf16) (x11 : Vec Ideal S512x32 .bf16) (x12 : Vec Ideal S512x16 .f32) (x13 : Vec Ideal S1x512 .i32) (x14 : Vec Ideal S1x512 .f32) (x15 : Vec Ideal S1x512 .f32) (xt0 : TbBuf0 (F := Ideal) c tbM0_0) (k0_hw1 : k0_chk1 (tbM0_0.view.readAt (Elt Ideal) (Rect.unit (s := S17) ![0] S1.size inb_S17_S1_0).toLoadRect xt0 (Shape.Idx.first (numel1_S1.symm ▸ Nat.one_pos)))) (k0_hw2 : k0_chk2 (tbM0_0.view.readAt (Elt Ideal) (Rect.unit (s := S17) ![1] S1.size inb_S17_S1_1).toLoadRect xt0 (Shape.Idx.first (numel1_S1.symm ▸ Nat.one_pos)))) (k0_hw3 : k0_chk3 (tbM0_0.view.readAt (Elt Ideal) (Rect.unit (s := S17) ![2] S1.size inb_S17_S1_2).toLoadRect xt0 (Shape.Idx.first (numel1_S1.symm ▸ Nat.one_pos)))) (k0_hw4 : k0_chk4 (tbM0_0.view.readAt (Elt Ideal) (Rect.unit (s := S17) ![3] S1.size inb_S17_S1_3).toLoadRect xt0 (Shape.Idx.first (numel1_S1.symm ▸ Nat.one_pos)))) (k0_hw5 : k0_chk5 (tbM0_0.view.readAt (Elt Ideal) (Rect.unit (s := S17) ![4] S1.size inb_S17_S1_4).toLoadRect xt0 (Shape.Idx.first (numel1_S1.symm ▸ Nat.one_pos)))) (k0_hw6 : k0_chk6 (tbM0_0.view.readAt (Elt Ideal) (Rect.unit (s := S17) ![5] S1.size inb_S17_S1_5).toLoadRect xt0 (Shape.Idx.first (numel1_S1.symm ▸ Nat.one_pos)))) (k0_hw7 : k0_chk7 (tbM0_0.view.readAt (Elt Ideal) (Rect.unit (s := S17) ![6] S1.size inb_S17_S1_6).toLoadRect xt0 (Shape.Idx.first (numel1_S1.symm ▸ Nat.one_pos)))) (k0_hw8 : k0_chk8 (tbM0_0.view.readAt (Elt Ideal) (Rect.unit (s := S17) ![7] S1.size inb_S17_S1_7).toLoadRect xt0 (Shape.Idx.first (numel1_S1.symm ▸ Nat.one_pos)))) (k0_hw9 : k0_chk9 (tbM0_0.view.readAt (Elt Ideal) (Rect.unit (s := S17) ![8] S1.size inb_S17_S1_8).toLoadRect xt0 (Shape.Idx.first (numel1_S1.symm ▸ Nat.one_pos)))) (k0_hw10 : k0_chk10 (tbM0_0.view.readAt (Elt Ideal) (Rect.unit (s := S17) ![9] S1.size inb_S17_S1_9).toLoadRect xt0 (Shape.Idx.first (numel1_S1.symm ▸ Nat.one_pos)))) (k0_hw11 : k0_chk11 (tbM0_0.view.readAt (Elt Ideal) (Rect.unit (s := S17) ![10] S1.size inb_S17_S1_10).toLoadRect xt0 (Shape.Idx.first (numel1_S1.symm ▸ Nat.one_pos)))) (k0_hw12 : k0_chk12 (tbM0_0.view.readAt (Elt Ideal) (Rect.unit (s := S17) ![11] S1.size inb_S17_S1_11).toLoadRect xt0 (Shape.Idx.first (numel1_S1.symm ▸ Nat.one_pos)))) (k0_hw13 : k0_chk13 (tbM0_0.view.readAt (Elt Ideal) (Rect.unit (s := S17) ![12] S1.size inb_S17_S1_12).toLoadRect xt0 (Shape.Idx.first (numel1_S1.symm ▸ Nat.one_pos)))) (k0_hw14 : k0_chk14 (tbM0_0.view.readAt (Elt Ideal) (Rect.unit (s := S17) ![13] S1.size inb_S17_S1_13).toLoadRect xt0 (Shape.Idx.first (numel1_S1.symm ▸ Nat.one_pos)))) (k0_hw15 : k0_chk15 (tbM0_0.view.readAt (Elt Ideal) (Rect.unit (s := S17) ![14] S1.size inb_S17_S1_14).toLoadRect xt0 (Shape.Idx.first (numel1_S1.symm ▸ Nat.one_pos)))) (k0_hw16 : k0_chk16 (tbM0_0.view.readAt (Elt Ideal) (Rect.unit (s := S17) ![15] S1.size inb_S17_S1_15).toLoadRect xt0 (Shape.Idx.first (numel1_S1.symm ▸ Nat.one_pos))))
  {d : Data} (hp : Packed d.cu)
  (W : ∀ (k : ℕ) (hk : k < 17) (hin : ∀ a, (![k] : Fin 1 → Nat) a + S1.size a ≤ S17.size a),
    tbM0_0.view.readAt (Elt Ideal) (Rect.unit (s := S17) ![k] S1.size hin).toLoadRect xt0 (Shape.Idx.first (numel1_S1.symm ▸ Nat.one_pos))
      = BitVec.ofNat 32 (d.cu ⟨k, hk⟩))
include hp W

set_option maxHeartbeats 2000000 in
/-- The weights. -/
theorem weights_at (X0 : ∀ (a : Fin 18432) (i : Fin 32), @Eq EReal (x0 (ix2 a i)) ((d.em a.val i : ℝ) : EReal))
    (g : Fin 16) (t : Fin 128) (b : Fin 16) (i : Fin 32) :
    @Eq EReal (View.canon (kernelRun0_A.sl.HS0_16 c arg2 harg2 x0 xt0 k0_hw1 k0_hw2 k0_hw3 k0_hw4 k0_hw5 k0_hw6 k0_hw7 k0_hw8 k0_hw9 k0_hw10 k0_hw11 k0_hw12 k0_hw13 k0_hw14 k0_hw15 k0_hw16) (ix3 g t (at32 b i))) ((d.e b (128 * g.val + t.val) i : ℝ) : EReal) := by
  rw [weights_eq]
  exact (stored 15 rfl _ _ (stored 14 rfl _ _ (stored 13 rfl _ _ (stored 12 rfl _ _ (stored 11 rfl _ _ (stored 10 rfl _ _ (stored 9 rfl _ _ (stored 8 rfl _ _ (stored 7 rfl _ _ (stored 6 rfl _ _ (stored 5 rfl _ _ (stored 4 rfl _ _ (stored 3 rfl _ _ (stored 2 rfl _ _ (stored 1 rfl _ _ (stored 0 rfl _ _ (fun b hb => absurd hb (Nat.not_lt_zero _))
    (weight_row hp X0 arg2 harg2 0 (W 0 (by omega) _) (k0_off1_inb _ k0_hw1) rfl))
    (weight_row hp X0 arg2 harg2 1 (W 1 (by omega) _) (k0_off3_inb _ k0_hw2) rfl))
    (weight_row hp X0 arg2 harg2 2 (W 2 (by omega) _) (k0_off5_inb _ k0_hw3) rfl))
    (weight_row hp X0 arg2 harg2 3 (W 3 (by omega) _) (k0_off7_inb _ k0_hw4) rfl))
    (weight_row hp X0 arg2 harg2 4 (W 4 (by omega) _) (k0_off9_inb _ k0_hw5) rfl))
    (weight_row hp X0 arg2 harg2 5 (W 5 (by omega) _) (k0_off11_inb _ k0_hw6) rfl))
    (weight_row hp X0 arg2 harg2 6 (W 6 (by omega) _) (k0_off13_inb _ k0_hw7) rfl))
    (weight_row hp X0 arg2 harg2 7 (W 7 (by omega) _) (k0_off15_inb _ k0_hw8) rfl))
    (weight_row hp X0 arg2 harg2 8 (W 8 (by omega) _) (k0_off17_inb _ k0_hw9) rfl))
    (weight_row hp X0 arg2 harg2 9 (W 9 (by omega) _) (k0_off19_inb _ k0_hw10) rfl))
    (weight_row hp X0 arg2 harg2 10 (W 10 (by omega) _) (k0_off21_inb _ k0_hw11) rfl))
    (weight_row hp X0 arg2 harg2 11 (W 11 (by omega) _) (k0_off23_inb _ k0_hw12) rfl))
    (weight_row hp X0 arg2 harg2 12 (W 12 (by omega) _) (k0_off25_inb _ k0_hw13) rfl))
    (weight_row hp X0 arg2 harg2 13 (W 13 (by omega) _) (k0_off27_inb _ k0_hw14) rfl))
    (weight_row hp X0 arg2 harg2 14 (W 14 (by omega) _) (k0_off29_inb _ k0_hw15) rfl))
    (weight_row hp X0 arg2 harg2 15 (W 15 (by omega) _) (k0_off31_inb _ k0_hw16) rfl)) b b.isLt g t i

set_option maxHeartbeats 2000000 in
/-- The scores. -/
theorem scores_at (X : Rows d x1 x2 x3 x4 x5 x6) (l : Fin 16) :
    @Eq EReal ((kernelRun0_A.sl.r_93 c arg3 harg3 arg4 harg4 arg5 harg5 arg6 harg6 arg7 harg7 arg8 harg8 x1 x2 x3 x4 x5 x6 xt0 k0_hw1 k0_hw2 k0_hw3 k0_hw4 k0_hw5 k0_hw6 k0_hw7 k0_hw8 k0_hw9 k0_hw10 k0_hw11 k0_hw12 k0_hw13 k0_hw14 k0_hw15 k0_hw16) (ix2 0 l)) ((d.score l : ℝ) : EReal) := by
  rw [scores_eq]
  exact (show @Eq EReal _ _ from (filled 15 (filled 14 (filled 13 (filled 12 (filled 11 (filled 10 (filled 9 (filled 8 (filled 7 (filled 6 (filled 5 (filled 4 (filled 3 (filled 2 (filled 1 (filled 0 zero_lanes
    (score_row hp X arg3 harg3 arg4 harg4 arg5 harg5 arg6 harg6 arg7 harg7 arg8 harg8 0 (W 0 (by omega) _) (W 1 (by omega) _) (k0_off2_inb _ k0_hw1) rfl))
    (score_row hp X arg3 harg3 arg4 harg4 arg5 harg5 arg6 harg6 arg7 harg7 arg8 harg8 1 (W 1 (by omega) _) (W 2 (by omega) _) (k0_off4_inb _ k0_hw2) rfl))
    (score_row hp X arg3 harg3 arg4 harg4 arg5 harg5 arg6 harg6 arg7 harg7 arg8 harg8 2 (W 2 (by omega) _) (W 3 (by omega) _) (k0_off6_inb _ k0_hw3) rfl))
    (score_row hp X arg3 harg3 arg4 harg4 arg5 harg5 arg6 harg6 arg7 harg7 arg8 harg8 3 (W 3 (by omega) _) (W 4 (by omega) _) (k0_off8_inb _ k0_hw4) rfl))
    (score_row hp X arg3 harg3 arg4 harg4 arg5 harg5 arg6 harg6 arg7 harg7 arg8 harg8 4 (W 4 (by omega) _) (W 5 (by omega) _) (k0_off10_inb _ k0_hw5) rfl))
    (score_row hp X arg3 harg3 arg4 harg4 arg5 harg5 arg6 harg6 arg7 harg7 arg8 harg8 5 (W 5 (by omega) _) (W 6 (by omega) _) (k0_off12_inb _ k0_hw6) rfl))
    (score_row hp X arg3 harg3 arg4 harg4 arg5 harg5 arg6 harg6 arg7 harg7 arg8 harg8 6 (W 6 (by omega) _) (W 7 (by omega) _) (k0_off14_inb _ k0_hw7) rfl))
    (score_row hp X arg3 harg3 arg4 harg4 arg5 harg5 arg6 harg6 arg7 harg7 arg8 harg8 7 (W 7 (by omega) _) (W 8 (by omega) _) (k0_off16_inb _ k0_hw8) rfl))
    (score_row hp X arg3 harg3 arg4 harg4 arg5 harg5 arg6 harg6 arg7 harg7 arg8 harg8 8 (W 8 (by omega) _) (W 9 (by omega) _) (k0_off18_inb _ k0_hw9) rfl))
    (score_row hp X arg3 harg3 arg4 harg4 arg5 harg5 arg6 harg6 arg7 harg7 arg8 harg8 9 (W 9 (by omega) _) (W 10 (by omega) _) (k0_off20_inb _ k0_hw10) rfl))
    (score_row hp X arg3 harg3 arg4 harg4 arg5 harg5 arg6 harg6 arg7 harg7 arg8 harg8 10 (W 10 (by omega) _) (W 11 (by omega) _) (k0_off22_inb _ k0_hw11) rfl))
    (score_row hp X arg3 harg3 arg4 harg4 arg5 harg5 arg6 harg6 arg7 harg7 arg8 harg8 11 (W 11 (by omega) _) (W 12 (by omega) _) (k0_off24_inb _ k0_hw12) rfl))
    (score_row hp X arg3 harg3 arg4 harg4 arg5 harg5 arg6 harg6 arg7 harg7 arg8 harg8 12 (W 12 (by omega) _) (W 13 (by omega) _) (k0_off26_inb _ k0_hw13) rfl))
    (score_row hp X arg3 harg3 arg4 harg4 arg5 harg5 arg6 harg6 arg7 harg7 arg8 harg8 13 (W 13 (by omega) _) (W 14 (by omega) _) (k0_off28_inb _ k0_hw14) rfl))
    (score_row hp X arg3 harg3 arg4 harg4 arg5 harg5 arg6 harg6 arg7 harg7 arg8 harg8 14 (W 14 (by omega) _) (W 15 (by omega) _) (k0_off30_inb _ k0_hw15) rfl))
    (score_row hp X arg3 harg3 arg4 harg4 arg5 harg5 arg6 harg6 arg7 harg7 arg8 harg8 15 (W 15 (by omega) _) (W 16 (by omega) _) (k0_off32_inb _ k0_hw16) rfl)) l).trans (if_pos l.isLt)

end run

end Cert.Crf.Model
-- ==== Proof.Host.lean ====
module
public import proofs.«01_k».proof.Proof.Value
public import proofs.«01_k».proof.Proof.Packed
@[expose] public section

/-! The kernel's operands as the host prepares them. -/

set_option maxRecDepth 16384

noncomputable section

namespace Cert.Crf.Model

open Idealize.ShloMosaic Idealize.SL.Sem
open Cert.KernelIdeal Cert.KernelIdeal.Gen
open Pointwise Cert.Crf.Chain

variable (m : (ℓ : Loc nD τ sig) → Buf (Elt Ideal) ℓ) (hO : Ok m) (c : Dev nD) (t : Fin (cfgM m hO).N)

theorem zero_place (k n a : ℕ) (h : k = 0) : k * n + a = a := by rw [h, Nat.zero_mul, Nat.zero_add]

theorem blk_0 : (iblk m hO c 0 t : Vec Ideal S18432x32 .f32) = V m c main_call0_v1 := by
  funext j
  blk_ext [iblk]
  all_goals first | exact zero_place _ _ _ rfl | rfl

theorem blk_1 : (iblk m hO c 1 t : Vec Ideal S4608x128 .f32) = V m c main_call0_v2 := by
  funext j
  blk_ext [iblk]
  all_goals first | exact zero_place _ _ _ rfl | rfl

theorem blk_2 : (iblk m hO c 2 t : Vec Ideal S4608x128 .bf16) = V m c main_call0_v11 := by
  funext j
  blk_ext [iblk]
  all_goals first | exact zero_place _ _ _ rfl | rfl

theorem blk_3 : (iblk m hO c 3 t : Vec Ideal S4608x128 .bf16) = V m c main_call0_v15 := by
  funext j
  blk_ext [iblk]
  all_goals first | exact zero_place _ _ _ rfl | rfl

theorem blk_4 : (iblk m hO c 4 t : Vec Ideal S128x128 .bf16) = V m c main_call0_v24 := by
  funext j
  blk_ext [iblk]
  all_goals first | exact zero_place _ _ _ rfl | rfl

theorem blk_5 : (iblk m hO c 5 t : Vec Ideal S1x128 .f32) = V m c main_call0_v29 := by
  funext j
  blk_ext [iblk]
  all_goals first | exact zero_place _ _ _ rfl | rfl

theorem blk_6 : (iblk m hO c 6 t : Vec Ideal S1x128 .f32) = V m c main_call0_v34 := by
  funext j
  blk_ext [iblk]
  all_goals first | exact zero_place _ _ _ rfl | rfl

theorem blk_7 : (iblk m hO c 7 t : Vec Ideal S512x512 .bf16) = V m c main_call0_v43 := by
  funext j
  blk_ext [iblk]
  all_goals first | exact zero_place _ _ _ rfl | rfl

theorem blk_8 : (iblk m hO c 8 t : Vec Ideal S512x512 .bf16) = V m c main_call0_v46 := by
  funext j
  blk_ext [iblk]
  all_goals first | exact zero_place _ _ _ rfl | rfl

theorem blk_9 : (iblk m hO c 9 t : Vec Ideal S512x512 .bf16) = V m c main_call0_v55 := by
  funext j
  blk_ext [iblk]
  all_goals first | exact zero_place _ _ _ rfl | rfl

theorem blk_10 : (iblk m hO c 10 t : Vec Ideal S512x16 .bf16) = V m c main_call0_v64 := by
  funext j
  blk_ext [iblk]
  all_goals first | exact zero_place _ _ _ rfl | rfl

theorem blk_11 : (iblk m hO c 11 t : Vec Ideal S512x32 .bf16) = V m c main_call0_v73 := by
  funext j
  blk_ext [iblk]
  all_goals first | exact zero_place _ _ _ rfl | rfl

theorem blk_12 : (iblk m hO c 12 t : Vec Ideal S512x16 .f32) = V m c main_call0_v79 := by
  funext j
  blk_ext [iblk]
  all_goals first | exact zero_place _ _ _ rfl | rfl

theorem blk_13 : (iblk m hO c 13 t : Vec Ideal S1x512 .i32) = V m c main_call0_v85 := by
  funext j
  blk_ext [iblk]
  all_goals first | exact zero_place _ _ _ rfl | rfl

theorem blk_14 : (iblk m hO c 14 t : Vec Ideal S1x512 .f32) = V m c main_call0_v91 := by
  funext j
  blk_ext [iblk]
  all_goals first | exact zero_place _ _ _ rfl | rfl

theorem blk_15 : (iblk m hO c 15 t : Vec Ideal S1x512 .f32) = V m c main_call0_v97 := by
  funext j
  blk_ext [iblk]
  all_goals first | exact zero_place _ _ _ rfl | rfl

end Cert.Crf.Model
-- ==== Proof.KernelValue.lean ====
module
public import proofs.«01_k».proof.Proof.Filled
public import proofs.«01_k».proof.Proof.Host
public import proofs.«01_k».proof.Proof.Operands
public import proofs.«01_k».proof.Proof.Value
public import proofs.«01_k».proof.Proof.Whole
public import proofs.«01_k».proof.Proof.SideIdeal
public import Idealize.ShloMosaic.Lib.Pipeline.ValueKit
public import Idealize.ShloMosaic.Lib.Claim
@[expose] public section

/-! The kernel's result: the log-probability of each sequence. -/

set_option maxRecDepth 16384

noncomputable section

namespace Cert.Crf.Model

open Idealize.ShloMosaic Idealize.SL.Sem
open Cert.KernelIdeal Cert.KernelIdeal.Gen
open Pointwise Chain

section run

variable (c : Dev nD) (i : grid0.Coords) (arg2 : Memref sig .tc .vmem S18432x32 .f32) (harg2 : arg2.IsWhole) (arg3 : Memref sig .tc .vmem S4608x128 .f32) (harg3 : arg3.IsWhole) (arg4 : Memref sig .tc .vmem S4608x128 .bf16) (harg4 : arg4.IsWhole) (arg5 : Memref sig .tc .vmem S4608x128 .bf16) (harg5 : arg5.IsWhole) (arg6 : Memref sig .tc .vmem S128x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x16 .bf16) (harg12 : arg12.IsWhole) (arg13 : Memref sig .tc .vmem S512x32 .bf16) (harg13 : arg13.IsWhole) (arg14 : Memref sig .tc .vmem S512x16 .f32) (harg14 : arg14.IsWhole) (arg15 : Memref sig .tc .vmem S1x512 .i32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x16 .f32) (harg18 : arg18.IsWhole) (arg19 : Memref sig .tc .vmem S16x128x512 .bf16) (harg19 : arg19.IsWhole)
  (x0 : Vec Ideal S18432x32 .f32) (x1 : Vec Ideal S4608x128 .f32) (x2 : Vec Ideal S4608x128 .bf16) (x3 : Vec Ideal S4608x128 .bf16) (x4 : Vec Ideal S128x128 .bf16) (x5 : Vec Ideal S1x128 .f32) (x6 : Vec Ideal S1x128 .f32) (x7 : Vec Ideal S512x512 .bf16) (x8 : Vec Ideal S512x512 .bf16) (x9 : Vec Ideal S512x512 .bf16) (x10 : Vec Ideal S512x16 .bf16) (x11 : Vec Ideal S512x32 .bf16) (x12 : Vec Ideal S512x16 .f32) (x13 : Vec Ideal S1x512 .i32) (x14 : Vec Ideal S1x512 .f32) (x15 : Vec Ideal S1x512 .f32) (xt0 : TbBuf0 (F := Ideal) c tbM0_0) (k0_hw1 : k0_chk1 (tbM0_0.view.readAt (Elt Ideal) (Rect.unit (s := S17) ![0] S1.size inb_S17_S1_0).toLoadRect xt0 (Shape.Idx.first (numel1_S1.symm ▸ Nat.one_pos)))) (k0_hw2 : k0_chk2 (tbM0_0.view.readAt (Elt Ideal) (Rect.unit (s := S17) ![1] S1.size inb_S17_S1_1).toLoadRect xt0 (Shape.Idx.first (numel1_S1.symm ▸ Nat.one_pos)))) (k0_hw3 : k0_chk3 (tbM0_0.view.readAt (Elt Ideal) (Rect.unit (s := S17) ![2] S1.size inb_S17_S1_2).toLoadRect xt0 (Shape.Idx.first (numel1_S1.symm ▸ Nat.one_pos)))) (k0_hw4 : k0_chk4 (tbM0_0.view.readAt (Elt Ideal) (Rect.unit (s := S17) ![3] S1.size inb_S17_S1_3).toLoadRect xt0 (Shape.Idx.first (numel1_S1.symm ▸ Nat.one_pos)))) (k0_hw5 : k0_chk5 (tbM0_0.view.readAt (Elt Ideal) (Rect.unit (s := S17) ![4] S1.size inb_S17_S1_4).toLoadRect xt0 (Shape.Idx.first (numel1_S1.symm ▸ Nat.one_pos)))) (k0_hw6 : k0_chk6 (tbM0_0.view.readAt (Elt Ideal) (Rect.unit (s := S17) ![5] S1.size inb_S17_S1_5).toLoadRect xt0 (Shape.Idx.first (numel1_S1.symm ▸ Nat.one_pos)))) (k0_hw7 : k0_chk7 (tbM0_0.view.readAt (Elt Ideal) (Rect.unit (s := S17) ![6] S1.size inb_S17_S1_6).toLoadRect xt0 (Shape.Idx.first (numel1_S1.symm ▸ Nat.one_pos)))) (k0_hw8 : k0_chk8 (tbM0_0.view.readAt (Elt Ideal) (Rect.unit (s := S17) ![7] S1.size inb_S17_S1_7).toLoadRect xt0 (Shape.Idx.first (numel1_S1.symm ▸ Nat.one_pos)))) (k0_hw9 : k0_chk9 (tbM0_0.view.readAt (Elt Ideal) (Rect.unit (s := S17) ![8] S1.size inb_S17_S1_8).toLoadRect xt0 (Shape.Idx.first (numel1_S1.symm ▸ Nat.one_pos)))) (k0_hw10 : k0_chk10 (tbM0_0.view.readAt (Elt Ideal) (Rect.unit (s := S17) ![9] S1.size inb_S17_S1_9).toLoadRect xt0 (Shape.Idx.first (numel1_S1.symm ▸ Nat.one_pos)))) (k0_hw11 : k0_chk11 (tbM0_0.view.readAt (Elt Ideal) (Rect.unit (s := S17) ![10] S1.size inb_S17_S1_10).toLoadRect xt0 (Shape.Idx.first (numel1_S1.symm ▸ Nat.one_pos)))) (k0_hw12 : k0_chk12 (tbM0_0.view.readAt (Elt Ideal) (Rect.unit (s := S17) ![11] S1.size inb_S17_S1_11).toLoadRect xt0 (Shape.Idx.first (numel1_S1.symm ▸ Nat.one_pos)))) (k0_hw13 : k0_chk13 (tbM0_0.view.readAt (Elt Ideal) (Rect.unit (s := S17) ![12] S1.size inb_S17_S1_12).toLoadRect xt0 (Shape.Idx.first (numel1_S1.symm ▸ Nat.one_pos)))) (k0_hw14 : k0_chk14 (tbM0_0.view.readAt (Elt Ideal) (Rect.unit (s := S17) ![13] S1.size inb_S17_S1_13).toLoadRect xt0 (Shape.Idx.first (numel1_S1.symm ▸ Nat.one_pos)))) (k0_hw15 : k0_chk15 (tbM0_0.view.readAt (Elt Ideal) (Rect.unit (s := S17) ![14] S1.size inb_S17_S1_14).toLoadRect xt0 (Shape.Idx.first (numel1_S1.symm ▸ Nat.one_pos)))) (k0_hw16 : k0_chk16 (tbM0_0.view.readAt (Elt Ideal) (Rect.unit (s := S17) ![15] S1.size inb_S17_S1_15).toLoadRect xt0 (Shape.Idx.first (numel1_S1.symm ▸ Nat.one_pos))))
  {d : Data} (hp : Packed d.cu)
  (W : ∀ (k : ℕ) (hk : k < 17) (hin : ∀ a, (![k] : Fin 1 → Nat) a + S1.size a ≤ S17.size a),
    tbM0_0.view.readAt (Elt Ideal) (Rect.unit (s := S17) ![k] S1.size hin).toLoadRect xt0 (Shape.Idx.first (numel1_S1.symm ▸ Nat.one_pos))
      = BitVec.ofNat 32 (d.cu ⟨k, hk⟩))
include hp W

set_option maxHeartbeats 2000000 in
/-- What a run leaves in its output buffer, when its operands hold the tables made of `d`. -/
theorem run_value (X0 : ∀ (a : Fin 18432) (i : Fin 32), @Eq EReal (x0 (ix2 a i)) ((d.em a.val i : ℝ) : EReal))
    (X : Rows d x1 x2 x3 x4 x5 x6) (K : Consts x7 x8 x9 x10 x11 x12 d.w)
    (hn : ∀ b j, x13 (ix2 0 (at32 b j)) = BitVec.ofNat 32 (d.len b))
    (hs : ∀ b i, @Eq EReal (x14 (ix2 0 (at32 b i))) ((d.s i : ℝ) : EReal))
    (he : ∀ b i, @Eq EReal (x15 (ix2 0 (at32 b i))) ((d.f i : ℝ) : EReal)) (b : Fin 16) :
    @Eq EReal (out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 xt0 k0_hw1 k0_hw2 k0_hw3 k0_hw4 k0_hw5 k0_hw6 k0_hw7 k0_hw8 k0_hw9 k0_hw10 k0_hw11 k0_hw12 k0_hw13 k0_hw14 k0_hw15 k0_hw16 (ix2 0 b)) ((d.logProb b : ℝ) : EReal) := by
  unfold out0_A_16
  rw [out_eq]
  refine (out_value K Data.w_pos (fun g t b i => weights_at (hp := hp) (W := W) (X0 := X0) (g := g) (t := t) (b := b) (i := i) ..) Data.e_pos x13
    hp.len_le (fun b => lt_of_lt_of_le (by decide) (hp.le_len b)) hp.dvd hn x14 x15 hs he Data.s_pos Data.f_pos _ b).trans ?_
  refine (congrArg (fun z : EReal => z - _) (scores_at (hp := hp) (W := W) (X := X) (l := b) ..)).trans ?_
  rw [← EReal.coe_sub]
  rfl

end run

variable {d : Data} {m : (ℓ : Loc nD τ sig) → Buf (Elt Ideal) ℓ} {c : Dev nD} (H : HoldsM d m c)
include H

/-- The offsets the kernel reads. -/
theorem words (k : ℕ) (hk : k < 17) (hin : ∀ a, (![k] : Fin 1 → Nat) a + S1.size a ≤ S17.size a) :
    tbM0_0.view.readAt (Elt Ideal) (Rect.unit (s := S17) ![k] S1.size hin).toLoadRect (tbl m 0) (Shape.Idx.first (numel1_S1.symm ▸ Nat.one_pos))
      = BitVec.ofNat 32 (d.cu ⟨k, hk⟩) := by
  have hc : c = 0 := Subsingleton.elim _ _
  subst hc
  rw [KernelIdeal.word_read m k hk hin]
  exact H.cu ⟨k, hk⟩

variable (hO : Ok m) (hH : Hyps m hO) (t : Fin (cfgM m hO).N)

theorem rows : Rows d (V m c main_call0_v2) (V m c main_call0_v11) (V m c main_call0_v15) (V m c main_call0_v24)
    (V m c main_call0_v29) (V m c main_call0_v34) where
  em := ent_1 H
  tg a b _ := ent_2 H a b
  sr := ent_3 H
  tr := ent_4 H
  st := ent_5 H
  en := ent_6 H

set_option maxHeartbeats 2000000 in
/-- What the one grid point leaves in the output's buffer. -/
theorem outs_value (b : Fin 16) : @Eq EReal (outsAt0 m hO hH c t (ix2 0 b)) ((d.logProb b : ℝ) : EReal) := by
  unfold outsAt0
  refine run_value (hp := H.packed) (W := words H) (b := b)
    (X0 := fun a i => (congrFun (blk_0 m hO c t) _).trans (ent_0 H a i)) (X := ?_) (K := ?_)
    (hn := fun b j => (congrFun (blk_13 m hO c t) _).trans (lens H b j))
    (hs := fun b i => (congrFun (blk_14 m hO c t) _).trans (starts H b i))
    (he := fun b i => (congrFun (blk_15 m hO c t) _).trans (ends H b i)) ..
  · rw [blk_1, blk_2, blk_3, blk_4, blk_5, blk_6]; exact rows H
  · rw [blk_7, blk_8, blk_9, blk_10, blk_11, blk_12]; exact consts H

end Cert.Crf.Model
-- ==== Proof.KernelRun.lean ====
module
public import proofs.«01_k».proof.Proof.KernelValue
public import Idealize.ShloMosaic.Lib.StableHlo.ReadAt
@[expose] public section

/-! The kernel's run: its result buffer ends with the sequences' log-probabilities. -/

set_option maxRecDepth 16384

noncomputable section

namespace Cert.Crf.Model

open Idealize.ShloMosaic Idealize.ShloMosaic.TcCoe Idealize.SL.Sem
open Cert.KernelIdeal Cert.KernelIdeal.Gen
open Pointwise

/-- The log-probabilities, as a column. -/
def column (d : Data) : Vec Ideal S16x1 .f32 := fun j => ((d.logProb (j 0) : ℝ) : EReal)

variable {d : Data} {m : (ℓ : Loc nD τ sig) → Buf (Elt Ideal) ℓ} (ρ : Dev nD → PrngReg)
  (hO : Ok m) (hH : Hyps m hO)

/-- The output window's array after the run. -/
theorem arr_value {c : Dev nD} (H : HoldsM d m c) :
    (dats m hO hH 0 c).arrAt 16 (Pipeline.pin pcfgs (fun _ => adm m hO) 0).N
      = fun j : S1x16.Idx => (((d.logProb (j 1) : ℝ) : EReal) : Ideal .f32) := by
  have hN : 0 < (cfgM m hO).N := Nat.one_pos
  have hW : ((cfgM m hO).win 16).WholeAt ⟨0, hN⟩ :=
    ⟨rfl, fun t _ => Fin.ext (Nat.lt_one_iff.1 (show t.val < 1 from t.isLt)), fun a => ⟨by fin_cases a <;> rfl, by fin_cases a <;> rfl⟩⟩
  refine (dats m hO hH 0 c).arrAt_eq_of_after_last 16 ⟨0, hN⟩ hW _ fun j => ?_
  · rw [after0_16]
    generalize hx : (fun a => (⟨j a, _⟩ : Fin _)) = x
    have hj : x = (ix2 0 (show Fin 16 from j (1 : Fin 2)) : S1x16.Idx) := by
      subst hx
      funext a; fin_cases a <;> apply Fin.ext
      · exact Nat.lt_one_iff.1 (show (j (0 : Fin 2)).val < 1 from (j (0 : Fin 2)).isLt)
      · rfl
    exact (congrArg (outsAt0 m hO hH c ⟨0, hN⟩) hj).trans (outs_value H hO hH ⟨0, hN⟩ (show Fin 16 from j (1 : Fin 2)))

/-- What the host's last reshape leaves. -/
theorem result_value {c : Dev nD} (H : HoldsM d m c) :
    Pipeline.afterTail pcfgs (fun _ => adm m hO) (dats m hO hH) 0 (V0 m) [hostOps1] c main_v0 = column d := by
  unfold Pipeline.afterTail hostOps1
  simp only [List.flatten_cons, List.flatten_nil, List.append_nil]
  funext j
  after_reads_at
  have hw := Pipeline.withArrays_arr spec0 (by decide +kernel) c (V0 m c)
    (fun w => (dats m hO hH 0 c).arrAt w (Pipeline.pin pcfgs (fun _ => adm m hO) 0).N) 16
  exact (congrFun hw (ix2 0 (j 0))).trans (congrFun (arr_value hO hH H) (ix2 0 (j 0)))

include hO hH in
/-- The run. -/
theorem kernel_run (H : ∀ c, HoldsM d m c) :
    θ_run defs (onTc (τ := τ) (main (F := Ideal))) ⟨m, fun _ => 0, ρ⟩ (fun r => ∀ c : Dev nD,
      r.2.mem ((c.tc : Thread nD τ).loc main_v0) = column d
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨((h.2 c).2 main_v0 (show main_v0 ∈ Pipeline.restRefs sig spec0 by decide +kernel)).trans (result_value hO hH (H c)), h.1 c⟩)
    (θ_run_and (unchanged m ρ hO hH) (run_main m ρ hO hH))

end Cert.Crf.Model
-- ==== Proof.Gathers.lean ====
module
public import proofs.«01_k».proof.Proof.Gen.ReferenceIdeal.StepRun
public import proofs.«01_k».proof.Proof.Blocks
@[expose] public section

/-! The reference's gathers at an index. -/

set_option maxRecDepth 16384

noncomputable section

namespace Cert.Crf.Ref

open Idealize.ShloMosaic Idealize.SL.Sem
open Cert.ReferenceIdeal Cert.ReferenceIdeal.Gen
open Pointwise

/-- A small natural's word, read back. -/
theorem toNat_word {k : ℕ} (h : k < 2 ^ 31) : (BitVec.ofNat 32 k).toInt.toNat = k := by
  rw [BitVec.toInt_eq_toNat_cond]
  simp only [BitVec.toNat_ofNat]
  omega

variable {α : Type}

/-- Where a gather starts along an axis it reads a word for, if that word is `k` and `k` fits. -/
theorem start_eq {s si t : Shape} (d : GatherDims s si t) (y : t.Idx) (idx : IVec si 32) (a : Fin s.rank)
    (ha : a ∈ d.startIndexMap) (z : si.Idx)
    (hz : d.siIdx y ⟨d.startIndexMap.idxOf a, List.idxOf_lt_length_iff.2 ha⟩ = z) {k : ℕ}
    (hx : idx z = BitVec.ofNat 32 k) (hk : k ≤ s.size a - d.sliceSizes a) (hb : k < 2 ^ 31) :
    d.start y idx a = k := by
  unfold GatherDims.start
  rw [dif_pos ha, hz, hx, toNat_word hb]
  exact min_eq_left hk

theorem pad_at (x : S16384x1x32.Idx → α) (idx : IVec S16x2048x1 32) (b : Fin 16) (t : Fin 2048) (i : Fin 32) {k : ℕ} (hx : idx (ix3 b t 0) = BitVec.ofNat 32 k)
    (hk : k < 16384) : Host.gather gather_S16384x1x32_S16x2048x1_S16x2048x1x32_23_0_n_n_0_2_1132 x idx (ix4 b t 0 i) = x (ix3 ⟨k, hk⟩ 0 i) := by
  have h := start_eq gather_S16384x1x32_S16x2048x1_S16x2048x1x32_23_0_n_n_0_2_1132 (ix4 b t 0 i) idx 0 (by decide) (ix3 b t 0)
    (funext fun b => Fin.ext (match b with | ⟨0, _⟩ => rfl | ⟨1, _⟩ => rfl | ⟨2, _⟩ => rfl)) hx (Nat.le_sub_one_of_lt hk) (by omega)
  unfold Host.gather
  refine congrArg x (funext fun a => Fin.ext ?_)
  match a with
  | ⟨0, _⟩ => exact congrArg (· + _ + _) h
  | ⟨1, _⟩ => rfl
  | ⟨2, _⟩ => exact (Nat.zero_add i.val)

theorem off_at (x : S17.Idx → α) (idx : IVec S16384x1 32) (p : Fin 16384) {k : ℕ} (hx : idx (ix2 p 0) = BitVec.ofNat 32 k)
    (hk : k < 17) : Host.gather gather_S17_S16384x1_S16384_n_0_n_n_0_1_1 x idx (ix1 p) = x (ix1 ⟨k, hk⟩) := by
  have h := start_eq gather_S17_S16384x1_S16384_n_0_n_n_0_1_1 (ix1 p) idx 0 (by decide) (ix2 p 0)
    (funext fun b => Fin.ext (match b with | ⟨0, _⟩ => rfl | ⟨1, _⟩ => rfl)) hx (Nat.le_sub_one_of_lt hk) (by omega)
  unfold Host.gather
  refine congrArg x (funext fun a => Fin.ext ?_)
  match a with
  | ⟨0, _⟩ => exact congrArg (· + _ + _) h

theorem tr_at (x : S1x32x32.Idx → α) (idx : IVec S1x16384x1 32) (p : Fin 16384) (i : Fin 32) {k : ℕ} (hx : idx (ix3 0 p 0) = BitVec.ofNat 32 k)
    (hk : k < 32) : Host.gather gather_S1x32x32_S1x16384x1_S1x16384x32_2_1_0_0_1_2_1132 x idx (ix3 0 p i) = x (ix3 0 ⟨k, hk⟩ i) := by
  have h := start_eq gather_S1x32x32_S1x16384x1_S1x16384x32_2_1_0_0_1_2_1132 (ix3 0 p i) idx 1 (by decide) (ix3 0 p 0)
    (funext fun b => Fin.ext (match b with | ⟨0, _⟩ => rfl | ⟨1, _⟩ => rfl | ⟨2, _⟩ => rfl)) hx (Nat.le_sub_one_of_lt hk) (by omega)
  unfold Host.gather
  refine congrArg x (funext fun a => Fin.ext ?_)
  match a with
  | ⟨0, _⟩ => rfl
  | ⟨1, _⟩ => exact congrArg (· + _ + _) h
  | ⟨2, _⟩ => exact (Nat.zero_add i.val)

theorem st_at (x : S1x32.Idx → α) (idx : IVec S1x16384x1 32) (p : Fin 16384) {k : ℕ} (hx : idx (ix3 0 p 0) = BitVec.ofNat 32 k)
    (hk : k < 32) : Host.gather gather_S1x32_S1x16384x1_S1x16384_n_1_0_0_1_2_11 x idx (ix2 0 p) = x (ix2 0 ⟨k, hk⟩) := by
  have h := start_eq gather_S1x32_S1x16384x1_S1x16384_n_1_0_0_1_2_11 (ix2 0 p) idx 1 (by decide) (ix3 0 p 0)
    (funext fun b => Fin.ext (match b with | ⟨0, _⟩ => rfl | ⟨1, _⟩ => rfl | ⟨2, _⟩ => rfl)) hx (Nat.le_sub_one_of_lt hk) (by omega)
  unfold Host.gather
  refine congrArg x (funext fun a => Fin.ext ?_)
  match a with
  | ⟨0, _⟩ => rfl
  | ⟨1, _⟩ => exact congrArg (· + _ + _) h

theorem tag_at (x : S16384x1.Idx → α) (idx : IVec S16384x1 32) (p : Fin 16384) {k : ℕ} (hx : idx (ix2 p 0) = BitVec.ofNat 32 k)
    (hk : k < 16384) : Host.gather gather_S16384x1_S16384x1_S16384x1_1_0_n_n_0_1_11 x idx (ix2 p 0) = x (ix2 ⟨k, hk⟩ 0) := by
  have h := start_eq gather_S16384x1_S16384x1_S16384x1_1_0_n_n_0_1_11 (ix2 p 0) idx 0 (by decide) (ix2 p 0)
    (funext fun b => Fin.ext (match b with | ⟨0, _⟩ => rfl | ⟨1, _⟩ => rfl)) hx (Nat.le_sub_one_of_lt hk) (by omega)
  unfold Host.gather
  refine congrArg x (funext fun a => Fin.ext ?_)
  match a with
  | ⟨0, _⟩ => exact congrArg (· + _ + _) h
  | ⟨1, _⟩ => rfl

theorem en_at (x : S1x32.Idx → α) (idx : IVec S1x16x1 32) (p : Fin 16) {k : ℕ} (hx : idx (ix3 0 p 0) = BitVec.ofNat 32 k)
    (hk : k < 32) : Host.gather gather_S1x32_S1x16x1_S1x16_n_1_0_0_1_2_11 x idx (ix2 0 p) = x (ix2 0 ⟨k, hk⟩) := by
  have h := start_eq gather_S1x32_S1x16x1_S1x16_n_1_0_0_1_2_11 (ix2 0 p) idx 1 (by decide) (ix3 0 p 0)
    (funext fun b => Fin.ext (match b with | ⟨0, _⟩ => rfl | ⟨1, _⟩ => rfl | ⟨2, _⟩ => rfl)) hx (Nat.le_sub_one_of_lt hk) (by omega)
  unfold Host.gather
  refine congrArg x (funext fun a => Fin.ext ?_)
  match a with
  | ⟨0, _⟩ => rfl
  | ⟨1, _⟩ => exact congrArg (· + _ + _) h

theorem tagEnd_at (x : S16384x1.Idx → α) (idx : IVec S16x1 32) (p : Fin 16) {k : ℕ} (hx : idx (ix2 p 0) = BitVec.ofNat 32 k)
    (hk : k < 16384) : Host.gather gather_S16384x1_S16x1_S16x1_1_0_n_n_0_1_11 x idx (ix2 p 0) = x (ix2 ⟨k, hk⟩ 0) := by
  have h := start_eq gather_S16384x1_S16x1_S16x1_1_0_n_n_0_1_11 (ix2 p 0) idx 0 (by decide) (ix2 p 0)
    (funext fun b => Fin.ext (match b with | ⟨0, _⟩ => rfl | ⟨1, _⟩ => rfl)) hx (Nat.le_sub_one_of_lt hk) (by omega)
  unfold Host.gather
  refine congrArg x (funext fun a => Fin.ext ?_)
  match a with
  | ⟨0, _⟩ => exact congrArg (· + _ + _) h
  | ⟨1, _⟩ => rfl

theorem pick_at (x : S16384x1x32.Idx → α) (idx : IVec S16384x1x1 32) (p : Fin 16384) {k : ℕ} (hx : idx (ix3 p 0 0) = BitVec.ofNat 32 k)
    (hk : k < 32) : Host.gather gather_S16384x1x32_S16384x1x1_S16384x1x1_1_2_0_0_2_2_111 x idx (ix3 p 0 0) = x (ix3 p 0 ⟨k, hk⟩) := by
  have h := start_eq gather_S16384x1x32_S16384x1x1_S16384x1x1_1_2_0_0_2_2_111 (ix3 p 0 0) idx 2 (by decide) (ix3 p 0 0)
    (funext fun b => Fin.ext (match b with | ⟨0, _⟩ => rfl | ⟨1, _⟩ => rfl | ⟨2, _⟩ => rfl)) hx (Nat.le_sub_one_of_lt hk) (by omega)
  unfold Host.gather
  refine congrArg x (funext fun a => Fin.ext ?_)
  match a with
  | ⟨0, _⟩ => exact (Nat.zero_add p.val)
  | ⟨1, _⟩ => rfl
  | ⟨2, _⟩ => exact congrArg (· + _ + _) h

end Cert.Crf.Ref
-- ==== Proof.Recursion.lean ====
module
public import proofs.«01_k».proof.Proof.Gathers
public import proofs.«01_k».proof.Proof.Data
public import Mathlib.Analysis.SpecialFunctions.Log.Basic
@[expose] public section

/-! The reference's recursion: its scores are the logarithms of the forward weights. -/

set_option maxRecDepth 16384

noncomputable section

namespace Cert.Crf.Ref

open Idealize.ShloMosaic Idealize.SL.Sem
open Cert.ReferenceIdeal Cert.ReferenceIdeal.Gen Cert.ReferenceIdeal.Step
open Pointwise Chain Model

/-- The greatest of thirty-two reals is real. -/
theorem fold_max_real (f : Fin 32 → EReal) (g : Fin 32 → ℝ) (h : ∀ i, f i = ((g i : ℝ) : EReal)) :
    ∃ M : ℝ, Finset.fold max (⊥ : EReal) f Finset.univ = ((M : ℝ) : EReal) := by
  have key : ∀ s : Finset (Fin 32), Finset.fold max (⊥ : EReal) f s = ⊥ ∧ s = ∅ ∨
      ∃ M : ℝ, Finset.fold max (⊥ : EReal) f s = ((M : ℝ) : EReal) := by
    intro s
    induction s using Finset.induction_on with
    | empty => exact .inl ⟨rfl, rfl⟩
    | insert a s ha ih =>
      right
      rw [Finset.fold_insert ha, h a]
      rcases ih with ⟨e, -⟩ | ⟨M, e⟩
      · exact ⟨g a, by rw [e]; exact max_bot_right _⟩
      · exact ⟨max (g a) M, by rw [e]; exact (EReal.coe_strictMono.monotone.map_max).symm⟩
  rcases key Finset.univ with ⟨-, e⟩ | h
  · exact absurd e (Finset.univ_nonempty.ne_empty)
  · exact h

theorem neg_inf : Ideal.ofBits FTy.f32 4286578688#32 = (⊥ : EReal) := by
  simp [Ideal.ofBits, Ideal.ieee]

theorem pos_inf : Ideal.ofBits FTy.f32 2139095040#32 = (⊤ : EReal) := by
  simp [Ideal.ofBits, Ideal.ieee]

/-- A logarithm of a sum of exponentials, taken with the greatest term shifted out. -/
theorem lse (f : Fin 32 → EReal) (g : Fin 32 → ℝ) (h : ∀ i, f i = ((g i : ℝ) : EReal)) (z : EReal) :
    (Ideal.log (∑ x, Ideal.exp (f x -
        if (FloatOps.absf (F := Ideal) (φ := .f32) (Finset.fold max (Ideal.ofBits FTy.f32 4286578688#32) f Finset.univ) : EReal) <
          Ideal.ofBits FTy.f32 2139095040#32 then
          Finset.fold max (Ideal.ofBits FTy.f32 4286578688#32) f Finset.univ else z)) +
      if (FloatOps.absf (F := Ideal) (φ := .f32) (Finset.fold max (Ideal.ofBits FTy.f32 4286578688#32) f Finset.univ) : EReal) <
          Ideal.ofBits FTy.f32 2139095040#32 then
          Finset.fold max (Ideal.ofBits FTy.f32 4286578688#32) f Finset.univ else z)
      = ((Real.log (∑ i, Real.exp (g i)) : ℝ) : EReal) := by
  obtain ⟨M, hM⟩ := fold_max_real f g h
  rw [neg_inf, pos_inf, hM]
  have hlt : (FloatOps.absf (F := Ideal) (φ := .f32) ((M : ℝ) : EReal) : EReal) < ⊤ := by
    change max ((M : ℝ) : EReal) (-((M : ℝ) : EReal)) < ⊤
    rw [← EReal.coe_neg, ← EReal.coe_strictMono.monotone.map_max]
    exact EReal.coe_lt_top _
  rw [if_pos hlt]
  have hs : (∑ x, Ideal.exp (f x - ((M : ℝ) : EReal))) = ((∑ x, Real.exp (g x - M) : ℝ) : EReal) := by
    rw [← coe_sum]
    refine Finset.sum_congr rfl fun x _ => ?_
    rw [h x, ← EReal.coe_sub, Ideal.exp_coe]
  have hp : 0 < ∑ x, Real.exp (g x - M) := Finset.sum_pos (fun _ _ => Real.exp_pos _) Finset.univ_nonempty
  rw [hs, Ideal.log_coe, if_neg (not_le.2 hp), ← EReal.coe_add]
  congr 1
  have : ∑ x, Real.exp (g x) = (∑ x, Real.exp (g x - M)) * Real.exp M := by
    rw [Finset.sum_mul]
    exact Finset.sum_congr rfl fun x _ => by rw [← Real.exp_add, sub_add_cancel]
  rw [this, Real.log_mul hp.ne' (Real.exp_pos _).ne', Real.log_exp]

section step
variable (n : ℕ) (s : State Ideal) (b : Fin 16) (i : Fin 32)

theorem ix4_eq {A B C D : ℕ} {a a' : Fin A} {b b' : Fin B} {c c' : Fin C} {d d' : Fin D} (ha : a.val = a'.val)
    (hb : b.val = b'.val) (hc : c.val = c'.val) (hd : d.val = d'.val) : ix4 a b c d = ix4 a' b' c' d' := by
  rw [Fin.ext ha, Fin.ext hb, Fin.ext hc, Fin.ext hd]

theorem ix2_eq {A B : ℕ} {a a' : Fin A} {b b' : Fin B} (ha : a.val = a'.val)
    (hb : b.val = b'.val) : ix2 a b = ix2 a' b' := by
  rw [Fin.ext ha, Fin.ext hb]

theorem clamp_at {s t : Shape} (ht : t.rank = s.rank) (f : Fin s.rank → Int) (a : Fin s.rank) (k : ℕ) (u v : ℕ)
    (hk : f a = k) (hu : t.size (a.cast ht.symm) = u) (hv : s.size a = v) (h : k + u ≤ v) :
    Host.clampedStart s t ht f a = k :=
  Host.clampedStart_of_le _ _ _ _ hk (by rw [hu, hv]; exact h)

theorem em_row (hn : n < 2047) :
    @Eq EReal (b4 n s (ix3 b 0 i)) (s.main_v28_0 (ix4 ⟨n, hn⟩ b 0 i)) := by
  unfold b4 b3 b2 b1 b0
  pointwise
  refine congrArg s.main_v28_0 (ix4_eq ?_ ?_ ?_ ?_) <;> dsimp only
  · exact clamp_at _ _ _ n 1 2047 (word_toInt n (by omega)) rfl rfl (by omega)
  · rw [clamp_at _ _ _ 0 16 16 rfl rfl rfl (by omega), Nat.zero_add]
  · rw [clamp_at _ _ _ 0 1 1 rfl rfl rfl (by omega)]; rfl
  · rw [clamp_at _ _ _ 0 32 32 rfl rfl rfl (by omega), Nat.zero_add]

theorem mask_row (hn : n < 2047) : b7 n s (ix1 b) = s.main_v28_1 (ix2 ⟨n, hn⟩ b) := by
  unfold b7 b6 b5
  pointwise
  refine congrArg s.main_v28_1 (ix2_eq ?_ ?_) <;> dsimp only
  · exact clamp_at _ _ _ n 1 2047 (word_toInt n (by omega)) rfl rfl (by omega)
  · rw [clamp_at _ _ _ 0 16 16 rfl rfl rfl (by omega), Nat.zero_add]

/-- One step at an index. -/
theorem step_at (g : Fin 32 → ℝ) (h : ∀ x, s.main_v28_4 (ix3 b 0 x) + s.main_v28_2 (ix3 0 x i) = ((g x : ℝ) : EReal)) :
    @Eq EReal (b34 n s (ix3 b 0 i)) (Scalar.select (b7 n s (ix1 b))
      (((Real.log (∑ x, Real.exp (g x)) : ℝ) : EReal) + b4 n s (ix3 b 0 i)) (s.main_v28_4 (ix3 b 0 i))) := by
  unfold b34 b33 b32 b31 b30 b29 b28 b27 b26 b25 b24 b23 b22 b21 b20 b19 b18 b17 b16 b15 b14 b13 b12 b11 b10 b9 b8
  rw [← lse _ g h 0]
  pointwise
end step

end Cert.Crf.Ref
-- ==== Proof.Alpha.lean ====
module
public import proofs.«01_k».proof.Proof.Recursion
@[expose] public section

/-! The reference's partition function: the arrays its loop reads, the loop, and the last logarithm. -/

set_option maxRecDepth 16384

noncomputable section

namespace Cert.Crf.Ref

open Idealize.ShloMosaic Idealize.SL.Sem
open Cert.ReferenceIdeal Cert.ReferenceIdeal.Gen Cert.ReferenceIdeal.Step
open Pointwise Chain Model

theorem clip_word {k : ℕ} (h : k < 16384) :
    IntOp.minsi (16383#32) (IntOp.maxsi (0#32) (BitVec.ofNat 32 k)) = BitVec.ofNat 32 k := by
  have e : (BitVec.ofNat 32 k).toInt = k := by
    rw [BitVec.toInt_eq_toNat_cond]; simp only [BitVec.toNat_ofNat]; omega
  have h1 : IntOp.maxsi (0#32) (BitVec.ofNat 32 k) = BitVec.ofNat 32 k := by
    unfold IntOp.maxsi
    simp only [BitVec.slt, BitVec.sle, e]
    split <;> rename_i q
    · simp at q; first | omega | (exact congrArg _ (by omega))
    · first | rfl | (simp at q; first | omega | (exact congrArg _ (by omega)))
  rw [h1]
  unfold IntOp.minsi
  simp only [BitVec.slt, BitVec.sle, e]
  split <;> rename_i q
  · simp at q; first | omega | (exact congrArg _ (by omega))
  · rfl

theorem slt_word {a b : ℕ} (ha : a ≤ 4096) (hb : b ≤ 4096) :
    IntOp.cmpi CmpIPredicate.slt (BitVec.ofNat 32 (1 + a)) (BitVec.ofNat 32 b) = if a + 1 < b then 1#1 else 0#1 := by
  have e : (BitVec.ofNat 32 (1 + a)).toInt = (1 + a : ℕ) := by
    rw [BitVec.toInt_eq_toNat_cond]; simp only [BitVec.toNat_ofNat]; omega
  have e' : (BitVec.ofNat 32 b).toInt = b := word_toInt b hb
  have e2 : IntOp.cmpi CmpIPredicate.slt (BitVec.ofNat 32 (1 + a)) (BitVec.ofNat 32 b)
      = BitVec.ofBool (decide (((1 + a : ℕ) : ℤ) < (b : ℤ))) := by
    rw [← e, ← e']; rfl
  rw [e2]
  by_cases h : a + 1 < b
  · rw [if_pos h, decide_eq_true (by omega)]; rfl
  · rw [if_neg h, decide_eq_false (by omega)]; rfl

variable {d : Data} {x0 : Vec Ideal S16384x1x32 .f32} {x1 : Vec Ideal S16384x1 .i32} {x2 : Vec Ideal S17 .i32}
  {x3 : Vec Ideal S1x32x32 .f32} {x4 x5 : Vec Ideal S1x32 .f32} (H : Holds d x0 x1 x2 x3 x4 x5)
include H

theorem token_lt (b : Fin 16) {t : ℕ} (ht : t < d.len b) : d.cu b.castSucc + t < 16384 := by
  have := H.packed.le_all b.succ
  unfold Data.len at ht; omega

theorem len_word (b : Fin 16) :
    IntOp.subi (x2 (ix1 ⟨1 + b.val, by omega⟩)) (x2 (ix1 ⟨b.val, by omega⟩)) = BitVec.ofNat 32 (d.len b) := by
  have hlo := H.packed.lo b
  have hle := H.packed.le_cu b
  have e : (⟨1 + b.val, by omega⟩ : Fin 17) = b.succ := Fin.ext (Nat.add_comm 1 _)
  rw [e, show x2 (ix1 ⟨b.val, by omega⟩) = _ from H.cu b.castSucc, H.cu b.succ]
  exact BitVec.ofNat_sub_ofNat_of_le _ _ (by omega) (by omega)

theorem index_at (b : Fin 16) (t : Fin 2048) (ht : t.val < d.len b) :
    A_main_v11 (F := Ideal) x0 x2 x4 (ix3 b t 0) = BitVec.ofNat 32 (d.cu b.castSucc + t.val) := by
  refine Eq.trans ?_ (clip_word (token_lt H b ht))
  have h := H.cu b.castSucc
  unfold A_main_v11 A_main_v10 A_main_call0_v2 A_main_v9 A_main_v7 A_main_v4 A_main_v3 K_main_call0_v4 K_main_call0_v1 K_main_v8 K_main_v6 K_main_v5 K_main_call0_v0 K_main_call0_v3 K_main_c K_main_c_0
  pointwise
  rw [show x2 (ix1 ⟨b.val, by omega⟩) = _ from h]
  exact congrArg (fun w => IntOp.minsi _ (IntOp.maxsi _ w)) (BitVec.ofNat_add _ _).symm

theorem emission_at (b : Fin 16) (t : Fin 2048) (ht : t.val < d.len b) (i : Fin 32) :
    @Eq EReal (A_main_v12 (F := Ideal) x0 x2 x4 (ix4 b t 0 i)) ((d.em (d.cu b.castSucc + t.val) i : ℝ) : EReal) := by
  unfold A_main_v12
  rw [pad_at _ _ b t i (index_at H b t ht) (token_lt H b ht)]
  exact H.em ⟨_, token_lt H b ht⟩ i

theorem first_at (b : Fin 16) (i : Fin 32) :
    @Eq EReal (A_main_v25 (F := Ideal) x0 x2 x4 (ix3 b 0 i)) ((d.st i + d.em (d.cu b.castSucc) i : ℝ) : EReal) := by
  have h := emission_at H b 0 (by have := H.packed.le_len b; show 0 < _; omega) i
  unfold A_main_v25 A_main_v24 A_main_v23 A_main_v21 A_main_v22 A_main_v19
  pointwise
  rw [h, H.st, EReal.coe_add]
  rfl

theorem rest_at (b : Fin 16) (n : ℕ) (hn : n < 2047) (ht : n + 1 < d.len b) (i : Fin 32) :
    @Eq EReal (A_main_v26 (F := Ideal) x0 x2 x4 (ix4 ⟨n, hn⟩ b 0 i)) ((d.em (d.cu b.castSucc + (n + 1)) i : ℝ) : EReal) := by
  have h := emission_at H b ⟨n + 1, by omega⟩ ht i
  unfold A_main_v26 A_main_v19
  pointwise
  have e : (⟨1 + n, by omega⟩ : Fin 2048) = ⟨n + 1, by omega⟩ := Fin.ext (Nat.add_comm 1 n)
  rw [e]
  exact h

theorem mask_at (b : Fin 16) (n : ℕ) (hn : n < 2047) :
    A_main_v27 (F := Ideal) x0 x2 x4 (ix2 ⟨n, hn⟩ b) = if n + 1 < d.len b then 1#1 else 0#1 := by
  unfold A_main_v27 A_main_v20 A_main_v18 A_main_v17 A_main_v15 A_main_v2 A_main_v1 A_main_v0 K_main_v16 K_main_v14 K_main_v13
  pointwise
  rw [len_word H b]
  exact slt_word (by omega) (by have := H.packed.len_le b; omega)

/-- The states of the loop. -/
def iter (x0 : Vec Ideal S16384x1x32 .f32) (x2 : Vec Ideal S17 .i32)
    (x3 : Vec Ideal S1x32x32 .f32) (x4 : Vec Ideal S1x32 .f32) : ℕ → State Ideal
  | 0 => init x3 x0 x2 x4
  | n + 1 => step n (iter x0 x2 x3 x4 n)

omit H in
theorem iter_kept (n : ℕ) : (iter x0 x2 x3 x4 n).main_v28_0 = A_main_v26 x0 x2 x4 ∧
    (iter x0 x2 x3 x4 n).main_v28_1 = A_main_v27 x0 x2 x4 ∧ (iter x0 x2 x3 x4 n).main_v28_2 = x3 := by
  induction n with
  | zero => exact ⟨rfl, rfl, rfl⟩
  | succ n ih => exact ih

/-- After `n` steps the loop holds the logarithms of the forward weights. -/
theorem alpha (b : Fin 16) : ∀ n, n ≤ 2047 → ∀ i, @Eq EReal ((iter x0 x2 x3 x4 n).main_v28_4 (ix3 b 0 i))
    ((Real.log (fwd d.w (d.e b) (d.len b) d.s n i) : ℝ) : EReal)
  | 0, _, i => by
    refine (first_at H b i).trans ?_
    rw [fwd, Real.log_mul (Data.s_pos i).ne' (Data.e_pos b 0 i).ne']
    unfold Data.s Data.e
    rw [Real.log_exp, Real.log_exp, Nat.add_zero]
  | n + 1, hn, i => by
    obtain ⟨k0, k1, k2⟩ := iter_kept (x0 := x0) (x2 := x2) (x3 := x3) (x4 := x4) n
    have hpos := fun j => fwd_pos d.w (d.e b) (d.len b) d.s Data.w_pos (Data.e_pos b) Data.s_pos n j
    have hb : (b34 n (iter x0 x2 x3 x4 n) (ix3 b 0 i) : EReal) = _ :=
      step_at n (iter x0 x2 x3 x4 n) b i (fun x => Real.log (fwd d.w (d.e b) (d.len b) d.s n x) + d.tr x i) fun x => by
        rw [alpha b n (by omega) x, k2, H.tr, EReal.coe_add]
    refine hb.trans ?_
    rw [mask_row _ _ _ (show n < 2047 by omega), k1, mask_at H b n (by omega), fwd]
    by_cases h : n + 1 < d.len b
    · rw [if_pos h, if_pos h]
      refine (?_ : _ + (b4 n (iter x0 x2 x3 x4 n) (ix3 b 0 i) : EReal) = _)
      rw [em_row _ _ _ _ (show n < 2047 by omega), k0, rest_at H b n (by omega) h, ← EReal.coe_add]
      congr 1
      have hs : ∑ x, Real.exp (Real.log (fwd d.w (d.e b) (d.len b) d.s n x) + d.tr x i)
          = ∑ x, fwd d.w (d.e b) (d.len b) d.s n x * d.w x i :=
        Finset.sum_congr rfl fun x _ => by rw [Real.exp_add, Real.exp_log (hpos x)]; rfl
      have hp : 0 < ∑ x, fwd d.w (d.e b) (d.len b) d.s n x * d.w x i :=
        Finset.sum_pos (fun x _ => mul_pos (hpos x) (Data.w_pos x i)) Finset.univ_nonempty
      rw [hs, Real.log_mul hp.ne' (Data.e_pos b _ i).ne']
      congr 1
      exact (Real.log_exp _).symm
    · rw [if_neg h, if_neg h]
      exact alpha b n (by omega) i

end Cert.Crf.Ref
-- ==== Proof.RefDefs.lean ====
module
public import proofs.«01_k».proof.Proof.Alpha
@[expose] public section

/-! The reference's result in named parts. -/

set_option maxRecDepth 16384

noncomputable section

namespace Cert.Crf.Ref

open Idealize.ShloMosaic Idealize.SL.Sem
open Cert.ReferenceIdeal Cert.ReferenceIdeal.Gen Cert.ReferenceIdeal.Step

/-- The sequence of every token. -/
def batch (x2 : Vec Ideal S17 .i32) : IVec S16384 32 :=
  (subi (Host.reduce IntOp.addi (extui 32 (cmpi .sle (broadcastInDim S16384x17 ![0, 1] bcast_S1x17_S16384x17_0_1
    (broadcastInDim S1x17 ![1] bcast_S17_S1x17_1 x2)) (broadcastInDim S16384x17 ![0, 1] bcast_S16384x1_S16384x17_0_1
    (broadcastInDim S16384x1 ![0] bcast_S16384_S16384x1_0 (iotaInDim S16384 32 0)))) natLt_1_32) (constantI S_ 32
    0#32) reducesTo_S16384x17_S16384_d1 h_S_) (broadcastInDim S16384 ![] bcast_S_S16384 (constantI S_ 32 1#32)))

/-- Whether a token is its sequence's first. -/
def isFirst (x2 : Vec Ideal S17 .i32) : IVec S16384 1 :=
  (cmpi .eq (subi (iotaInDim S16384 32 0) (Host.gather gather_S17_S16384x1_S16384_n_0_n_n_0_1_1 x2 (broadcastInDim
    S16384x1 ![0] bcast_S16384_S16384x1_0 (batch x2)))) (broadcastInDim S16384 ![] bcast_S_S16384 (constantI S_ 32
    0#32)))

/-- Every token's tag, as the word that picks it. -/
def tagWords (x1 : Vec Ideal S16384x1 .i32) : IVec S16384x1x1 32 :=
  (select (cmpi .slt (broadcastInDim S16384x1x1 ![0, 1] bcast_S16384x1_S16384x1x1_0_1 x1) (broadcastInDim S16384x1x1
    ![] bcast_S_S16384x1x1 (constantI S_ 32 0#32))) (addi (broadcastInDim S16384x1x1 ![0, 1]
    bcast_S16384x1_S16384x1x1_0_1 x1) (broadcastInDim S16384x1x1 ![] bcast_S_S16384x1x1 (constantI S_ 32 32#32)))
    (broadcastInDim S16384x1x1 ![0, 1] bcast_S16384x1_S16384x1x1_0_1 x1))

/-- The tag before every token's. -/
def prevTags (x1 : Vec Ideal S16384x1 .i32) (x2 : Vec Ideal S17 .i32) : IVec S16384x1 32 :=
  (Host.gather gather_S16384x1_S16384x1_S16384x1_1_0_n_n_0_1_11 x1 (broadcastInDim S16384x1 ![0]
    bcast_S16384_S16384x1_0 (select (isFirst x2) (iotaInDim S16384 32 0) (subi (iotaInDim S16384 32 0)
    (broadcastInDim S16384 ![] bcast_S_S16384 (constantI S_ 32 1#32))))))

/-- Every token's emission score. -/
def emScore (x0 : FVec Ideal S16384x1x32 .f32) (x1 : Vec Ideal S16384x1 .i32) : FVec Ideal S16384x1 .f32 :=
  (Host.reduceAdd (Host.gather gather_S16384x1x32_S16384x1x1_S16384x1x1_1_2_0_0_2_2_111 x0 (tagWords x1)) (constant
    S_ .f32 0x00000000#32) reducesTo_S16384x1x1_S16384x1_d2 h_S_)

/-- Every token's transition score. -/
def trScore (x1 : Vec Ideal S16384x1 .i32) (x2 : Vec Ideal S17 .i32) (x3 : FVec Ideal S1x32x32 .f32) : FVec Ideal
  S16384x1 .f32 :=
  (Host.reduceAdd (Host.gather gather_S16384x1x32_S16384x1x1_S16384x1x1_1_2_0_0_2_2_111 (transpose S16384x1x32 [1,
    0, 2] (Host.gather gather_S1x32x32_S1x16384x1_S1x16384x32_2_1_0_0_1_2_1132 x3 (broadcastInDim S1x16384x1 ![0, 1]
    bcast_S1x16384_S1x16384x1_0_1 (transpose S1x16384 [1, 0] (prevTags x1 x2) transposes_S16384x1_S1x16384_1_0)))
    transposes_S1x16384x32_S16384x1x32_1_0_2) (tagWords x1)) (constant S_ .f32 0x00000000#32)
    reducesTo_S16384x1x1_S16384x1_d2 h_S_)

/-- Every token's start score. -/
def stScore (x1 : Vec Ideal S16384x1 .i32) (x4 : FVec Ideal S1x32 .f32) : FVec Ideal S16384x1 .f32 :=
  (transpose S16384x1 [1, 0] (Host.gather gather_S1x32_S1x16384x1_S1x16384_n_1_0_0_1_2_11 x4 (broadcastInDim
    S1x16384x1 ![0, 1] bcast_S1x16384_S1x16384x1_0_1 (transpose S1x16384 [1, 0] x1
    transposes_S16384x1_S1x16384_1_0))) transposes_S1x16384_S16384x1_1_0)

/-- What every token adds. -/
def tokScore (x0 : FVec Ideal S16384x1x32 .f32) (x1 : Vec Ideal S16384x1 .i32) (x2 : Vec Ideal S17 .i32) (x3 : FVec
  Ideal S1x32x32 .f32) (x4 : FVec Ideal S1x32 .f32) : FVec Ideal S16384x1 .f32 :=
  (addf (emScore x0 x1) (select (broadcastInDim S16384x1 ![0] bcast_S16384_S16384x1_0 (isFirst x2)) (stScore x1 x4)
    (trScore x1 x2 x3)))

/-- Every sequence's end score. -/
def enScore (x1 : Vec Ideal S16384x1 .i32) (x2 : Vec Ideal S17 .i32) (x5 : FVec Ideal S1x32 .f32) : FVec Ideal S16x1
  .f32 :=
  (transpose S16x1 [1, 0] (Host.gather gather_S1x32_S1x16x1_S1x16_n_1_0_0_1_2_11 x5 (broadcastInDim S1x16x1 ![0, 1]
    bcast_S1x16_S1x16x1_0_1 (transpose S1x16 [1, 0] (Host.gather gather_S16384x1_S16x1_S16x1_1_0_n_n_0_1_11 x1
    (broadcastInDim S16x1 ![0] bcast_S16_S16x1_0 (subi (extractStridedSlice S16 ![1] x2 slices_S17_S16_1)
    (broadcastInDim S16 ![] bcast_S_S16 (constantI S_ 32 1#32))))) transposes_S16x1_S1x16_1_0)))
    transposes_S1x16_S16x1_1_0)

/-- The logarithms of the partition functions. -/
def logPart (a : FVec Ideal S16x1x32 .f32) (x5 : FVec Ideal S1x32 .f32) : FVec Ideal S16x1 .f32 :=
  (addf (Host.log (Host.reduceAdd (Host.exp (subf (addf a (broadcastInDim S16x1x32 ![0, 1, 2]
    bcast_S1x1x32_S16x1x32_0_1_2 (broadcastInDim S1x1x32 ![1, 2] bcast_S1x32_S1x1x32_1_2 x5))) (broadcastInDim
    S16x1x32 ![0, 1, 2] bcast_S16x1x1_S16x1x32_0_1_2 (broadcastInDim S16x1x1 ![0, 1] bcast_S16x1_S16x1x1_0_1 (select
    (cmpf .olt (Host.absf (Host.reduce FloatOps.maximumf (addf a (broadcastInDim S16x1x32 ![0, 1, 2]
    bcast_S1x1x32_S16x1x32_0_1_2 (broadcastInDim S1x1x32 ![1, 2] bcast_S1x32_S1x1x32_1_2 x5))) (constant S_ .f32
    0xFF800000#32) reducesTo_S16x1x32_S16x1_d2 h_S_)) (broadcastInDim S16x1 ![] bcast_S_S16x1 (constant S_ .f32
    0x7F800000#32))) (Host.reduce FloatOps.maximumf (addf a (broadcastInDim S16x1x32 ![0, 1, 2]
    bcast_S1x1x32_S16x1x32_0_1_2 (broadcastInDim S1x1x32 ![1, 2] bcast_S1x32_S1x1x32_1_2 x5))) (constant S_ .f32
    0xFF800000#32) reducesTo_S16x1x32_S16x1_d2 h_S_) (broadcastInDim S16x1 ![] bcast_S_S16x1 (id (constant S_ .f32
    0x00000000#32)))))))) (constant S_ .f32 0x00000000#32) reducesTo_S16x1x32_S16x1_d2 h_S_)) (select (cmpf .olt
    (Host.absf (Host.reduce FloatOps.maximumf (addf a (broadcastInDim S16x1x32 ![0, 1, 2]
    bcast_S1x1x32_S16x1x32_0_1_2 (broadcastInDim S1x1x32 ![1, 2] bcast_S1x32_S1x1x32_1_2 x5))) (constant S_ .f32
    0xFF800000#32) reducesTo_S16x1x32_S16x1_d2 h_S_)) (broadcastInDim S16x1 ![] bcast_S_S16x1 (constant S_ .f32
    0x7F800000#32))) (Host.reduce FloatOps.maximumf (addf a (broadcastInDim S16x1x32 ![0, 1, 2]
    bcast_S1x1x32_S16x1x32_0_1_2 (broadcastInDim S1x1x32 ![1, 2] bcast_S1x32_S1x1x32_1_2 x5))) (constant S_ .f32
    0xFF800000#32) reducesTo_S16x1x32_S16x1_d2 h_S_) (broadcastInDim S16x1 ![] bcast_S_S16x1 (id (constant S_ .f32
    0x00000000#32)))))

/-- What every sequence's tokens add up to. -/
def segScore (x0 : FVec Ideal S16384x1x32 .f32) (x1 : Vec Ideal S16384x1 .i32) (x2 : Vec Ideal S17 .i32) (x3 : FVec
  Ideal S1x32x32 .f32) (x4 : FVec Ideal S1x32 .f32) : FVec Ideal S16x1 .f32 :=
  Host.scatterAdd scatter_S16x1_S16384x1_S16384x1_1_0_0_1 (broadcastInDim S16x1 ![] bcast_S_S16x1 (constant S_ .f32
    0x00000000#32)) (broadcastInDim S16384x1 ![0] bcast_S16384_S16384x1_0 (batch x2)) (tokScore x0 x1 x2 x3 x4)

theorem result_eq (s : State Ideal) (x0 : FVec Ideal S16384x1x32 .f32) (x1 : Vec Ideal S16384x1 .i32) (x2 : Vec
  Ideal S17 .i32) (x3 : FVec Ideal S1x32x32 .f32) (x4 : FVec Ideal S1x32 .f32) (x5 : FVec Ideal S1x32 .f32) :
    R_main_v94 s x0 x1 x2 x3 x4 x5 = subf (addf ((segScore x0 x1 x2 x3 x4)) (enScore x1 x2 x5)) (logPart
      s.main_v28_4 x5) := rfl

end Cert.Crf.Ref
-- ==== Proof.RefScore.lean ====
module
public import proofs.«01_k».proof.Proof.RefDefs
public import Idealize.ShloMosaic.Lib.Routing.OpsPair
@[expose] public section

/-! The reference's scores at an index. -/

set_option maxRecDepth 16384

noncomputable section

namespace Cert.Crf.Ref

open Idealize.ShloMosaic Idealize.SL.Sem
open Cert.ReferenceIdeal Cert.ReferenceIdeal.Gen Cert.ReferenceIdeal.Step
open Pointwise Chain Model

theorem sle_word {a b : ℕ} (ha : a ≤ 16384) (hb : b ≤ 16384) :
    IntOp.cmpi CmpIPredicate.sle (BitVec.ofNat 32 a) (BitVec.ofNat 32 b) = if a ≤ b then 1#1 else 0#1 := by
  have e : (BitVec.ofNat 32 a).toInt = a := by
    rw [BitVec.toInt_eq_toNat_cond]; simp only [BitVec.toNat_ofNat]; omega
  have e' : (BitVec.ofNat 32 b).toInt = b := by
    rw [BitVec.toInt_eq_toNat_cond]; simp only [BitVec.toNat_ofNat]; omega
  have e2 : IntOp.cmpi CmpIPredicate.sle (BitVec.ofNat 32 a) (BitVec.ofNat 32 b)
      = BitVec.ofBool (decide ((a : ℤ) ≤ (b : ℤ))) := by
    rw [← e, ← e']; rfl
  rw [e2]
  by_cases h : a ≤ b
  · rw [if_pos h, decide_eq_true (by omega)]; rfl
  · rw [if_neg h, decide_eq_false (by omega)]; rfl

/-- Where a scatter starts along an axis it reads a word for. -/
theorem scatter_start {s si u : Shape} (d : ScatterDims s si u) (y : u.Idx) (idx : IVec si 32) (a : Fin s.rank)
    (ha : a ∈ d.scatterDimsToOperandDims) (z : si.Idx)
    (hz : d.siIdx y ⟨d.scatterDimsToOperandDims.idxOf a, List.idxOf_lt_length_iff.2 ha⟩ = z) :
    d.start y idx a = (idx z).toInt := by
  unfold ScatterDims.start
  rw [dif_pos ha, hz]

theorem sum_real {ι : Type} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

theorem combine (A B C : FVec Ideal S16x1 .f32) (i : S16x1.Idx) {a b c : ℝ} (hA : @Eq EReal (A i) ((a : ℝ) : EReal))
    (hB : @Eq EReal (B i) ((b : ℝ) : EReal)) (hC : @Eq EReal (C i) ((c : ℝ) : EReal)) :
    @Eq EReal (subf (addf A B) C i) ((a + b - c : ℝ) : EReal) := by
  rw [EReal.coe_sub, EReal.coe_add, ← hA, ← hB, ← hC]
  rfl

theorem scatter_real (x : FVec Ideal S16x1 .f32) (w : IVec S16384x1 32) (u : FVec Ideal S16384x1 .f32) (i : S16x1.Idx) :
    @Eq EReal (Host.scatterAdd scatter_S16x1_S16384x1_S16384x1_1_0_0_1 x w u i)
      ((x i : EReal) + ∑ j ∈ Finset.univ.filter
        (fun j => scatter_S16x1_S16384x1_S16384x1_1_0_0_1.resultIdx? j w = some i), (u j : EReal)) := rfl

/-- A word below `16` is one of the sixteen, and they are told apart. -/
theorem word_int (b : Fin 16) : (BitVec.ofNat 32 b.val).toInt = (b.val : ℤ) := by
  revert b; decide

theorem count_word : ∀ b : Fin 16, IntOp.subi
    (Finset.fold IntOp.addi (0#32) (fun x : Fin 17 => BitVec.setWidth 32 (if x.val ≤ b.val then 1#1 else 0#1)) Finset.univ)
    1#32 = BitVec.ofNat 32 b.val := by decide +kernel

variable {d : Data} {x0 : FVec Ideal S16384x1x32 .f32} {x1 : Vec Ideal S16384x1 .i32} {x2 : Vec Ideal S17 .i32}
  {x3 : FVec Ideal S1x32x32 .f32} {x4 x5 : FVec Ideal S1x32 .f32} (H : Holds d x0 x1 x2 x3 x4 x5)
include H

/-- Token `t` of sequence `b`, among all tokens. -/
def token (b : Fin 16) (t : ℕ) (ht : t < d.len b) : Fin 16384 := ⟨d.cu b.castSucc + t, token_lt H b ht⟩

/-- Every token belongs to a sequence. -/
theorem belongs (p : Fin 16384) : ∃ b t ht, p = token H b t ht := by
  have key : ∀ j : Fin 17, p.val < d.cu j → ∃ b : Fin 16, d.cu b.castSucc ≤ p.val ∧ p.val < d.cu b.succ := by
    intro j
    induction j using Fin.induction with
    | zero => intro h; rw [H.packed.zero] at h; omega
    | succ b ih =>
      intro h
      by_cases q : p.val < d.cu b.castSucc
      · exact ih q
      · exact ⟨b, by omega, h⟩
  obtain ⟨b, h0, h1⟩ := key 16 (by rw [H.packed.last]; exact p.isLt)
  refine ⟨b, p.val - d.cu b.castSucc, by unfold Data.len; omega, Fin.ext ?_⟩
  show p.val = d.cu b.castSucc + _
  omega

theorem batch_at (b : Fin 16) (t : ℕ) (ht : t < d.len b) : batch x2 (ix1 (token H b t ht)) = BitVec.ofNat 32 b.val := by
  have hk : ∀ k : Fin 17, IntOp.cmpi CmpIPredicate.sle (x2 (ix1 k)) (BitVec.ofNat 32 (token H b t ht).val)
      = if k.val ≤ b.val then 1#1 else 0#1 := by
    intro k
    have h1 := H.packed.le_all k
    have h2 := (token H b t ht).isLt
    rw [H.cu k, sle_word h1 h2.le]
    have hm := H.packed.mono
    congr 1
    refine propext ⟨fun h => ?_, fun h => ?_⟩
    · by_contra hc
      have : d.cu b.succ ≤ d.cu k := hm.monotone (Fin.le_def.2 (by simp; omega))
      unfold Data.len at ht
      have e : (token H b t ht).val = d.cu b.castSucc + t := rfl
      omega
    · have : d.cu k ≤ d.cu b.castSucc := hm.monotone (Fin.le_def.2 (by simp; omega))
      have e : (token H b t ht).val = d.cu b.castSucc + t := rfl
      omega
  unfold batch
  pointwise
  simp only [hk]
  clear hk
  exact count_word b

theorem first_iff (b : Fin 16) (t : ℕ) (ht : t < d.len b) :
    isFirst x2 (ix1 (token H b t ht)) = if t = 0 then 1#1 else 0#1 := by
  have hb := batch_at H b t ht
  have e : IntOp.cmpi CmpIPredicate.eq (IntOp.subi (BitVec.ofNat 32 (token H b t ht).val) (BitVec.ofNat 32 (d.cu b.castSucc))) 0#32
      = if t = 0 then 1#1 else 0#1 := by
    have e1 : IntOp.subi (BitVec.ofNat 32 (token H b t ht).val) (BitVec.ofNat 32 (d.cu b.castSucc)) = BitVec.ofNat 32 t := by
      have := (token H b t ht).isLt
      have e : (token H b t ht).val = d.cu b.castSucc + t := rfl
      refine (BitVec.ofNat_sub_ofNat_of_le _ _ (by omega) (by omega)).trans ?_
      rw [e, Nat.add_sub_cancel_left]
    have hlen := H.packed.len_le b
    rw [e1]
    by_cases h : t = 0
    · subst h; rfl
    · rw [if_neg h]
      have : BitVec.ofNat 32 t ≠ 0#32 := fun q => by
        have := congrArg BitVec.toNat q
        simp only [BitVec.toNat_ofNat] at this
        omega
      exact congrArg BitVec.ofBool (beq_eq_false_iff_ne.2 this)
  unfold isFirst
  pointwise
  rw [off_at _ _ (token H b t ht) (k := b.val) (by pointwise; exact hb) (by omega),
    show x2 (ix1 ⟨b.val, by omega⟩) = _ from H.cu b.castSucc]
  exact e

theorem tag_word (p : Fin 16384) : tagWords x1 (ix3 p 0 0) = BitVec.ofNat 32 (d.tg p.val).val := by
  have h := H.tg p
  unfold tagWords
  pointwise
  rw [h]
  have e : IntOp.cmpi CmpIPredicate.slt (BitVec.ofNat 32 (d.tg p.val).val) 0#32 = 0#1 := by
    generalize d.tg p.val = q
    revert q; decide
  rw [e]
  rfl

theorem prev_at (b : Fin 16) (t : ℕ) (ht : t < d.len b) :
    prevTags x1 x2 (ix2 (token H b t ht) 0)
      = BitVec.ofNat 32 (d.tg (if t = 0 then d.cu b.castSucc else d.cu b.castSucc + t - 1)).val := by
  unfold prevTags
  have hi := first_iff H b t ht
  rw [tag_at _ _ (token H b t ht) (k := if t = 0 then d.cu b.castSucc else d.cu b.castSucc + t - 1)]
  · rw [H.tg ⟨_, by have := token_lt H b ht; split <;> omega⟩]
  · pointwise
    rw [hi]
    by_cases h : t = 0
    · subst h; rfl
    · rw [if_neg h, if_neg h]
      have e : (token H b t ht).val = d.cu b.castSucc + t := rfl
      have := (token H b t ht).isLt
      refine (?_ : IntOp.subi _ _ = _)
      rw [e]
      exact BitVec.ofNat_sub_ofNat_of_le _ _ (by omega) (by omega)
  · have := token_lt H b ht; split <;> omega

theorem em_score (p : Fin 16384) : @Eq EReal (emScore x0 x1 (ix2 p 0)) ((d.em p.val (d.tg p.val) : ℝ) : EReal) := by
  have hg : @Eq EReal (Host.gather gather_S16384x1x32_S16384x1x1_S16384x1x1_1_2_0_0_2_2_111 x0 (tagWords x1) (ix3 p 0 0)) _ :=
    pick_at x0 (tagWords x1) p (tag_word H p) (d.tg p.val).isLt
  unfold emScore
  pointwise
  refine (Fin.sum_univ_one _).trans ?_
  exact hg.trans (H.em p _)

theorem trans_score (b : Fin 16) (t : ℕ) (ht : t < d.len b) (h0 : t ≠ 0) :
    @Eq EReal (trScore x1 x2 x3 (ix2 (token H b t ht) 0))
      ((d.tr (d.tg (d.cu b.castSucc + t - 1)) (d.tg (d.cu b.castSucc + t)) : ℝ) : EReal) := by
  unfold trScore
  pointwise
  refine (Fin.sum_univ_one _).trans ?_
  refine (pick_at _ _ (token H b t ht) (tag_word H (token H b t ht)) (d.tg (token H b t ht).val).isLt).trans ?_
  have hp := prev_at H b t ht
  rw [if_neg h0] at hp
  pointwise
  refine (tr_at _ _ (token H b t ht) _ (k := (d.tg (d.cu b.castSucc + t - 1)).val) ?_ (d.tg _).isLt).trans ?_
  · pointwise
    exact hp
  · exact H.tr _ _

theorem start_score (p : Fin 16384) : @Eq EReal (stScore x1 x4 (ix2 p 0)) ((d.st (d.tg p.val) : ℝ) : EReal) := by
  unfold stScore
  pointwise
  refine (st_at _ _ p (k := (d.tg p.val).val) ?_ (d.tg _).isLt).trans ?_
  · pointwise
    exact H.tg p
  · exact H.st _

theorem end_score (b : Fin 16) : @Eq EReal (enScore x1 x2 x5 (ix2 b 0)) ((d.en (d.tg (d.cu b.succ - 1)) : ℝ) : EReal) := by
  unfold enScore
  pointwise
  refine (en_at _ _ b (k := (d.tg (d.cu b.succ - 1)).val) ?_ (d.tg _).isLt).trans ?_
  · pointwise
    have hle := H.packed.le_all b.succ
    have hlo := H.packed.lo b
    refine (tagEnd_at _ _ b (k := d.cu b.succ - 1) ?_ (by omega)).trans ?_
    · pointwise
      have e : (⟨1 + b.val, by omega⟩ : Fin 17) = b.succ := Fin.ext (Nat.add_comm 1 _)
      rw [e, H.cu b.succ]
      exact BitVec.ofNat_sub_ofNat_of_le _ _ (by omega) (by omega)
    · exact H.tg ⟨d.cu b.succ - 1, by omega⟩
  · exact H.en _

theorem log_at (a : FVec Ideal S16x1x32 .f32) (b : Fin 16) (g : Fin 32 → ℝ)
    (h : ∀ i, @Eq EReal (a (ix3 b 0 i)) ((g i : ℝ) : EReal)) :
    @Eq EReal (logPart a x5 (ix2 b 0)) ((Real.log (∑ i, Real.exp (g i + d.en i)) : ℝ) : EReal) := by
  rw [← lse (fun i => a (ix3 b 0 i) + x5 (ix2 0 i)) (fun i => g i + d.en i) (fun i => by rw [h, H.en, EReal.coe_add])
    (id (constant (F := Ideal) S_ FTy.f32 0#32) ix0)]
  unfold logPart
  pointwise

theorem tok_score (b : Fin 16) (t : ℕ) (ht : t < d.len b) :
    @Eq EReal (tokScore x0 x1 x2 x3 x4 (ix2 (token H b t ht) 0)) ((d.tok b t : ℝ) : EReal) := by
  have hi := first_iff H b t ht
  have he := em_score H (token H b t ht)
  have hs := start_score H (token H b t ht)
  unfold tokScore
  pointwise
  rw [hi, he]
  unfold Data.tok
  by_cases h : t = 0
  · rw [if_pos h, if_pos h]
    rw [EReal.coe_add]
    exact congrArg (_ + ·) hs
  · rw [if_neg h, if_neg h]
    rw [EReal.coe_add]
    exact congrArg (_ + ·) (trans_score H b t ht h)

/-- A token's score goes to the sequence it belongs to. -/
theorem lands (c : Fin 16) (t : ℕ) (ht : t < d.len c) (y : Fin 1) (b : Fin 16) :
    scatter_S16x1_S16384x1_S16384x1_1_0_0_1.resultIdx? (ix2 (token H c t ht) y)
      (broadcastInDim S16384x1 ![0] bcast_S16384_S16384x1_0 (batch x2)) = some (ix2 b 0)
      ↔ c = b := by
  have hb := batch_at H c t ht
  generalize token H c t ht = p at hb ⊢
  have hi : broadcastInDim S16384x1 ![0] bcast_S16384_S16384x1_0 (batch x2) (ix2 p 0) = BitVec.ofNat 32 c.val := by
    generalize batch x2 = w at hb ⊢
    pointwise
    exact hb
  generalize broadcastInDim S16384x1 ![0] bcast_S16384_S16384x1_0 (batch x2) = w at hi ⊢
  have h0 : scatter_S16x1_S16384x1_S16384x1_1_0_0_1.start (ix2 p y) w 0 = (c.val : ℤ) := by
    rw [scatter_start scatter_S16x1_S16384x1_S16384x1_1_0_0_1 (ix2 p y) w 0 (by decide) (ix2 p 0)
      (funext fun b => Fin.ext (match b with | ⟨0, _⟩ => rfl | ⟨1, _⟩ => rfl)), hi, word_int]
  rw [Routing.resultIdx?_eq_some]
  constructor
  · intro h
    have h1 := h 0
    rw [h0] at h1
    have h2 : (c.val : ℤ) + (0 : ℕ) = (b.val : ℤ) := h1
    exact Fin.ext (by omega)
  · rintro rfl a
    match a with
    | ⟨0, _⟩ => exact (congrArg (· + _) h0).trans (Int.add_zero _)
    | ⟨1, _⟩ =>
      have : y = 0 := Subsingleton.elim _ _
      subst this
      rfl

/-- What a sequence's tokens add up to. -/
theorem seg_score (b : Fin 16) :
    @Eq EReal (segScore x0 x1 x2 x3 x4 (ix2 b 0)) ((∑ t ∈ Finset.range (d.len b), d.tok b t : ℝ) : EReal) := by
  unfold segScore
  rw [sum_real]
  have hz : broadcastInDim S16x1 ![] bcast_S_S16x1 (constant (F := Ideal) S_ .f32 0x00000000#32) (ix2 b 0) = (0 : EReal) := by
    pointwise
  rw [scatter_real, hz, zero_add]
  symm
  refine Finset.sum_bij (fun t ht => ix2 (token H b t (Finset.mem_range.1 ht)) 0) ?_ ?_ ?_ ?_
  · intro t ht
    exact Finset.mem_filter.2 ⟨Finset.mem_univ _, (lands H b t _ 0 b).2 rfl⟩
  · intro t ht u hu h
    have := congrArg (fun j : S16384x1.Idx => (j 0).val) h
    exact Nat.add_left_cancel this
  · intro j hj
    obtain ⟨p, y, rfl⟩ : ∃ p y, j = ix2 p y := ⟨j 0, j 1, funext fun a => match a with | ⟨0, _⟩ => rfl | ⟨1, _⟩ => rfl⟩
    obtain ⟨c, t, ht, rfl⟩ := belongs H p
    have hc := (lands H c t ht y b).1 (Finset.mem_filter.1 hj).2
    subst hc
    have : y = 0 := Subsingleton.elim _ _
    subst this
    exact ⟨t, Finset.mem_range.2 ht, rfl⟩
  · intro t ht
    exact (tok_score H b t (Finset.mem_range.1 ht)).symm

/-- The logarithm of the partition function. -/
theorem part_score (b : Fin 16) :
    @Eq EReal (logPart (iter x0 x2 x3 x4 2047).main_v28_4 x5 (ix2 b 0)) ((Real.log (d.part b) : ℝ) : EReal) := by
  refine (log_at H _ b _ (fun i => alpha H b 2047 le_rfl i)).trans ?_
  refine congrArg (fun r : ℝ => ((Real.log r : ℝ) : EReal)) (Finset.sum_congr rfl fun i _ => ?_)
  rw [Real.exp_add, Real.exp_log (fwd_pos d.w (d.e b) (d.len b) d.s Data.w_pos (Data.e_pos b) Data.s_pos 2047 i)]
  rfl

/-- The reference's result. -/
theorem reference_value (b : Fin 16) :
    @Eq EReal (R_main_v94 (iter x0 x2 x3 x4 2047) x0 x1 x2 x3 x4 x5 (ix2 b 0)) ((d.logProb b : ℝ) : EReal) := by
  have e : d.logProb b = (∑ t ∈ Finset.range (d.len b), d.tok b t) + d.en (d.tg (d.cu b.succ - 1)) - Real.log (d.part b) := rfl
  rw [result_eq, e]
  exact combine _ _ _ _ (seg_score H b) (end_score H b) (part_score H b)

end Cert.Crf.Ref
-- ==== Proof.lean ====
module

public import proofs.«01_k».proof.Defs
public import proofs.«01_k».proof.Proof.SideKernel
public import proofs.«01_k».proof.Proof.SideIdeal
public import proofs.«01_k».proof.Proof.KernelRun
public import proofs.«01_k».proof.Proof.RefScore
public import proofs.«01_k».proof.Proof.Gen.ReferenceIdeal.StepRun
public import proofs.«01_k».proof.Proof.Gen.Pre_packed
public import proofs.«01_k».proof.Proof.Gen.Pre_packed_finite
public import Idealize.ShloMosaic.Adequacy
public import Idealize.ShloMosaic.Init

@[expose] public section

noncomputable section

namespace Cert.Proof

open Idealize.ShloMosaic Idealize.SL.Sem Cert.Crf

/-- The reference's frame: its arguments end unchanged, and it has no semaphore whose counter could move. -/
theorem frame_reference : Cert.quiescent_ReferenceIdeal (hReferenceIdeal := Cert.ReferenceIdeal.Gen.facts) :=
  fun m ρ _ => (θ_run _ _ _).mono
    (fun _ h => ⟨fun c => (h c).2, funext fun g => by
      obtain ⟨_, s⟩ := g
      cases s with
      | _ => rename_i s; exact absurd s.2 (Nat.not_lt_zero _)⟩)
    (Cert.ReferenceIdeal.Value.run m ρ)

/-- The kernel computes the reference: both end with the column of the sequences' log-probabilities. -/
theorem agree : Cert.algebraic_KernelIdeal_ReferenceIdeal_pre_packed_finite
    (hKernelIdeal := Cert.KernelIdeal.Gen.facts) (hReferenceIdeal := Cert.ReferenceIdeal.Gen.facts)
    (hPre_packed_finite := Cert.Pre_packed_finite.Gen.facts) := by
  intro m g m' g' hpre hm
  have hin := inputs_of_fn _ _ _ _ _ _ (hpre 0)
  obtain ⟨d, hd⟩ := hin.holds
  have H : ∀ c, Model.HoldsM d m c := fun c => by
    have hc : c = 0 := Subsingleton.elim _ _
    subst hc
    exact hd
  refine ⟨fun _ => Model.column d,
    Model.kernel_run g trivial (Cert.Crf.KernelIdeal.hyps_of_packed m trivial hin.packed) H, ?_⟩
  refine (θ_run _ _ _).mono (fun r h c => ⟨(h c).1.trans ?_, (h c).2⟩)
    (Cert.ReferenceIdeal.StepRun.run_iter m' g' (fun c => Ref.iter
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)))
      (fun _ => rfl) (fun _ _ => rfl))
  obtain ⟨e0, e1, e2, e3, e4, e5⟩ := hm c
  have H' : Holds d
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) := by
    rw [e0, e1, e2, e3, e4, e5]
    exact H c
  funext j
  have hj : j = ix2 (j 0) 0 := by
    funext a; fin_cases a
    · rfl
    · exact Fin.ext (Nat.lt_one_iff.1 (j (1 : Fin 2)).isLt)
  rw [hj]
  exact Ref.reference_value H' (j 0)

theorem claim : Cert.Claim :=
  ⟨Cert.Kernel.Gen.facts, Cert.KernelIdeal.Gen.facts, Cert.ReferenceIdeal.Gen.facts, Cert.Pre_packed.Gen.facts,
    Cert.Pre_packed_finite.Gen.facts,
    fun m ρ h => Cert.Kernel.Gen.frame m ρ trivial (Cert.Crf.Kernel.hyps_of_packed m trivial (packed_of_fn _ _ _ _ _ _ (h 0))),
    fun m ρ h => Cert.KernelIdeal.Gen.frame m ρ trivial (Cert.Crf.KernelIdeal.hyps_of_packed m trivial (packed_of_fn _ _ _ _ _ _ (h 0))),
    fun m ρ h => Cert.KernelIdeal.Gen.frame m ρ trivial (Cert.Crf.KernelIdeal.hyps_of_packed m trivial (inputs_of_fn _ _ _ _ _ _ (h 0)).packed),
    frame_reference,
    fun m ρ _ => frame_reference m ρ trivial,
    trivial,
    agree⟩

end Cert.Proof

end
